-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_FfnPromptRefIdeal (m : (ℓ : Loc Cert.FfnPromptRefIdeal.nD Cert.FfnPromptRefIdeal.τ Cert.FfnPromptRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_rows [hPre_finite_rows : Cert.Pre_finite_rows.Facts] (m : (ℓ : Loc Cert.ProjIdeal.nD Cert.ProjIdeal.τ Cert.ProjIdeal.sig) → Buf (Elt Ideal) ℓ) : Prop :=
  ∀ c : Dev Cert.ProjIdeal.nD,
    (Cert.Pre_finite_rows.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))).1 = (fun _ => 1#1)
    ∧ (Cert.Pre_finite_rows.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))).2.1 = (fun _ => 1#1)
    ∧ (Cert.Pre_finite_rows.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))).2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_rows [hPre_finite_rows : Cert.Pre_finite_rows.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_rows.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))).1 = (fun _ => 1#1)
    ∧ (Cert.Pre_finite_rows.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))).2.1 = (fun _ => 1#1)
    ∧ (Cert.Pre_finite_rows.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))).2.2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_latent [hPre_finite_latent : Cert.Pre_finite_latent.Facts] (m : (ℓ : Loc Cert.GqaIdeal.nD Cert.GqaIdeal.τ Cert.GqaIdeal.sig) → Buf (Elt Ideal) ℓ) : Prop :=
  ∀ c : Dev Cert.GqaIdeal.nD,
    (Cert.Pre_finite_latent.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).1 = (fun _ => 1#1)
    ∧ (Cert.Pre_finite_latent.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).2.1 = (fun _ => 1#1)
    ∧ (Cert.Pre_finite_latent.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_latent [hPre_finite_latent : Cert.Pre_finite_latent.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_latent.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).1 = (fun _ => 1#1)
    ∧ (Cert.Pre_finite_latent.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).2.1 = (fun _ => 1#1)
    ∧ (Cert.Pre_finite_latent.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4))
      ∧ r.2.sem = fun _ => 0)

def quiescent_FfnPromptRefIdeal [hFfnPromptRefIdeal : Cert.FfnPromptRefIdeal.Facts] : Prop :=
  ∀ (m : (ℓ : Loc Cert.FfnPromptRefIdeal.nD Cert.FfnPromptRefIdeal.τ Cert.FfnPromptRefIdeal.sig) → Buf (Elt Ideal) ℓ) (g : Dev Cert.FfnPromptRefIdeal.nD → PrngReg), Pre_FfnPromptRefIdeal m →
    θ_run (Cert.FfnPromptRefIdeal.defs (F := Ideal)) (onTc (τ := Cert.FfnPromptRefIdeal.τ) (Cert.FfnPromptRefIdeal.main (F := Ideal))) ⟨m, fun _ => 0, g⟩ (fun r => (∀ c : Dev Cert.FfnPromptRefIdeal.nD,
      r.2.mem ((c.tc : Thread Cert.FfnPromptRefIdeal.nD Cert.FfnPromptRefIdeal.τ).loc Cert.FfnPromptRefIdeal.main_arg0) = m ((c.tc : Thread Cert.FfnPromptRefIdeal.nD Cert.FfnPromptRefIdeal.τ).loc Cert.FfnPromptRefIdeal.main_arg0)
      ∧ r.2.mem ((c.tc : Thread Cert.FfnPromptRefIdeal.nD Cert.FfnPromptRefIdeal.τ).loc Cert.FfnPromptRefIdeal.main_arg1) = m ((c.tc : Thread Cert.FfnPromptRefIdeal.nD Cert.FfnPromptRefIdeal.τ).loc Cert.FfnPromptRefIdeal.main_arg1)
      ∧ r.2.mem ((c.tc : Thread Cert.FfnPromptRefIdeal.nD Cert.FfnPromptRefIdeal.τ).loc Cert.FfnPromptRefIdeal.main_arg2) = m ((c.tc : Thread Cert.FfnPromptRefIdeal.nD Cert.FfnPromptRefIdeal.τ).loc Cert.FfnPromptRefIdeal.main_arg2)
      ∧ r.2.mem ((c.tc : Thread Cert.FfnPromptRefIdeal.nD Cert.FfnPromptRefIdeal.τ).loc Cert.FfnPromptRefIdeal.main_arg3) = m ((c.tc : Thread Cert.FfnPromptRefIdeal.nD Cert.FfnPromptRefIdeal.τ).loc Cert.FfnPromptRefIdeal.main_arg3)
      ∧ r.2.mem ((c.tc : Thread Cert.FfnPromptRefIdeal.nD Cert.FfnPromptRefIdeal.τ).loc Cert.FfnPromptRefIdeal.main_arg4) = m ((c.tc : Thread Cert.FfnPromptRefIdeal.nD Cert.FfnPromptRefIdeal.τ).loc Cert.FfnPromptRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_finite_rows [hProjIdeal : Cert.ProjIdeal.Facts] [hPre_finite_rows : Cert.Pre_finite_rows.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_rows m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjRefIdeal_pre_finite_rows [hProjRefIdeal : Cert.ProjRefIdeal.Facts] [hPre_finite_rows : Cert.Pre_finite_rows.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_rows m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_finite_latent [hGqaIdeal : Cert.GqaIdeal.Facts] [hPre_finite_latent : Cert.Pre_finite_latent.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_latent m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_finite_latent [hGqaRefIdeal : Cert.GqaRefIdeal.Facts] [hPre_finite_latent : Cert.Pre_finite_latent.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_latent m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_v41) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v61) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v82) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_FfnPrompt_FfnPromptIdeal : Prop :=
  True

def algebraic_FfnPromptIdeal_FfnPromptRefIdeal [hFfnPromptIdeal : Cert.FfnPromptIdeal.Facts] [hFfnPromptRefIdeal : Cert.FfnPromptRefIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.FfnPromptRefIdeal.nD Cert.FfnPromptRefIdeal.τ Cert.FfnPromptRefIdeal.sig) → Buf (Elt Ideal) ℓ) (g' : Dev Cert.FfnPromptRefIdeal.nD → PrngReg), Pre_FfnPromptIdeal m →
    (∀ c : Dev Cert.FfnPromptIdeal.nD,
      m' ((c.tc : Thread Cert.FfnPromptRefIdeal.nD Cert.FfnPromptRefIdeal.τ).loc Cert.FfnPromptRefIdeal.main_arg0) = m ((c.tc : Thread Cert.FfnPromptIdeal.nD Cert.FfnPromptIdeal.τ).loc Cert.FfnPromptIdeal.main_arg0)
      ∧ m' ((c.tc : Thread Cert.FfnPromptRefIdeal.nD Cert.FfnPromptRefIdeal.τ).loc Cert.FfnPromptRefIdeal.main_arg1) = m ((c.tc : Thread Cert.FfnPromptIdeal.nD Cert.FfnPromptIdeal.τ).loc Cert.FfnPromptIdeal.main_arg1)
      ∧ m' ((c.tc : Thread Cert.FfnPromptRefIdeal.nD Cert.FfnPromptRefIdeal.τ).loc Cert.FfnPromptRefIdeal.main_arg2) = m ((c.tc : Thread Cert.FfnPromptIdeal.nD Cert.FfnPromptIdeal.τ).loc Cert.FfnPromptIdeal.main_arg2)
      ∧ m' ((c.tc : Thread Cert.FfnPromptRefIdeal.nD Cert.FfnPromptRefIdeal.τ).loc Cert.FfnPromptRefIdeal.main_arg3) = m ((c.tc : Thread Cert.FfnPromptIdeal.nD Cert.FfnPromptIdeal.τ).loc Cert.FfnPromptIdeal.main_arg3)
      ∧ m' ((c.tc : Thread Cert.FfnPromptRefIdeal.nD Cert.FfnPromptRefIdeal.τ).loc Cert.FfnPromptRefIdeal.main_arg4) = m ((c.tc : Thread Cert.FfnPromptIdeal.nD Cert.FfnPromptIdeal.τ).loc Cert.FfnPromptIdeal.main_arg4)) →
    ∃ (v0 : (c : Dev Cert.FfnPromptIdeal.nD) → Buf (Elt Ideal) ((c.tc : Thread Cert.FfnPromptIdeal.nD Cert.FfnPromptIdeal.τ).loc Cert.FfnPromptIdeal.main_v3)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v3) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4))
      ∧ θ_run (Cert.FfnPromptRefIdeal.defs (F := Ideal)) (onTc (τ := Cert.FfnPromptRefIdeal.τ) (Cert.FfnPromptRefIdeal.main (F := Ideal))) ⟨m', fun _ => 0, g'⟩ (fun r => ∀ c : Dev Cert.FfnPromptRefIdeal.nD,
          r.2.mem ((c.tc : Thread Cert.FfnPromptRefIdeal.nD Cert.FfnPromptRefIdeal.τ).loc Cert.FfnPromptRefIdeal.main_v61) = v0 c
          ∧ r.2.mem ((c.tc : Thread Cert.FfnPromptRefIdeal.nD Cert.FfnPromptRefIdeal.τ).loc Cert.FfnPromptRefIdeal.main_arg0) = m' ((c.tc : Thread Cert.FfnPromptRefIdeal.nD Cert.FfnPromptRefIdeal.τ).loc Cert.FfnPromptRefIdeal.main_arg0)
          ∧ r.2.mem ((c.tc : Thread Cert.FfnPromptRefIdeal.nD Cert.FfnPromptRefIdeal.τ).loc Cert.FfnPromptRefIdeal.main_arg1) = m' ((c.tc : Thread Cert.FfnPromptRefIdeal.nD Cert.FfnPromptRefIdeal.τ).loc Cert.FfnPromptRefIdeal.main_arg1)
          ∧ r.2.mem ((c.tc : Thread Cert.FfnPromptRefIdeal.nD Cert.FfnPromptRefIdeal.τ).loc Cert.FfnPromptRefIdeal.main_arg2) = m' ((c.tc : Thread Cert.FfnPromptRefIdeal.nD Cert.FfnPromptRefIdeal.τ).loc Cert.FfnPromptRefIdeal.main_arg2)
          ∧ r.2.mem ((c.tc : Thread Cert.FfnPromptRefIdeal.nD Cert.FfnPromptRefIdeal.τ).loc Cert.FfnPromptRefIdeal.main_arg3) = m' ((c.tc : Thread Cert.FfnPromptRefIdeal.nD Cert.FfnPromptRefIdeal.τ).loc Cert.FfnPromptRefIdeal.main_arg3)
          ∧ r.2.mem ((c.tc : Thread Cert.FfnPromptRefIdeal.nD Cert.FfnPromptRefIdeal.τ).loc Cert.FfnPromptRefIdeal.main_arg4) = m' ((c.tc : Thread Cert.FfnPromptRefIdeal.nD Cert.FfnPromptRefIdeal.τ).loc Cert.FfnPromptRefIdeal.main_arg4))

def preserves_Proj_ProjIdeal : Prop :=
  True

def algebraic_ProjIdeal_ProjRefIdeal_pre_finite_rows [hProjIdeal : Cert.ProjIdeal.Facts] [hProjRefIdeal : Cert.ProjRefIdeal.Facts] [hPre_finite_rows : Cert.Pre_finite_rows.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_rows m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_2)) (v3 : (c : Dev Cert.ProjIdeal.nD) → Buf (Elt Ideal) ((c.tc : Thread Cert.ProjIdeal.nD Cert.ProjIdeal.τ).loc Cert.ProjIdeal.main_v29_3)) (v4 : (c : Dev Cert.ProjIdeal.nD) → Buf (Elt Ideal) ((c.tc : Thread Cert.ProjIdeal.nD Cert.ProjIdeal.τ).loc Cert.ProjIdeal.main_v29_4)) (v5 : (c : Dev Cert.ProjIdeal.nD) → Buf (Elt Ideal) ((c.tc : Thread Cert.ProjIdeal.nD Cert.ProjIdeal.τ).loc Cert.ProjIdeal.main_v29_5)) (v6 : (c : Dev Cert.ProjIdeal.nD) → Buf (Elt Ideal) ((c.tc : Thread Cert.ProjIdeal.nD Cert.ProjIdeal.τ).loc Cert.ProjIdeal.main_v29_6)) (v7 : (c : Dev Cert.ProjIdeal.nD) → Buf (Elt Ideal) ((c.tc : Thread Cert.ProjIdeal.nD Cert.ProjIdeal.τ).loc Cert.ProjIdeal.main_v29_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_2) = v2 c
          ∧ r.2.mem ((c.tc : Thread Cert.ProjIdeal.nD Cert.ProjIdeal.τ).loc Cert.ProjIdeal.main_v29_3) = v3 c
          ∧ r.2.mem ((c.tc : Thread Cert.ProjIdeal.nD Cert.ProjIdeal.τ).loc Cert.ProjIdeal.main_v29_4) = v4 c
          ∧ r.2.mem ((c.tc : Thread Cert.ProjIdeal.nD Cert.ProjIdeal.τ).loc Cert.ProjIdeal.main_v29_5) = v5 c
          ∧ r.2.mem ((c.tc : Thread Cert.ProjIdeal.nD Cert.ProjIdeal.τ).loc Cert.ProjIdeal.main_v29_6) = v6 c
          ∧ r.2.mem ((c.tc : Thread Cert.ProjIdeal.nD Cert.ProjIdeal.τ).loc Cert.ProjIdeal.main_v29_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v76) = v0 c
          ∧ r.2.mem ((c.tc : Thread Cert.ProjRefIdeal.nD Cert.ProjRefIdeal.τ).loc Cert.ProjRefIdeal.main_v77) = v1 c
          ∧ r.2.mem ((c.tc : Thread Cert.ProjRefIdeal.nD Cert.ProjRefIdeal.τ).loc Cert.ProjRefIdeal.main_v78) = v2 c
          ∧ r.2.mem ((c.tc : Thread Cert.ProjRefIdeal.nD Cert.ProjRefIdeal.τ).loc Cert.ProjRefIdeal.main_v86) = v3 c
          ∧ r.2.mem ((c.tc : Thread Cert.ProjRefIdeal.nD Cert.ProjRefIdeal.τ).loc Cert.ProjRefIdeal.main_v90) = v4 c
          ∧ r.2.mem ((c.tc : Thread Cert.ProjRefIdeal.nD Cert.ProjRefIdeal.τ).loc Cert.ProjRefIdeal.main_v91) = v5 c
          ∧ r.2.mem ((c.tc : Thread Cert.ProjRefIdeal.nD Cert.ProjRefIdeal.τ).loc Cert.ProjRefIdeal.main_v92) = v6 c
          ∧ r.2.mem ((c.tc : Thread Cert.ProjRefIdeal.nD Cert.ProjRefIdeal.τ).loc Cert.ProjRefIdeal.main_v93) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Gqa_GqaIdeal : Prop :=
  True

def algebraic_GqaIdeal_GqaRefIdeal_pre_finite_latent [hGqaIdeal : Cert.GqaIdeal.Facts] [hGqaRefIdeal : Cert.GqaRefIdeal.Facts] [hPre_finite_latent : Cert.Pre_finite_latent.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_latent m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v8)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v8) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v28) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hFfnPrompt : Cert.FfnPrompt.Facts) (hFfnPromptIdeal : Cert.FfnPromptIdeal.Facts) (hFfnPromptRefIdeal : Cert.FfnPromptRefIdeal.Facts) (hProj : Cert.Proj.Facts) (hProjIdeal : Cert.ProjIdeal.Facts) (hProjRefIdeal : Cert.ProjRefIdeal.Facts) (hGqa : Cert.Gqa.Facts) (hGqaIdeal : Cert.GqaIdeal.Facts) (hGqaRefIdeal : Cert.GqaRefIdeal.Facts) (hAda : Cert.Ada.Facts) (hAdaIdeal : Cert.AdaIdeal.Facts) (hAdaRefIdeal : Cert.AdaRefIdeal.Facts) (hPre_finite_scores : Cert.Pre_finite_scores.Facts) (hPre_finite_rows : Cert.Pre_finite_rows.Facts) (hPre_finite_latent : Cert.Pre_finite_latent.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnPrompt (hFfnPrompt := hFfnPrompt)
    ∧ quiescent_FfnPromptIdeal (hFfnPromptIdeal := hFfnPromptIdeal)
    ∧ quiescent_FfnPromptRefIdeal (hFfnPromptRefIdeal := hFfnPromptRefIdeal)
    ∧ quiescent_Proj (hProj := hProj)
    ∧ quiescent_ProjIdeal (hProjIdeal := hProjIdeal)
    ∧ quiescent_ProjIdeal_pre_finite_rows (hProjIdeal := hProjIdeal) (hPre_finite_rows := hPre_finite_rows)
    ∧ quiescent_ProjRefIdeal (hProjRefIdeal := hProjRefIdeal)
    ∧ quiescent_ProjRefIdeal_pre_finite_rows (hProjRefIdeal := hProjRefIdeal) (hPre_finite_rows := hPre_finite_rows)
    ∧ quiescent_Gqa (hGqa := hGqa)
    ∧ quiescent_GqaIdeal (hGqaIdeal := hGqaIdeal)
    ∧ quiescent_GqaIdeal_pre_finite_latent (hGqaIdeal := hGqaIdeal) (hPre_finite_latent := hPre_finite_latent)
    ∧ quiescent_GqaRefIdeal (hGqaRefIdeal := hGqaRefIdeal)
    ∧ quiescent_GqaRefIdeal_pre_finite_latent (hGqaRefIdeal := hGqaRefIdeal) (hPre_finite_latent := hPre_finite_latent)
    ∧ quiescent_Ada (hAda := hAda)
    ∧ quiescent_AdaIdeal (hAdaIdeal := hAdaIdeal)
    ∧ quiescent_AdaRefIdeal (hAdaRefIdeal := hAdaRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_FfnPrompt_FfnPromptIdeal
    ∧ algebraic_FfnPromptIdeal_FfnPromptRefIdeal (hFfnPromptIdeal := hFfnPromptIdeal) (hFfnPromptRefIdeal := hFfnPromptRefIdeal)
    ∧ preserves_Proj_ProjIdeal
    ∧ algebraic_ProjIdeal_ProjRefIdeal_pre_finite_rows (hProjIdeal := hProjIdeal) (hProjRefIdeal := hProjRefIdeal) (hPre_finite_rows := hPre_finite_rows)
    ∧ preserves_Gqa_GqaIdeal
    ∧ algebraic_GqaIdeal_GqaRefIdeal_pre_finite_latent (hGqaIdeal := hGqaIdeal) (hGqaRefIdeal := hGqaRefIdeal) (hPre_finite_latent := hPre_finite_latent)
    ∧ preserves_Ada_AdaIdeal
    ∧ algebraic_AdaIdeal_AdaRefIdeal (hAdaIdeal := hAdaIdeal) (hAdaRefIdeal := hAdaRefIdeal)
-- ==== Pre_finite_latent.lean ====
abbrev S8192x512 : Shape := ⟨2, ![8192, 512]⟩
abbrev S8192x128 : Shape := ⟨2, ![8192, 128]⟩
abbrev S8x4x512x2x64 : Shape := ⟨5, ![8, 4, 512, 2, 64]⟩
abbrev S8x1x512x2x64 : Shape := ⟨5, ![8, 1, 512, 2, 64]⟩
abbrev S8x512x2x64 : Shape := ⟨4, ![8, 512, 2, 64]⟩
abbrev S_ : Shape := ⟨0, ![]⟩

class Facts : Prop where
  slices_S8x4x512x2x64_S8x1x512x2x64_0_0_0_0_0 : S8x4x512x2x64.Slices ![0, 0, 0, 0, 0] S8x1x512x2x64
  shapeCasts_S8x1x512x2x64_S8x512x2x64 : S8x1x512x2x64.ShapeCasts S8x512x2x64
  bcast_S_S8192x512 : S_.BroadcastsInDim S8192x512 (![] : Fin 0 → Fin S8192x512.rank)
  bcast_S_S8192x128 : S_.BroadcastsInDim S8192x128 (![] : Fin 0 → Fin S8192x128.rank)
  bcast_S_S8x512x2x64 : S_.BroadcastsInDim S8x512x2x64 (![] : Fin 0 → Fin S8x512x2x64.rank)

variable [Facts]

def fn {F : FTy → Type} [FloatOps F] (main_arg0 : FVec F S8192x512 .bf16) (main_arg1 : FVec F S8192x128 .bf16) (main_arg2 : FVec F S8192x128 .bf16) (main_arg3 : FVec F S8x4x512x2x64 .f32) (main_arg4 : FVec F S8x4x512x2x64 .f32) : IVec S8192x512 1 × IVec S8192x128 1 × IVec S8x512x2x64 1 :=
  let main_v0 : FVec F S8x1x512x2x64 .f32 := (extractStridedSlice S8x1x512x2x64 ![0, 0, 0, 0, 0] · slices_S8x4x512x2x64_S8x1x512x2x64_0_0_0_0_0) main_arg3
  let main_v1 : FVec F S8x512x2x64 .f32 := shapeCast S8x512x2x64 main_v0 shapeCasts_S8x1x512x2x64_S8x512x2x64
  let main_v2 : FVec F S8192x512 .bf16 := Host.absf main_arg0
  let main_cst : FVec F S_ .bf16 := constant S_ .bf16 0x7F80#16
  let main_v3 : FVec F S8192x512 .bf16 := broadcastInDim S8192x512 ![] bcast_S_S8192x512 main_cst
  let main_v4 : IVec S8192x512 1 := cmpf .olt main_v2 main_v3
  let main_v5 : FVec F S8192x128 .bf16 := Host.absf main_arg1
  let main_cst_0 : FVec F S_ .bf16 := constant S_ .bf16 0x7F80#16
  let main_v6 : FVec F S8192x128 .bf16 := broadcastInDim S8192x128 ![] bcast_S_S8192x128 main_cst_0
  let main_v7 : IVec S8192x128 1 := cmpf .olt main_v5 main_v6
  let main_v8 : FVec F S8x512x2x64 .f32 := Host.absf main_v1
  let main_cst_1 : FVec F S_ .f32 := constant S_ .f32 0x7F800000#32
  let main_v9 : FVec F S8x512x2x64 .f32 := broadcastInDim S8x512x2x64 ![] bcast_S_S8x512x2x64 main_cst_1
  let main_v10 : IVec S8x512x2x64 1 := cmpf .olt main_v8 main_v9
  (main_v4, main_v7, main_v10)
-- ==== Pre_finite_rows.lean ====
abbrev S16x256x1024 : Shape := ⟨3, ![16, 256, 1024]⟩
abbrev S1x9x1024 : Shape := ⟨3, ![1, 9, 1024]⟩
abbrev S6x1024 : Shape := ⟨2, ![6, 1024]⟩
abbrev S1024x7936 : Shape := ⟨2, ![1024, 7936]⟩
abbrev S64 : Shape := ⟨1, ![64]⟩
abbrev S_ : Shape := ⟨0, ![]⟩

class Facts : Prop where
  bcast_S_S1x9x1024 : S_.BroadcastsInDim S1x9x1024 (![] : Fin 0 → Fin S1x9x1024.rank)
  bcast_S_S6x1024 : S_.BroadcastsInDim S6x1024 (![] : Fin 0 → Fin S6x1024.rank)
  bcast_S_S1024x7936 : S_.BroadcastsInDim S1024x7936 (![] : Fin 0 → Fin S1024x7936.rank)

variable [Facts]

def fn {F : FTy → Type} [FloatOps F] (main_arg0 : FVec F S16x256x1024 .f32) (main_arg1 : FVec F S1x9x1024 .f32) (main_arg2 : FVec F S6x1024 .f32) (main_arg3 : FVec F S1024x7936 .f32) (main_arg4 : FVec F S64 .f32) (main_arg5 : FVec F S64 .f32) : IVec S1x9x1024 1 × IVec S6x1024 1 × IVec S1024x7936 1 :=
  let main_v0 : FVec F S1x9x1024 .f32 := Host.absf main_arg1
  let main_cst : FVec F S_ .f32 := constant S_ .f32 0x7F800000#32
  let main_v1 : FVec F S1x9x1024 .f32 := broadcastInDim S1x9x1024 ![] bcast_S_S1x9x1024 main_cst
  let main_v2 : IVec S1x9x1024 1 := cmpf .olt main_v0 main_v1
  let main_v3 : FVec F S6x1024 .f32 := Host.absf main_arg2
  let main_cst_0 : FVec F S_ .f32 := constant S_ .f32 0x7F800000#32
  let main_v4 : FVec F S6x1024 .f32 := broadcastInDim S6x1024 ![] bcast_S_S6x1024 main_cst_0
  let main_v5 : IVec S6x1024 1 := cmpf .olt main_v3 main_v4
  let main_v6 : FVec F S1024x7936 .f32 := Host.absf main_arg3
  let main_cst_1 : FVec F S_ .f32 := constant S_ .f32 0x7F800000#32
  let main_v7 : FVec F S1024x7936 .f32 := broadcastInDim S1024x7936 ![] bcast_S_S1024x7936 main_cst_1
  let main_v8 : IVec S1024x7936 1 := cmpf .olt main_v6 main_v7
  (main_v2, main_v5, main_v8)
-- ==== Pre_finite_scores.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x512 .bf16) (main_arg1 : FVec F S4096x512 .f32) (main_arg2 : FVec F S4096x512 .f32) (main_arg3 : FVec F S4096x512 .bf16) (main_arg4 : FVec F S4096x128 .f32) (main_arg5 : FVec F S4096x128 .f32) : IVec S4096x512 1 × IVec S4096x512 1 × IVec S4096x512 1 × IVec S4096x128 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .bf16 := Host.absf main_arg3
  let main_cst_1 : FVec F S_ .bf16 := constant S_ .bf16 0x7F80#16
  let main_v7 : FVec F S4096x512 .bf16 := broadcastInDim S4096x512 ![] bcast_S_S4096x512 main_cst_1
  let main_v8 : IVec S4096x512 1 := cmpf .olt main_v6 main_v7
  let main_v9 : FVec F S4096x128 .f32 := Host.absf main_arg4
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  (main_v2, main_v5, main_v8, main_v11)
-- ==== Attn.lean ====
abbrev S4096x512 : Shape := ⟨2, ![4096, 512]⟩
abbrev S4096x128 : Shape := ⟨2, ![4096, 128]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x128, .f32⟩
  | .hbm, ⟨5, _⟩ => ⟨S4096x128, .f32⟩
  | .hbm, ⟨6, _⟩ => ⟨S4096x512, .bf16⟩
  | .hbm, ⟨7, _⟩ => ⟨S4096x512, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnRefIdeal.lean ====
abbrev S4096x512 : Shape := ⟨2, ![4096, 512]⟩
abbrev S4096x128 : Shape := ⟨2, ![4096, 128]⟩
abbrev S16x256x8x1x64 : Shape := ⟨5, ![16, 256, 8, 1, 64]⟩
abbrev S16x256x8x64 : Shape := ⟨4, ![16, 256, 8, 64]⟩
abbrev S16x8x256x256x1 : Shape := ⟨5, ![16, 8, 256, 256, 1]⟩
abbrev S16x8x1x256x256 : Shape := ⟨5, ![16, 8, 1, 256, 256]⟩
abbrev S_ : Shape := ⟨0, ![]⟩
abbrev S16x8x1x256 : Shape := ⟨4, ![16, 8, 1, 256]⟩
abbrev S16x8x1x256x1 : Shape := ⟨5, ![16, 8, 1, 256, 1]⟩
abbrev S16x8x64x1x256 : Shape := ⟨5, ![16, 8, 64, 1, 256]⟩
abbrev S16x256x2x4x64 : Shape := ⟨5, ![16, 256, 2, 4, 64]⟩
abbrev S16x256x2x64 : Shape := ⟨4, ![16, 256, 2, 64]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x64x4x256 : Shape := ⟨5, ![16, 2, 64, 4, 256]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x128, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S16x256x8x1x64, .f32⟩
  | .hbm, ⟨9, _⟩ => ⟨S16x256x8x64, .f32⟩
  | .hbm, ⟨10, _⟩ => ⟨S16x256x8x64, .f32⟩
  | .hbm, ⟨11, _⟩ => ⟨S16x8x256x256x1, .f32⟩
  | .hbm, ⟨12, _⟩ => ⟨S16x8x1x256x256, .f32⟩
  | .hbm, ⟨13, _⟩ => ⟨S_, .f32⟩
  | .hbm, ⟨14, _⟩ => ⟨S16x8x1x256, .f32⟩
  | .hbm, ⟨15, _⟩ => ⟨S_, .f32⟩
  | .hbm, ⟨16, _⟩ => ⟨S16x8x1x256, .f32⟩
  | .hbm, ⟨17, _⟩ => ⟨S16x8x1x256, .f32⟩
  | .hbm, ⟨18, _⟩ => ⟨S16x8x1x256x1, .f32⟩
  | .hbm, ⟨19, _⟩ => ⟨S16x8x1x256x256, .f32⟩
  | .hbm, ⟨20, _⟩ => ⟨S16x8x1x256x256, .f32⟩
  | .hbm, ⟨21, _⟩ => ⟨S16x8x1x256x256, .f32⟩
  | .hbm, ⟨22, _⟩ => ⟨S_, .f32⟩
  | .hbm, ⟨23, _⟩ => ⟨S16x8x1x256, .f32⟩
  | .hbm, ⟨24, _⟩ => ⟨S16x8x1x256x1, .f32⟩
  | .hbm, ⟨25, _⟩ => ⟨S16x8x1x256x256, .f32⟩
  | .hbm, ⟨26, _⟩ => ⟨S16x8x1x256x256, .f32⟩
  | .hbm, ⟨27, _⟩ => ⟨S16x8x64x1x256, .f32⟩
  | .hbm, ⟨28, _⟩ => ⟨S16x256x8x1x64, .f32⟩
  | .hbm, ⟨29, _⟩ => ⟨S4096x512, .f32⟩
  | .hbm, ⟨30, _⟩ => ⟨S16x256x2x4x64, .f32⟩
  | .hbm, ⟨31, _⟩ => ⟨S16x256x2x64, .f32⟩
  | .hbm, ⟨32, _⟩ => ⟨S16x256x2x64, .f32⟩
  | .hbm, ⟨33, _⟩ => ⟨S16x2x256x256x4, .f32⟩
  | .hbm, ⟨34, _⟩ => ⟨S16x2x4x256x256, .f32⟩
  | .hbm, ⟨35, _⟩ => ⟨S_, .f32⟩
  | .hbm, ⟨36, _⟩ => ⟨S16x2x4x256, .f32⟩
  | .hbm, ⟨37, _⟩ => ⟨S_, .f32⟩
  | .hbm, ⟨38, _⟩ => ⟨S16x2x4x256, .f32⟩
  | .hbm, ⟨39, _⟩ => ⟨S16x2x4x256, .f32⟩
  | .hbm, ⟨40, _⟩ => ⟨S16x2x4x256x1, .f32⟩
  | .hbm, ⟨41, _⟩ => ⟨S16x2x4x256x256, .f32⟩
  | .hbm, ⟨42, _⟩ => ⟨S16x2x4x256x256, .f32⟩
  | .hbm, ⟨43, _⟩ => ⟨S16x2x4x256x256, .f32⟩
  | .hbm, ⟨44, _⟩ => ⟨S_, .f32⟩
  | .hbm, ⟨45, _⟩ => ⟨S16x2x4x256, .f32⟩
  | .hbm, ⟨46, _⟩ => ⟨S16x2x4x256x1, .f32⟩
  | .hbm, ⟨47, _⟩ => ⟨S16x2x4x256x256, .f32⟩
  | .hbm, ⟨48, _⟩ => ⟨S16x2x4x256x256, .f32⟩
  | .hbm, ⟨49, _⟩ => ⟨S16x2x64x4x256, .f32⟩
  | .hbm, ⟨50, _⟩ => ⟨S16x256x2x4x64, .f32⟩
  | .hbm, ⟨51, _⟩ => ⟨S4096x512, .f32⟩
  | .hbm, ⟨52, _⟩ => ⟨S4096x512, .bf16⟩
  | .hbm, ⟨53, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Ffn.lean ====
abbrev S8x1024x1024 : Shape := ⟨3, ![8, 1024, 1024]⟩
abbrev S8x9x1024 : Shape := ⟨3, ![8, 9, 1024]⟩
abbrev S6x1024 : Shape := ⟨2, ![6, 1024]⟩
abbrev S1024x5632 : Shape := ⟨2, ![1024, 5632]⟩
abbrev S2816x1024 : Shape := ⟨2, ![2816, 1024]⟩
abbrev S8192x1024 : Shape := ⟨2, ![8192, 1024]⟩
abbrev S512x1024 : Shape := ⟨2, ![512, 1024]⟩
abbrev S1x9x1024 : Shape := ⟨3, ![1, 9, 1024]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x1024x1024, .f32⟩
  | .hbm, ⟨1, _⟩ => ⟨S8x9x1024, .f32⟩
  | .hbm, ⟨2, _⟩ => ⟨S6x1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S1024x5632, .bf16⟩
  | .hbm, ⟨7, _⟩ => ⟨S2816x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x1024x1024 : Shape := ⟨3, ![8, 1024, 1024]⟩
abbrev S8x9x1024 : Shape := ⟨3, ![8, 9, 1024]⟩
abbrev S6x1024 : Shape := ⟨2, ![6, 1024]⟩
abbrev S1024x5632 : Shape := ⟨2, ![1024, 5632]⟩
abbrev S2816x1024 : Shape := ⟨2, ![2816, 1024]⟩
abbrev S8x3x3x1024 : Shape := ⟨4, ![8, 3, 3, 1024]⟩
abbrev S1x1024 : Shape := ⟨2, ![1, 1024]⟩
abbrev S1024 : Shape := ⟨1, ![1024]⟩
abbrev S8x1x3x1024 : Shape := ⟨4, ![8, 1, 3, 1024]⟩
abbrev S8x3x1024 : Shape := ⟨3, ![8, 3, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1x1024 : Shape := ⟨3, ![8, 1, 1024]⟩
abbrev S8x1024x5632 : Shape := ⟨3, ![8, 1024, 5632]⟩
abbrev S8x1024x2816 : Shape := ⟨3, ![8, 1024, 2816]⟩
abbrev S8192x1024 : Shape := ⟨2, ![8192, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x9x1024, .f32⟩
  | .hbm, ⟨2, _⟩ => ⟨S6x1024, .f32⟩
  | .hbm, ⟨3, _⟩ => ⟨S1024x5632, .f32⟩
  | .hbm, ⟨4, _⟩ => ⟨S2816x1024, .f32⟩
  | .hbm, ⟨5, _⟩ => ⟨S8x3x3x1024, .f32⟩
  | .hbm, ⟨6, _⟩ => ⟨S1x1024, .f32⟩
  | .hbm, ⟨7, _⟩ => ⟨S1024, .f32⟩
  | .hbm, ⟨8, _⟩ => ⟨S8x1x3x1024, .f32⟩
  | .hbm, ⟨9, _⟩ => ⟨S8x3x1024, .f32⟩
  | .hbm, ⟨10, _⟩ => ⟨S8x1024x1024, .f32⟩
  | .hbm, ⟨11, _⟩ => ⟨S_, .f32⟩
  | .hbm, ⟨12, _⟩ => ⟨S8x1024, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S8x1024x1, .f32⟩
  | .hbm, ⟨21, _⟩ => ⟨S8x1024x1024, .f32⟩
  | .hbm, ⟨22, _⟩ => ⟨S8x1024x1024, .f32⟩
  | .hbm, ⟨23, _⟩ => ⟨S1x1x1024, .f32⟩
  | .hbm, ⟨24, _⟩ => ⟨S8x1024x1024, .f32⟩
  | .hbm, ⟨25, _⟩ => ⟨S8x1024x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S8x1x1024, .f32⟩
  | .hbm, ⟨35, _⟩ => ⟨S8x1024, .f32⟩
  | .hbm, ⟨36, _⟩ => ⟨S8x1x1024, .f32⟩
  | .hbm, ⟨37, _⟩ => ⟨S8x1024x1024, .f32⟩
  | .hbm, ⟨38, _⟩ => ⟨S8x1024x1024, .f32⟩
  | .hbm, ⟨39, _⟩ => ⟨S8x1024x5632, .f32⟩
  | .hbm, ⟨40, _⟩ => ⟨S8x1024x2816, .f32⟩
  | .hbm, ⟨41, _⟩ => ⟨S8x1024x2816, .f32⟩
  | .hbm, ⟨42, _⟩ => ⟨S8x1024x2816, .f32⟩
  | .hbm, ⟨43, _⟩ => ⟨S8x1024x2816, .f32⟩
  | .hbm, ⟨44, _⟩ => ⟨S_, .f32⟩
  | .hbm, ⟨45, _⟩ => ⟨S8x1024x2816, .f32⟩
  | .hbm, ⟨46, _⟩ => ⟨S8x1024x2816, .f32⟩
  | .hbm, ⟨47, _⟩ => ⟨S_, .f32⟩
  | .hbm, ⟨48, _⟩ => ⟨S8x1024x2816, .f32⟩
  | .hbm, ⟨49, _⟩ => ⟨S8x1024x2816, .f32⟩
  | .hbm, ⟨50, _⟩ => ⟨S8x1024x2816, .f32⟩
  | .hbm, ⟨51, _⟩ => ⟨S8x1024x2816, .f32⟩
  | .hbm, ⟨52, _⟩ => ⟨S8x1024x1024, .f32⟩
  | .hbm, ⟨53, _⟩ => ⟨S1x1024, .f32⟩
  | .hbm, ⟨54, _⟩ => ⟨S1024, .f32⟩
  | .hbm, ⟨55, _⟩ => ⟨S8x1x3x1024, .f32⟩
  | .hbm, ⟨56, _⟩ => ⟨S8x3x1024, .f32⟩
  | .hbm, ⟨57, _⟩ => ⟨S8x1x1024, .f32⟩
  | .hbm, ⟨58, _⟩ => ⟨S8x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x1024x1024, .f32⟩
  | .hbm, ⟨64, _⟩ => ⟨S_, .f32⟩
  | .hbm, ⟨65, _⟩ => ⟨S8x1024, .f32⟩
  | .hbm, ⟨66, _⟩ => ⟨S8x1024x1, .f32⟩
  | .hbm, ⟨67, _⟩ => ⟨S_, .f32⟩
  | .hbm, ⟨68, _⟩ => ⟨S8x1024x1, .f32⟩
  | .hbm, ⟨69, _⟩ => ⟨S8x1024x1, .f32⟩
  | .hbm, ⟨70, _⟩ => ⟨S_, .f32⟩
  | .hbm, ⟨71, _⟩ => ⟨S8x1024x1, .f32⟩
  | .hbm, ⟨72, _⟩ => ⟨S8x1024x1, .f32⟩
  | .hbm, ⟨73, _⟩ => ⟨S8x1024x1, .f32⟩
  | .hbm, ⟨74, _⟩ => ⟨S8x1024x1024, .f32⟩
  | .hbm, ⟨75, _⟩ => ⟨S8x1024x1024, .f32⟩
  | .hbm, ⟨76, _⟩ => ⟨S1x1x1024, .f32⟩
  | .hbm, ⟨77, _⟩ => ⟨S8x1024x1024, .f32⟩
  | .hbm, ⟨78, _⟩ => ⟨S8x1024x1024, .f32⟩
  | .hbm, ⟨79, _⟩ => ⟨S8x1024x1024, .f32⟩
  | .hbm, ⟨80, _⟩ => ⟨S8x1024x1024, .f32⟩
  | .hbm, ⟨81, _⟩ => ⟨S8x1024x1024, .f32⟩
  | .hbm, ⟨82, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Merge.lean ====
abbrev S8x1024x1024 : Shape := ⟨3, ![8, 1024, 1024]⟩
abbrev S8x9x1024 : Shape := ⟨3, ![8, 9, 1024]⟩
abbrev S6x1024 : Shape := ⟨2, ![6, 1024]⟩
abbrev S1024x7936 : Shape := ⟨2, ![1024, 7936]⟩
abbrev S8192x512 : Shape := ⟨2, ![8192, 512]⟩
abbrev S4x512x1024 : Shape := ⟨3, ![4, 512, 1024]⟩
abbrev S1024x1024 : Shape := ⟨2, ![1024, 1024]⟩
abbrev S8192x1024 : Shape := ⟨2, ![8192, 1024]⟩
abbrev S1024x4096 : Shape := ⟨2, ![1024, 4096]⟩
abbrev S256x1024 : Shape := ⟨2, ![256, 1024]⟩
abbrev S1x9x1024 : Shape := ⟨3, ![1, 9, 1024]⟩
abbrev S256x512 : Shape := ⟨2, ![256, 512]⟩
abbrev S9x1024 : Shape := ⟨2, ![9, 1024]⟩
abbrev S1x1024 : Shape := ⟨2, ![1, 1024]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x1024x1024, .f32⟩
  | .hbm, ⟨1, _⟩ => ⟨S8x9x1024, .f32⟩
  | .hbm, ⟨2, _⟩ => ⟨S6x1024, .f32⟩
  | .hbm, ⟨3, _⟩ => ⟨S1024x7936, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S4x512x1024, .f32⟩
  | .hbm, ⟨9, _⟩ => ⟨S1024x1024, .f32⟩
  | .hbm, ⟨10, _⟩ => ⟨S8192x1024, .f32⟩
  | .hbm, ⟨11, _⟩ => ⟨S1024x4096, .f32⟩
  | .hbm, ⟨12, _⟩ => ⟨S1024x4096, .bf16⟩
  | .hbm, ⟨13, _⟩ => ⟨S4x512x1024, .bf16⟩
  | .hbm, ⟨14, _⟩ => ⟨S1024x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x4096, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S4x512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S8x1024x1024 : Shape := ⟨3, ![8, 1024, 1024]⟩
abbrev S8x9x1024 : Shape := ⟨3, ![8, 9, 1024]⟩
abbrev S6x1024 : Shape := ⟨2, ![6, 1024]⟩
abbrev S1024x7936 : Shape := ⟨2, ![1024, 7936]⟩
abbrev S8192x512 : Shape := ⟨2, ![8192, 512]⟩
abbrev S4x512x1024 : Shape := ⟨3, ![4, 512, 1024]⟩
abbrev S1024x1024 : Shape := ⟨2, ![1024, 1024]⟩
abbrev S8x3x3x1024 : Shape := ⟨4, ![8, 3, 3, 1024]⟩
abbrev S1x1024 : Shape := ⟨2, ![1, 1024]⟩
abbrev S1024 : Shape := ⟨1, ![1024]⟩
abbrev S8x1x3x1024 : Shape := ⟨4, ![8, 1, 3, 1024]⟩
abbrev S8x3x1024 : Shape := ⟨3, ![8, 3, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1x1024 : Shape := ⟨3, ![8, 1, 1024]⟩
abbrev S1024x4096 : Shape := ⟨2, ![1024, 4096]⟩
abbrev S8x1024x4096 : Shape := ⟨3, ![8, 1024, 4096]⟩
abbrev S8x1024x512 : Shape := ⟨3, ![8, 1024, 512]⟩
abbrev S8x1024x1x512 : Shape := ⟨4, ![8, 1024, 1, 512]⟩
abbrev S8x1024x4x512 : Shape := ⟨4, ![8, 1024, 4, 512]⟩
abbrev S4x1024x8x1024 : Shape := ⟨4, ![4, 1024, 8, 1024]⟩
abbrev S8x1024x4x1024 : Shape := ⟨4, ![8, 1024, 4, 1024]⟩
abbrev S8192x1024 : Shape := ⟨2, ![8192, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x9x1024, .f32⟩
  | .hbm, ⟨2, _⟩ => ⟨S6x1024, .f32⟩
  | .hbm, ⟨3, _⟩ => ⟨S1024x7936, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S4x512x1024, .f32⟩
  | .hbm, ⟨9, _⟩ => ⟨S1024x1024, .f32⟩
  | .hbm, ⟨10, _⟩ => ⟨S8x3x3x1024, .f32⟩
  | .hbm, ⟨11, _⟩ => ⟨S1x1024, .f32⟩
  | .hbm, ⟨12, _⟩ => ⟨S1024, .f32⟩
  | .hbm, ⟨13, _⟩ => ⟨S8x1x3x1024, .f32⟩
  | .hbm, ⟨14, _⟩ => ⟨S8x3x1024, .f32⟩
  | .hbm, ⟨15, _⟩ => ⟨S8x1024x1024, .f32⟩
  | .hbm, ⟨16, _⟩ => ⟨S_, .f32⟩
  | .hbm, ⟨17, _⟩ => ⟨S8x1024, .f32⟩
  | .hbm, ⟨18, _⟩ => ⟨S8x1024x1, .f32⟩
  | .hbm, ⟨19, _⟩ => ⟨S_, .f32⟩
  | .hbm, ⟨20, _⟩ => ⟨S8x1024x1, .f32⟩
  | .hbm, ⟨21, _⟩ => ⟨S8x1024x1, .f32⟩
  | .hbm, ⟨22, _⟩ => ⟨S_, .f32⟩
  | .hbm, ⟨23, _⟩ => ⟨S8x1024x1, .f32⟩
  | .hbm, ⟨24, _⟩ => ⟨S8x1024x1, .f32⟩
  | .hbm, ⟨25, _⟩ => ⟨S8x1024x1, .f32⟩
  | .hbm, ⟨26, _⟩ => ⟨S8x1024x1024, .f32⟩
  | .hbm, ⟨27, _⟩ => ⟨S8x1024x1024, .f32⟩
  | .hbm, ⟨28, _⟩ => ⟨S1x1x1024, .f32⟩
  | .hbm, ⟨29, _⟩ => ⟨S8x1024x1024, .f32⟩
  | .hbm, ⟨30, _⟩ => ⟨S8x1024x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x1024x1024, .f32⟩
  | .hbm, ⟨38, _⟩ => ⟨S8x1024x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x1024x1024, .f32⟩
  | .hbm, ⟨43, _⟩ => ⟨S8x1024x1024, .f32⟩
  | .hbm, ⟨44, _⟩ => ⟨S1024x4096, .f32⟩
  | .hbm, ⟨45, _⟩ => ⟨S8x1024x4096, .f32⟩
  | .hbm, ⟨46, _⟩ => ⟨S8192x512, .f32⟩
  | .hbm, ⟨47, _⟩ => ⟨S8x1024x512, .f32⟩
  | .hbm, ⟨48, _⟩ => ⟨S8192x512, .f32⟩
  | .hbm, ⟨49, _⟩ => ⟨S8x1024x512, .f32⟩
  | .hbm, ⟨50, _⟩ => ⟨S8192x512, .f32⟩
  | .hbm, ⟨51, _⟩ => ⟨S8x1024x512, .f32⟩
  | .hbm, ⟨52, _⟩ => ⟨S8192x512, .f32⟩
  | .hbm, ⟨53, _⟩ => ⟨S8x1024x512, .f32⟩
  | .hbm, ⟨54, _⟩ => ⟨S8x1024x1x512, .f32⟩
  | .hbm, ⟨55, _⟩ => ⟨S8x1024x1x512, .f32⟩
  | .hbm, ⟨56, _⟩ => ⟨S8x1024x1x512, .f32⟩
  | .hbm, ⟨57, _⟩ => ⟨S8x1024x1x512, .f32⟩
  | .hbm, ⟨58, _⟩ => ⟨S8x1024x4x512, .f32⟩
  | .hbm, ⟨59, _⟩ => ⟨S4x1024x8x1024, .f32⟩
  | .hbm, ⟨60, _⟩ => ⟨S8x1024x4x1024, .f32⟩
  | .hbm, ⟨61, _⟩ => ⟨S8x1024x4096, .f32⟩
  | .hbm, ⟨62, _⟩ => ⟨S8x1024x4096, .f32⟩
  | .hbm, ⟨63, _⟩ => ⟨S_, .f32⟩
  | .hbm, ⟨64, _⟩ => ⟨S8x1024x4096, .f32⟩
  | .hbm, ⟨65, _⟩ => ⟨S8x1024x4096, .f32⟩
  | .hbm, ⟨66, _⟩ => ⟨S_, .f32⟩
  | .hbm, ⟨67, _⟩ => ⟨S8x1024x4096, .f32⟩
  | .hbm, ⟨68, _⟩ => ⟨S8x1024x4096, .f32⟩
  | .hbm, ⟨69, _⟩ => ⟨S8x1024x4x1024, .f32⟩
  | .hbm, ⟨70, _⟩ => ⟨S8x1024x4x1024, .f32⟩
  | .hbm, ⟨71, _⟩ => ⟨S_, .f32⟩
  | .hbm, ⟨72, _⟩ => ⟨S8x1024x1024, .f32⟩
  | .hbm, ⟨73, _⟩ => ⟨S8x1024x1024, .f32⟩
  | .hbm, ⟨74, _⟩ => ⟨S1x1024, .f32⟩
  | .hbm, ⟨75, _⟩ => ⟨S1024, .f32⟩
  | .hbm, ⟨76, _⟩ => ⟨S8x1x3x1024, .f32⟩
  | .hbm, ⟨77, _⟩ => ⟨S8x3x1024, .f32⟩
  | .hbm, ⟨78, _⟩ => ⟨S8x1x1024, .f32⟩
  | .hbm, ⟨79, _⟩ => ⟨S8x1024, .f32⟩
  | .hbm, ⟨80, _⟩ => ⟨S8x1x1024, .f32⟩
  | .hbm, ⟨81, _⟩ => ⟨S_, .f32⟩
  | .hbm, ⟨82, _⟩ => ⟨S8x1x1024, .f32⟩
  | .hbm, ⟨83, _⟩ => ⟨S8x1x1024, .f32⟩
  | .hbm, ⟨84, _⟩ => ⟨S8x1024x1024, .f32⟩
  | .hbm, ⟨85, _⟩ => ⟨S_, .f32⟩
  | .hbm, ⟨86, _⟩ => ⟨S8x1024, .f32⟩
  | .hbm, ⟨87, _⟩ => ⟨S8x1024x1, .f32⟩
  | .hbm, ⟨88, _⟩ => ⟨S_, .f32⟩
  | .hbm, ⟨89, _⟩ => ⟨S8x1024x1, .f32⟩
  | .hbm, ⟨90, _⟩ => ⟨S8x1024x1, .f32⟩
  | .hbm, ⟨91, _⟩ => ⟨S_, .f32⟩
  | .hbm, ⟨92, _⟩ => ⟨S8x1024x1, .f32⟩
  | .hbm, ⟨93, _⟩ => ⟨S8x1024x1, .f32⟩
  | .hbm, ⟨94, _⟩ => ⟨S8x1024x1, .f32⟩
  | .hbm, ⟨95, _⟩ => ⟨S8x1024x1024, .f32⟩
  | .hbm, ⟨96, _⟩ => ⟨S8x1024x1024, .f32⟩
  | .hbm, ⟨97, _⟩ => ⟨S1x1x1024, .f32⟩
  | .hbm, ⟨98, _⟩ => ⟨S8x1024x1024, .f32⟩
  | .hbm, ⟨99, _⟩ => ⟨S8x1024x1024, .f32⟩
  | .hbm, ⟨100, _⟩ => ⟨S8x1024x1024, .f32⟩
  | .hbm, ⟨101, _⟩ => ⟨S8x1024x1024, .f32⟩
  | .hbm, ⟨102, _⟩ => ⟨S8x1024x1024, .f32⟩
  | .hbm, ⟨103, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== FfnPrompt.lean ====
abbrev S16x256x1024 : Shape := ⟨3, ![16, 256, 1024]⟩
abbrev S1x9x1024 : Shape := ⟨3, ![1, 9, 1024]⟩
abbrev S6x1024 : Shape := ⟨2, ![6, 1024]⟩
abbrev S1024x5632 : Shape := ⟨2, ![1024, 5632]⟩
abbrev S2816x1024 : Shape := ⟨2, ![2816, 1024]⟩
abbrev S4096x1024 : Shape := ⟨2, ![4096, 1024]⟩
abbrev S512x1024 : Shape := ⟨2, ![512, 1024]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S1x9x1024, .f32⟩
  | .hbm, ⟨2, _⟩ => ⟨S6x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S1024x5632, .bf16⟩
  | .hbm, ⟨7, _⟩ => ⟨S2816x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnPromptRefIdeal.lean ====
abbrev S16x256x1024 : Shape := ⟨3, ![16, 256, 1024]⟩
abbrev S1x9x1024 : Shape := ⟨3, ![1, 9, 1024]⟩
abbrev S6x1024 : Shape := ⟨2, ![6, 1024]⟩
abbrev S1024x5632 : Shape := ⟨2, ![1024, 5632]⟩
abbrev S2816x1024 : Shape := ⟨2, ![2816, 1024]⟩
abbrev S1x3x3x1024 : Shape := ⟨4, ![1, 3, 3, 1024]⟩
abbrev S1x1024 : Shape := ⟨2, ![1, 1024]⟩
abbrev S1024 : Shape := ⟨1, ![1024]⟩
abbrev S1x1x3x1024 : Shape := ⟨4, ![1, 1, 3, 1024]⟩
abbrev S1x3x1024 : Shape := ⟨3, ![1, 3, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x5632 : Shape := ⟨3, ![16, 256, 5632]⟩
abbrev S16x256x2816 : Shape := ⟨3, ![16, 256, 2816]⟩
abbrev S4096x1024 : Shape := ⟨2, ![4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x9x1024, .f32⟩
  | .hbm, ⟨2, _⟩ => ⟨S6x1024, .f32⟩
  | .hbm, ⟨3, _⟩ => ⟨S1024x5632, .f32⟩
  | .hbm, ⟨4, _⟩ => ⟨S2816x1024, .f32⟩
  | .hbm, ⟨5, _⟩ => ⟨S1x3x3x1024, .f32⟩
  | .hbm, ⟨6, _⟩ => ⟨S1x1024, .f32⟩
  | .hbm, ⟨7, _⟩ => ⟨S1024, .f32⟩
  | .hbm, ⟨8, _⟩ => ⟨S1x1x3x1024, .f32⟩
  | .hbm, ⟨9, _⟩ => ⟨S1x3x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S1x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1x1x1024, .f32⟩
  | .hbm, ⟨35, _⟩ => ⟨S1x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x5632, .f32⟩
  | .hbm, ⟨40, _⟩ => ⟨S16x256x2816, .f32⟩
  | .hbm, ⟨41, _⟩ => ⟨S16x256x2816, .f32⟩
  | .hbm, ⟨42, _⟩ => ⟨S16x256x2816, .f32⟩
  | .hbm, ⟨43, _⟩ => ⟨S16x256x2816, .f32⟩
  | .hbm, ⟨44, _⟩ => ⟨S_, .f32⟩
  | .hbm, ⟨45, _⟩ => ⟨S16x256x2816, .f32⟩
  | .hbm, ⟨46, _⟩ => ⟨S16x256x2816, .f32⟩
  | .hbm, ⟨47, _⟩ => ⟨S_, .f32⟩
  | .hbm, ⟨48, _⟩ => ⟨S16x256x2816, .f32⟩
  | .hbm, ⟨49, _⟩ => ⟨S16x256x2816, .f32⟩
  | .hbm, ⟨50, _⟩ => ⟨S16x256x2816, .f32⟩
  | .hbm, ⟨51, _⟩ => ⟨S16x256x2816, .f32⟩
  | .hbm, ⟨52, _⟩ => ⟨S16x256x1024, .f32⟩
  | .hbm, ⟨53, _⟩ => ⟨S1x1024, .f32⟩
  | .hbm, ⟨54, _⟩ => ⟨S1024, .f32⟩
  | .hbm, ⟨55, _⟩ => ⟨S1x1x3x1024, .f32⟩
  | .hbm, ⟨56, _⟩ => ⟨S1x3x1024, .f32⟩
  | .hbm, ⟨57, _⟩ => ⟨S1x1x1024, .f32⟩
  | .hbm, ⟨58, _⟩ => ⟨S1x1024, .f32⟩
  | .hbm, ⟨59, _⟩ => ⟨S1x1x1024, .f32⟩
  | .hbm, ⟨60, _⟩ => ⟨S_, .f32⟩
  | .hbm, ⟨61, _⟩ => ⟨S1x1x1024, .f32⟩
  | .hbm, ⟨62, _⟩ => ⟨S1x1x1024, .f32⟩
  | .hbm, ⟨63, _⟩ => ⟨S16x256x1024, .f32⟩
  | .hbm, ⟨64, _⟩ => ⟨S_, .f32⟩
  | .hbm, ⟨65, _⟩ => ⟨S16x256, .f32⟩
  | .hbm, ⟨66, _⟩ => ⟨S16x256x1, .f32⟩
  | .hbm, ⟨67, _⟩ => ⟨S_, .f32⟩
  | .hbm, ⟨68, _⟩ => ⟨S16x256x1, .f32⟩
  | .hbm, ⟨69, _⟩ => ⟨S16x256x1, .f32⟩
  | .hbm, ⟨70, _⟩ => ⟨S_, .f32⟩
  | .hbm, ⟨71, _⟩ => ⟨S16x256x1, .f32⟩
  | .hbm, ⟨72, _⟩ => ⟨S16x256x1, .f32⟩
  | .hbm, ⟨73, _⟩ => ⟨S16x256x1, .f32⟩
  | .hbm, ⟨74, _⟩ => ⟨S16x256x1024, .f32⟩
  | .hbm, ⟨75, _⟩ => ⟨S16x256x1024, .f32⟩
  | .hbm, ⟨76, _⟩ => ⟨S1x1x1024, .f32⟩
  | .hbm, ⟨77, _⟩ => ⟨S16x256x1024, .f32⟩
  | .hbm, ⟨78, _⟩ => ⟨S16x256x1024, .f32⟩
  | .hbm, ⟨79, _⟩ => ⟨S16x256x1024, .f32⟩
  | .hbm, ⟨80, _⟩ => ⟨S16x256x1024, .f32⟩
  | .hbm, ⟨81, _⟩ => ⟨S16x256x1024, .f32⟩
  | .hbm, ⟨82, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proj.lean ====
abbrev S16x256x1024 : Shape := ⟨3, ![16, 256, 1024]⟩
abbrev S1x9x1024 : Shape := ⟨3, ![1, 9, 1024]⟩
abbrev S6x1024 : Shape := ⟨2, ![6, 1024]⟩
abbrev S1024x7936 : Shape := ⟨2, ![1024, 7936]⟩
abbrev S64 : Shape := ⟨1, ![64]⟩
abbrev S1024x3840 : Shape := ⟨2, ![1024, 3840]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S4096x1024 : Shape := ⟨2, ![4096, 1024]⟩
abbrev S4096x512 : Shape := ⟨2, ![4096, 512]⟩
abbrev S4096x128 : Shape := ⟨2, ![4096, 128]⟩
abbrev S256x1024 : Shape := ⟨2, ![256, 1024]⟩
abbrev S256x512 : Shape := ⟨2, ![256, 512]⟩
abbrev S256x128 : Shape := ⟨2, ![256, 128]⟩
abbrev S1x1024 : Shape := ⟨2, ![1, 1024]⟩
abbrev S9x1024 : Shape := ⟨2, ![9, 1024]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩

abbrev nBuf : Space → Nat
  | .hbm => 57
  | .vmem => 26
  | .smem => 0
  | _ => 0

abbrev bufTy : (tb : Table) → Fin (tcTables nBuf tb) → BufTy
  | .hbm, ⟨0, _⟩ => ⟨S16x256x1024, .f32⟩
  | .hbm, ⟨1, _⟩ => ⟨S1x9x1024, .f32⟩
  | .hbm, ⟨2, _⟩ => ⟨S6x1024, .f32⟩
  | .hbm, ⟨3, _⟩ => ⟨S1024x7936, .f32⟩
  | .hbm, ⟨4, _⟩ => ⟨S64, .f32⟩
  | .hbm, ⟨5, _⟩ => ⟨S64, .f32⟩
  | .hbm, ⟨6, _⟩ => ⟨S1024x3840, .f32⟩
  | .hbm, ⟨7, _⟩ => ⟨S1024x3840, .bf16⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S_, .f32⟩
  | .hbm, ⟨16, _⟩ => ⟨S64x64, .f32⟩
  | .hbm, ⟨17, _⟩ => ⟨S8x1x8x1, .f32⟩
  | .hbm, ⟨18, _⟩ => ⟨S1x64x1x64, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S512x512, .bf16⟩
  | .hbm, ⟨24, _⟩ => ⟨S2x2, .i32⟩
  | .hbm, ⟨25, _⟩ => ⟨S2x2, .i32⟩
  | .hbm, ⟨26, _⟩ => ⟨S_, .i32⟩
  | .hbm, ⟨27, _⟩ => ⟨S2x2, .i32⟩
  | .hbm, ⟨28, _⟩ => ⟨S2x2, .i32⟩
  | .hbm, ⟨29, _⟩ => ⟨S2x2, .i1⟩
  | .hbm, ⟨30, _⟩ => ⟨S2x2, .f32⟩
  | .hbm, ⟨31, _⟩ => ⟨S_, .f32⟩
  | .hbm, ⟨32, _⟩ => ⟨S64x64, .f32⟩
  | .hbm, ⟨33, _⟩ => ⟨S2x1x2x1, .f32⟩
  | .hbm, ⟨34, _⟩ => ⟨S1x64x1x64, .f32⟩
  | .hbm, ⟨35, _⟩ => ⟨S2x64x2x64, .f32⟩
  | .hbm, ⟨36, _⟩ => ⟨S2x64x2x64, .f32⟩
  | .hbm, ⟨37, _⟩ => ⟨S2x64x2x64, .f32⟩
  | .hbm, ⟨38, _⟩ => ⟨S128x128, .f32⟩
  | .hbm, ⟨39, _⟩ => ⟨S128x128, .bf16⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S4096x1024, .f32⟩
  | .hbm, ⟨49, _⟩ => ⟨S4096x512, .bf16⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .bf16⟩
  | .hbm, ⟨54, _⟩ => ⟨S4096x128, .f32⟩
  | .hbm, ⟨55, _⟩ => ⟨S4096x128, .f32⟩
  | .hbm, ⟨56, _⟩ => ⟨S4096x512, .f32⟩
  | .local _ .vmem, ⟨0, _⟩ => ⟨S256x1024, .f32⟩
  | .local _ .vmem, ⟨1, _⟩ => ⟨S256x1024, .f32⟩
  | .local _ .vmem, ⟨2, _⟩ => ⟨S1x9x1024, .f32⟩
  | .local _ .vmem, ⟨3, _⟩ => ⟨S1x9x1024, .f32⟩
  | .local _ .vmem, ⟨4, _⟩ => ⟨S6x1024, .f32⟩
  | .local _ .vmem, ⟨5, _⟩ => ⟨S1024x3840, .bf16⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S128x128, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x512, .f32⟩
  | .local _ .vmem, ⟨25, _⟩ => ⟨S256x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v29_2 : Ref sig .tc := ⟨.hbm, 51, rfl⟩
abbrev main_v29_3 : Ref sig .tc := ⟨.hbm, 52, rfl⟩
abbrev main_v29_4 : Ref sig .tc := ⟨.hbm, 53, rfl⟩
abbrev main_v29_5 : Ref sig .tc := ⟨.hbm, 54, rfl⟩
abbrev main_v29_6 : Ref sig .tc := ⟨.hbm, 55, rfl⟩
abbrev main_v29_7 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16x256x1024 : Shape := ⟨3, ![16, 256, 1024]⟩
abbrev S1x9x1024 : Shape := ⟨3, ![1, 9, 1024]⟩
abbrev S6x1024 : Shape := ⟨2, ![6, 1024]⟩
abbrev S1024x7936 : Shape := ⟨2, ![1024, 7936]⟩
abbrev S64 : Shape := ⟨1, ![64]⟩
abbrev S1x3x3x1024 : Shape := ⟨4, ![1, 3, 3, 1024]⟩
abbrev S1x1024 : Shape := ⟨2, ![1, 1024]⟩
abbrev S1024 : Shape := ⟨1, ![1024]⟩
abbrev S1x1x3x1024 : Shape := ⟨4, ![1, 1, 3, 1024]⟩
abbrev S1x3x1024 : Shape := ⟨3, ![1, 3, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x7936 : Shape := ⟨3, ![16, 256, 7936]⟩
abbrev S16x256x512 : Shape := ⟨3, ![16, 256, 512]⟩
abbrev S16x256x8x64 : Shape := ⟨4, ![16, 256, 8, 64]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x256x128 : Shape := ⟨3, ![16, 256, 128]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S4096x512 : Shape := ⟨2, ![4096, 512]⟩
abbrev S4096x128 : Shape := ⟨2, ![4096, 128]⟩

abbrev nBuf : Space → Nat
  | .hbm => 114
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x9x1024, .f32⟩
  | .hbm, ⟨2, _⟩ => ⟨S6x1024, .f32⟩
  | .hbm, ⟨3, _⟩ => ⟨S1024x7936, .f32⟩
  | .hbm, ⟨4, _⟩ => ⟨S64, .f32⟩
  | .hbm, ⟨5, _⟩ => ⟨S64, .f32⟩
  | .hbm, ⟨6, _⟩ => ⟨S1x3x3x1024, .f32⟩
  | .hbm, ⟨7, _⟩ => ⟨S1x1024, .f32⟩
  | .hbm, ⟨8, _⟩ => ⟨S1024, .f32⟩
  | .hbm, ⟨9, _⟩ => ⟨S1x1x3x1024, .f32⟩
  | .hbm, ⟨10, _⟩ => ⟨S1x3x1024, .f32⟩
  | .hbm, ⟨11, _⟩ => ⟨S16x256x1024, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S1x1x1024, .f32⟩
  | .hbm, ⟨28, _⟩ => ⟨S1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S1x1x1024, .f32⟩
  | .hbm, ⟨36, _⟩ => ⟨S1x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S16x256x7936, .f32⟩
  | .hbm, ⟨41, _⟩ => ⟨S16x256x512, .f32⟩
  | .hbm, ⟨42, _⟩ => ⟨S16x256x8x64, .f32⟩
  | .hbm, ⟨43, _⟩ => ⟨S16x256x512, .f32⟩
  | .hbm, ⟨44, _⟩ => ⟨S16x256x8x64, .f32⟩
  | .hbm, ⟨45, _⟩ => ⟨S16x256x512, .f32⟩
  | .hbm, ⟨46, _⟩ => ⟨S16x256x8x64, .f32⟩
  | .hbm, ⟨47, _⟩ => ⟨S16x256x1024, .f32⟩
  | .hbm, ⟨48, _⟩ => ⟨S16x256x512, .f32⟩
  | .hbm, ⟨49, _⟩ => ⟨S16x256x512, .f32⟩
  | .hbm, ⟨50, _⟩ => ⟨S16x256x512, .f32⟩
  | .hbm, ⟨51, _⟩ => ⟨S16x256x8x64, .f32⟩
  | .hbm, ⟨52, _⟩ => ⟨S16x256x8x64, .f32⟩
  | .hbm, ⟨53, _⟩ => ⟨S_, .f32⟩
  | .hbm, ⟨54, _⟩ => ⟨S16x256x8, .f32⟩
  | .hbm, ⟨55, _⟩ => ⟨S16x256x8x1, .f32⟩
  | .hbm, ⟨56, _⟩ => ⟨S_, .f32⟩
  | .hbm, ⟨57, _⟩ => ⟨S16x256x8x1, .f32⟩
  | .hbm, ⟨58, _⟩ => ⟨S16x256x8x1, .f32⟩
  | .hbm, ⟨59, _⟩ => ⟨S_, .f32⟩
  | .hbm, ⟨60, _⟩ => ⟨S16x256x8x1, .f32⟩
  | .hbm, ⟨61, _⟩ => ⟨S16x256x8x1, .f32⟩
  | .hbm, ⟨62, _⟩ => ⟨S16x256x8x1, .f32⟩
  | .hbm, ⟨63, _⟩ => ⟨S16x256x8x64, .f32⟩
  | .hbm, ⟨64, _⟩ => ⟨S16x256x8x64, .f32⟩
  | .hbm, ⟨65, _⟩ => ⟨S1x1x1x64, .f32⟩
  | .hbm, ⟨66, _⟩ => ⟨S16x256x8x64, .f32⟩
  | .hbm, ⟨67, _⟩ => ⟨S16x256x8x64, .f32⟩
  | .hbm, ⟨68, _⟩ => ⟨S16x256x128, .f32⟩
  | .hbm, ⟨69, _⟩ => ⟨S16x256x2x64, .f32⟩
  | .hbm, ⟨70, _⟩ => ⟨S16x256x2x64, .f32⟩
  | .hbm, ⟨71, _⟩ => ⟨S_, .f32⟩
  | .hbm, ⟨72, _⟩ => ⟨S16x256x2, .f32⟩
  | .hbm, ⟨73, _⟩ => ⟨S16x256x2x1, .f32⟩
  | .hbm, ⟨74, _⟩ => ⟨S_, .f32⟩
  | .hbm, ⟨75, _⟩ => ⟨S16x256x2x1, .f32⟩
  | .hbm, ⟨76, _⟩ => ⟨S16x256x2x1, .f32⟩
  | .hbm, ⟨77, _⟩ => ⟨S_, .f32⟩
  | .hbm, ⟨78, _⟩ => ⟨S16x256x2x1, .f32⟩
  | .hbm, ⟨79, _⟩ => ⟨S16x256x2x1, .f32⟩
  | .hbm, ⟨80, _⟩ => ⟨S16x256x2x1, .f32⟩
  | .hbm, ⟨81, _⟩ => ⟨S16x256x2x64, .f32⟩
  | .hbm, ⟨82, _⟩ => ⟨S16x256x2x64, .f32⟩
  | .hbm, ⟨83, _⟩ => ⟨S1x1x1x64, .f32⟩
  | .hbm, ⟨84, _⟩ => ⟨S16x256x2x64, .f32⟩
  | .hbm, ⟨85, _⟩ => ⟨S16x256x2x64, .f32⟩
  | .hbm, ⟨86, _⟩ => ⟨S16x256x128, .f32⟩
  | .hbm, ⟨87, _⟩ => ⟨S16x256x2x64, .f32⟩
  | .hbm, ⟨88, _⟩ => ⟨S16x256x512, .f32⟩
  | .hbm, ⟨89, _⟩ => ⟨S_, .f32⟩
  | .hbm, ⟨90, _⟩ => ⟨S16x256x8x64, .f32⟩
  | .hbm, ⟨91, _⟩ => ⟨S16x256x8x64, .f32⟩
  | .hbm, ⟨92, _⟩ => ⟨S4096x512, .f32⟩
  | .hbm, ⟨93, _⟩ => ⟨S4096x512, .bf16⟩
  | .hbm, ⟨94, _⟩ => ⟨S4096x512, .f32⟩
  | .hbm, ⟨95, _⟩ => ⟨S4096x512, .f32⟩
  | .hbm, ⟨96, _⟩ => ⟨S16x256x512, .f32⟩
  | .hbm, ⟨97, _⟩ => ⟨S16x256x512, .f32⟩
  | .hbm, ⟨98, _⟩ => ⟨S_, .f32⟩
  | .hbm, ⟨99, _⟩ => ⟨S16x256x512, .f32⟩
  | .hbm, ⟨100, _⟩ => ⟨S16x256x512, .f32⟩
  | .hbm, ⟨101, _⟩ => ⟨S_, .f32⟩
  | .hbm, ⟨102, _⟩ => ⟨S16x256x512, .f32⟩
  | .hbm, ⟨103, _⟩ => ⟨S16x256x512, .f32⟩
  | .hbm, ⟨104, _⟩ => ⟨S16x256x512, .f32⟩
  | .hbm, ⟨105, _⟩ => ⟨S4096x512, .f32⟩
  | .hbm, ⟨106, _⟩ => ⟨S_, .f32⟩
  | .hbm, ⟨107, _⟩ => ⟨S16x256x8x64, .f32⟩
  | .hbm, ⟨108, _⟩ => ⟨S16x256x8x64, .f32⟩
  | .hbm, ⟨109, _⟩ => ⟨S4096x512, .f32⟩
  | .hbm, ⟨110, _⟩ => ⟨S4096x512, .bf16⟩
  | .hbm, ⟨111, _⟩ => ⟨S4096x128, .f32⟩
  | .hbm, ⟨112, _⟩ => ⟨S4096x128, .f32⟩
  | .hbm, ⟨113, _⟩ => ⟨S4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Gqa.lean ====
abbrev S8192x512 : Shape := ⟨2, ![8192, 512]⟩
abbrev S8192x128 : Shape := ⟨2, ![8192, 128]⟩
abbrev S8x4x512x2x64 : Shape := ⟨5, ![8, 4, 512, 2, 64]⟩
abbrev S8x4x512x128 : Shape := ⟨4, ![8, 4, 512, 128]⟩
abbrev S8192x2x1x64 : Shape := ⟨4, ![8192, 2, 1, 64]⟩
abbrev S8192x2x2x64 : Shape := ⟨4, ![8192, 2, 2, 64]⟩
abbrev S8192x256 : Shape := ⟨2, ![8192, 256]⟩
abbrev S1024x128 : Shape := ⟨2, ![1024, 128]⟩
abbrev S1x1x512x128 : Shape := ⟨4, ![1, 1, 512, 128]⟩
abbrev S512x128 : Shape := ⟨2, ![512, 128]⟩
abbrev S256x128 : Shape := ⟨2, ![256, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8x4x512x2x64, .f32⟩
  | .hbm, ⟨4, _⟩ => ⟨S8x4x512x2x64, .f32⟩
  | .hbm, ⟨5, _⟩ => ⟨S8x4x512x128, .f32⟩
  | .hbm, ⟨6, _⟩ => ⟨S8x4x512x128, .f32⟩
  | .hbm, ⟨7, _⟩ => ⟨S8192x2x1x64, .bf16⟩
  | .hbm, ⟨8, _⟩ => ⟨S8192x2x2x64, .bf16⟩
  | .hbm, ⟨9, _⟩ => ⟨S8192x256, .bf16⟩
  | .hbm, ⟨10, _⟩ => ⟨S8192x2x1x64, .bf16⟩
  | .hbm, ⟨11, _⟩ => ⟨S8192x2x2x64, .bf16⟩
  | .hbm, ⟨12, _⟩ => ⟨S8192x256, .bf16⟩
  | .hbm, ⟨13, _⟩ => ⟨S8192x512, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1024x128, .bf16⟩
  | .local _ .vmem, ⟨11, _⟩ => ⟨S1024x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaRefIdeal.lean ====
abbrev S8192x512 : Shape := ⟨2, ![8192, 512]⟩
abbrev S8192x128 : Shape := ⟨2, ![8192, 128]⟩
abbrev S8x4x512x2x64 : Shape := ⟨5, ![8, 4, 512, 2, 64]⟩
abbrev S8x1024x2x64 : Shape := ⟨4, ![8, 1024, 2, 64]⟩
abbrev S8x1x512x2x64 : Shape := ⟨5, ![8, 1, 512, 2, 64]⟩
abbrev S8x512x2x64 : Shape := ⟨4, ![8, 512, 2, 64]⟩
abbrev S8x1536x2x64 : Shape := ⟨4, ![8, 1536, 2, 64]⟩
abbrev S8x1024x2x4x64 : Shape := ⟨5, ![8, 1024, 2, 4, 64]⟩
abbrev S8x2x1536x1024x4 : Shape := ⟨5, ![8, 2, 1536, 1024, 4]⟩
abbrev S8x2x4x1024x1536 : Shape := ⟨5, ![8, 2, 4, 1024, 1536]⟩
abbrev S_ : Shape := ⟨0, ![]⟩
abbrev S8x2x4x1024 : Shape := ⟨4, ![8, 2, 4, 1024]⟩
abbrev S8x2x4x1024x1 : Shape := ⟨5, ![8, 2, 4, 1024, 1]⟩
abbrev S8x2x64x4x1024 : Shape := ⟨5, ![8, 2, 64, 4, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8x4x512x2x64, .f32⟩
  | .hbm, ⟨4, _⟩ => ⟨S8x4x512x2x64, .f32⟩
  | .hbm, ⟨5, _⟩ => ⟨S8192x128, .f32⟩
  | .hbm, ⟨6, _⟩ => ⟨S8x1024x2x64, .f32⟩
  | .hbm, ⟨7, _⟩ => ⟨S8x1x512x2x64, .f32⟩
  | .hbm, ⟨8, _⟩ => ⟨S8x512x2x64, .f32⟩
  | .hbm, ⟨9, _⟩ => ⟨S8x1536x2x64, .f32⟩
  | .hbm, ⟨10, _⟩ => ⟨S8192x128, .f32⟩
  | .hbm, ⟨11, _⟩ => ⟨S8x1024x2x64, .f32⟩
  | .hbm, ⟨12, _⟩ => ⟨S8x1x512x2x64, .f32⟩
  | .hbm, ⟨13, _⟩ => ⟨S8x512x2x64, .f32⟩
  | .hbm, ⟨14, _⟩ => ⟨S8x1536x2x64, .f32⟩
  | .hbm, ⟨15, _⟩ => ⟨S8192x512, .f32⟩
  | .hbm, ⟨16, _⟩ => ⟨S8x1024x2x4x64, .f32⟩
  | .hbm, ⟨17, _⟩ => ⟨S8x2x1536x1024x4, .f32⟩
  | .hbm, ⟨18, _⟩ => ⟨S8x2x4x1024x1536, .f32⟩
  | .hbm, ⟨19, _⟩ => ⟨S_, .f32⟩
  | .hbm, ⟨20, _⟩ => ⟨S8x2x4x1024, .f32⟩
  | .hbm, ⟨21, _⟩ => ⟨S_, .f32⟩
  | .hbm, ⟨22, _⟩ => ⟨S8x2x4x1024, .f32⟩
  | .hbm, ⟨23, _⟩ => ⟨S8x2x4x1024, .f32⟩
  | .hbm, ⟨24, _⟩ => ⟨S8x2x4x1024x1, .f32⟩
  | .hbm, ⟨25, _⟩ => ⟨S8x2x4x1024x1536, .f32⟩
  | .hbm, ⟨26, _⟩ => ⟨S8x2x4x1024x1536, .f32⟩
  | .hbm, ⟨27, _⟩ => ⟨S8x2x4x1024x1536, .f32⟩
  | .hbm, ⟨28, _⟩ => ⟨S_, .f32⟩
  | .hbm, ⟨29, _⟩ => ⟨S8x2x4x1024, .f32⟩
  | .hbm, ⟨30, _⟩ => ⟨S8x2x4x1024x1, .f32⟩
  | .hbm, ⟨31, _⟩ => ⟨S8x2x4x1024x1536, .f32⟩
  | .hbm, ⟨32, _⟩ => ⟨S8x2x4x1024x1536, .f32⟩
  | .hbm, ⟨33, _⟩ => ⟨S8x2x64x4x1024, .f32⟩
  | .hbm, ⟨34, _⟩ => ⟨S8x1024x2x4x64, .f32⟩
  | .hbm, ⟨35, _⟩ => ⟨S8192x512, .f32⟩
  | .hbm, ⟨36, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Ada.lean ====
abbrev S16x1024 : Shape := ⟨2, ![16, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x16x9216 : Shape := ⟨3, ![4, 16, 9216]⟩
abbrev S1x1024x1152 : Shape := ⟨3, ![1, 1024, 1152]⟩
abbrev S1x1x1152 : Shape := ⟨3, ![1, 1, 1152]⟩
abbrev S1x16x1152 : Shape := ⟨3, ![1, 16, 1152]⟩
abbrev S1024x1152 : Shape := ⟨2, ![1024, 1152]⟩
abbrev S16x1152 : Shape := ⟨2, ![16, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x16x9216, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x16x1152, .f32⟩
  | .local _ .vmem, ⟨6, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x9216 : Shape := ⟨3, ![4, 1024, 9216]⟩
abbrev S4x9216 : Shape := ⟨2, ![4, 9216]⟩
abbrev S_ : Shape := ⟨0, ![]⟩
abbrev S4x9216x16 : Shape := ⟨3, ![4, 9216, 16]⟩
abbrev S4x16x9216 : Shape := ⟨3, ![4, 16, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x9216, .f32⟩
  | .hbm, ⟨2, _⟩ => ⟨S4x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x9216x16, .f32⟩
  | .hbm, ⟨13, _⟩ => ⟨S4x16x9216, .f32⟩
  | .hbm, ⟨14, _⟩ => ⟨S4x1x9216, .f32⟩
  | .hbm, ⟨15, _⟩ => ⟨S4x16x9216, .f32⟩
  | .hbm, ⟨16, _⟩ => ⟨S4x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Softmax.lean ====
/- Softmax over the extended reals, one row at a time: the sum of the values weighted by the softmax of the scores,
   written with the division inside the sum (`attend`) and after it (`attendLate`), and their equality at finite scores. -/
module

public import Idealize.ShloMosaic.Lib.Pointwise

@[expose] public section

noncomputable section

namespace Cert.Layer

open Idealize.ShloMosaic

/-- The largest score of a row. -/
def rowMax {n : ℕ} (s : Fin n → EReal) : EReal := Finset.fold max ⊥ s Finset.univ

/-- The unnormalised weight of position `x` in a row of scores. -/
def wt {n : ℕ} (s : Fin n → EReal) (x : Fin n) : EReal := Ideal.exp (s x - rowMax s)

/-- Softmax attention of one row: each value times its normalised weight, summed. -/
def attend {n : ℕ} (s v : Fin n → EReal) : EReal := ∑ x, v x * Ideal.div (wt s x) (∑ y, wt s y)

/-- The same with one division, after the sum. -/
def attendLate {n : ℕ} (s v : Fin n → EReal) : EReal := Ideal.div (∑ x, wt s x * v x) (∑ y, wt s y)

/-- The largest of finitely many (at least one) scores is one of them. -/
theorem rowMax_mem {n : ℕ} [NeZero n] (s : Fin n → EReal) : ∃ x, rowMax s = s x := by
  obtain ⟨x, _, h⟩ := Finset.exists_mem_eq_sup (Finset.univ : Finset (Fin n)) Finset.univ_nonempty s
  exact ⟨x, h⟩

/-- At finite scores every weight is a positive real number. -/
theorem wt_real {n : ℕ} [NeZero n] {s : Fin n → EReal} (hs : ∀ x, ∃ r : ℝ, s x = r) (x : Fin n) :
    ∃ r : ℝ, 0 < r ∧ wt s x = r := by
  obtain ⟨y, hy⟩ := rowMax_mem s
  obtain ⟨a, ha⟩ := hs x
  obtain ⟨b, hb⟩ := hs y
  refine ⟨Real.exp (a - b), Real.exp_pos _, ?_⟩
  rw [wt, hy, ha, hb, ← EReal.coe_sub]
  rfl

/-- A finite sum of real numbers, read in the extended reals. -/
theorem coe_sum {ι : Type*} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- A nonnegative real factor moves into a sum of extended reals. -/
theorem sum_mul_real {ι : Type*} (t : Finset ι) (f : ι → EReal) {c : ℝ} (hc : 0 ≤ c) :
    (∑ x ∈ t, f x) * (c : EReal) = ∑ x ∈ t, f x * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- At finite scores (and any values) dividing once after the sum is softmax attention. -/
theorem attendLate_eq {n : ℕ} [NeZero n] {s : Fin n → EReal} (hs : ∀ x, ∃ r : ℝ, s x = r) (v : Fin n → EReal) :
    attendLate s v = attend s v := by
  choose w hw0 hw using wt_real hs
  have hsum : (∑ y, wt s y) = ((∑ y, w y : ℝ) : EReal) := by
    rw [coe_sum]; exact Finset.sum_congr rfl fun y _ => hw y
  have hpos : 0 < ∑ y, w y := Finset.sum_pos (fun y _ => hw0 y) Finset.univ_nonempty
  unfold attendLate attend
  rw [hsum, Ideal.div_coe hpos.ne', sum_mul_real _ _ (by positivity)]
  refine Finset.sum_congr rfl fun x _ => ?_
  rw [Ideal.div_coe hpos.ne']
  ac_rfl

/-- The largest score of a row in two parts is the larger of the two parts' largest. -/
theorem rowMax_parts {n k : ℕ} (s : Fin (n + k) → EReal) :
    rowMax s = max (rowMax fun x => s (Fin.castAdd k x)) (rowMax fun y => s (Fin.natAdd n y)) := by
  show (Finset.univ : Finset (Fin (n + k))).sup s
    = max ((Finset.univ : Finset (Fin n)).sup fun x => s (Fin.castAdd k x)) ((Finset.univ : Finset (Fin k)).sup fun y => s (Fin.natAdd n y))
  refine le_antisymm (Finset.sup_le fun z _ => ?_)
    (max_le (Finset.sup_le fun x _ => Finset.le_sup (f := s) (Finset.mem_univ _)) (Finset.sup_le fun y _ => Finset.le_sup (f := s) (Finset.mem_univ _)))
  refine Fin.addCases (fun x => ?_) (fun y => ?_) z
  · exact le_max_of_le_left (Finset.le_sup (f := fun x => s (Fin.castAdd k x)) (Finset.mem_univ x))
  · exact le_max_of_le_right (Finset.le_sup (f := fun y => s (Fin.natAdd n y)) (Finset.mem_univ y))

/-- Attention of one row over two blocks of positions: one maximum, the weights' sums and the weighted sums added over
    the blocks, one division. -/
def attendTwo {n k : ℕ} (s v : Fin n → EReal) (s' v' : Fin k → EReal) : EReal :=
  Ideal.div ((∑ x, Ideal.exp (s x - max (rowMax s) (rowMax s')) * v x) + ∑ y, Ideal.exp (s' y - max (rowMax s) (rowMax s')) * v' y)
    ((∑ x, Ideal.exp (s x - max (rowMax s) (rowMax s'))) + ∑ y, Ideal.exp (s' y - max (rowMax s) (rowMax s')))

/-- It is attention over the positions of both. -/
theorem attendTwo_eq {n k : ℕ} (s v : Fin (n + k) → EReal) :
    attendTwo (fun x => s (Fin.castAdd k x)) (fun x => v (Fin.castAdd k x)) (fun y => s (Fin.natAdd n y)) (fun y => v (Fin.natAdd n y))
      = attendLate s v := by
  unfold attendLate attendTwo wt
  rw [Fin.sum_univ_add, Fin.sum_univ_add, rowMax_parts s]

/-- A product and a finite sum of products of real numbers is a real number. -/
theorem dot_real {n : ℕ} {a b : Fin n → EReal} (ha : ∀ d, ∃ r : ℝ, a d = r) (hb : ∀ d, ∃ r : ℝ, b d = r) :
    ∃ r : ℝ, ∑ d, a d * b d = r := by
  choose p hp using ha
  choose q hq using hb
  refine ⟨∑ d, p d * q d, ?_⟩
  rw [coe_sum]
  exact Finset.sum_congr rfl fun d _ => by rw [hp, hq, EReal.coe_mul]

end Cert.Layer

end
-- ==== Proof.AttnPay.lean ====
/- What the attention kernel's stores hold, element by element: each lane of a pair of heads is one row of softmax
   attention over that lane's own head, with the division after the sum. -/
module

public import proofs.«01_k».proof.Proof.Softmax
public import proofs.«01_k».proof.Proof.Gen.AttnIdeal.Value
public import Idealize.ShloMosaic.Lib.Pointwise
public import Idealize.ShloMosaic.Lib.Pipeline.ValueKit

@[expose] public section

set_option maxRecDepth 16384

noncomputable section

namespace Cert.AttnIdeal.Lanes

open Cert.AttnIdeal Cert.AttnIdeal.Gen Idealize.ShloMosaic Idealize.ShloMosaic.TcCoe Idealize.SL.Sem
open Cert.AttnIdeal.Facts Cert.Layer

/-- The word comparison "lane below 64" is the comparison of numbers. -/
theorem low_lane (x : Fin 128) :
    IntOp.cmpi CmpIPredicate.slt (BitVec.ofNat 32 x.val) 64#32 = if x.val < 64 then 1#1 else 0#1 := by
  revert x; decide +kernel

/-- A selection by "lane below 64", and by its negation. -/
theorem select_low (x : Fin 128) (a b : EReal) :
    Scalar.select (IntOp.cmpi CmpIPredicate.slt (BitVec.ofNat 32 x.val) 64#32) a b = if x.val < 64 then a else b := by
  rw [low_lane]; split <;> rfl

theorem select_high (x : Fin 128) (a b : EReal) :
    Scalar.select (IntOp.xori (IntOp.cmpi CmpIPredicate.slt (BitVec.ofNat 32 x.val) 64#32) 1#1) a b
      = if x.val < 64 then b else a := by
  rw [low_lane]; split <;> rfl

/-- A sum over the 128 lanes in which only the low half counts is the sum over those 64 lanes. -/
theorem sum_low (f : Fin 128 → EReal) :
    (∑ x : Fin 128, if x.val < 64 then f x else 0) = ∑ d : Fin 64, f ⟨d.val, by omega⟩ := by
  rw [Fin.sum_univ_tiles 2 64 rfl, Fin.sum_univ_two]
  have h0 : ∀ d : Fin 64, (if (0 : Fin 2).val * 64 + d.val < 64 then f ⟨(0 : Fin 2).val * 64 + d.val, by simp; omega⟩ else 0)
      = f ⟨d.val, by omega⟩ := fun d => by
    rw [if_pos (by simp)]; congr 1; ext; simp
  have h1 : ∀ d : Fin 64, (if (1 : Fin 2).val * 64 + d.val < 64 then f ⟨(1 : Fin 2).val * 64 + d.val, by simp; omega⟩ else 0)
      = 0 := fun d => if_neg (by simp)
  rw [Finset.sum_congr rfl fun d _ => h0 d, Finset.sum_congr rfl fun d _ => h1 d, Finset.sum_const_zero, add_zero]

/-- … and likewise where only the high half counts. -/
theorem sum_high (f : Fin 128 → EReal) :
    (∑ x : Fin 128, if x.val < 64 then 0 else f x) = ∑ d : Fin 64, f ⟨64 + d.val, by omega⟩ := by
  rw [Fin.sum_univ_tiles 2 64 rfl, Fin.sum_univ_two]
  have h0 : ∀ d : Fin 64, (if (0 : Fin 2).val * 64 + d.val < 64 then 0 else f ⟨(0 : Fin 2).val * 64 + d.val, by simp; omega⟩)
      = 0 := fun d => if_pos (by simp)
  have h1 : ∀ d : Fin 64, (if (1 : Fin 2).val * 64 + d.val < 64 then 0 else f ⟨(1 : Fin 2).val * 64 + d.val, by simp; omega⟩)
      = f ⟨64 + d.val, by omega⟩ := fun d => by
    rw [if_neg (by simp)]; congr 1
  rw [Finset.sum_congr rfl fun d _ => h0 d, Finset.sum_congr rfl fun d _ => h1 d, Finset.sum_const_zero, zero_add]

/-- The score of query row `r` against key row `x` in the head that lane `l` of a pair belongs to. -/
def pairScore (q k : FVec Ideal S256x128 .f32) (r : Fin 256) (l : Fin 128) (x : Fin 256) : EReal :=
  ∑ d : Fin 64, q (ix2 r ⟨l.val / 64 * 64 + d.val, by omega⟩) * k (ix2 x ⟨l.val / 64 * 64 + d.val, by omega⟩)

/-- The pattern of the reductions' initial value is −∞. -/
theorem neg_inf : Ideal.ofBits .f32 0xFF800000#32 = ⊥ := by simp [Ideal.ofBits, Ideal.ieee]

/-- What a pair's chain of operations computes, in the shape the operations leave it in: a selection, by the lane, of
    the two heads' attentions, each with its scores summed over the 128 lanes of which the other head's are zero. -/
theorem pair_of_lanes (q k v : FVec Ideal S256x128 .f32) (r : Fin 256) (l : Fin 128) :
    (if l.val < 64 then attendLate (fun x => ∑ d : Fin 128, if d.val < 64 then q (ix2 r d) * k (ix2 x d) else 0) (fun x => v (ix2 x l))
      else attendLate (fun x => ∑ d : Fin 128, if d.val < 64 then 0 else q (ix2 r d) * k (ix2 x d)) (fun x => v (ix2 x l)))
      = attendLate (pairScore q k r l) (fun x => v (ix2 x l)) := by
  simp only [sum_low (fun d => q (ix2 r d) * k (ix2 _ d)), sum_high (fun d => q (ix2 r d) * k (ix2 _ d))]
  split
  · rename_i h
    have : l.val / 64 = 0 := by omega
    unfold pairScore
    simp only [this, Nat.zero_mul, Nat.zero_add]
  · rename_i h
    have : l.val / 64 = 1 := by omega
    unfold pairScore
    simp only [this, Nat.one_mul]

/-- The first store of the neighbourhood heads: a pair's lanes. -/
theorem na_pay (q : FVec Ideal S256x128 .bf16) (k v : FVec Ideal S256x128 .f32) (r : Fin 256) (l : Fin 128) :
    k0_pay11 q (k0_pay4 k) (k0_pay5 v) k0_pay6 (k0_pay7 (F := Ideal)) (k0_pay9 q k v) (k0_pay10 q k) (ix2 r l)
      = attendLate (pairScore q k r l) (fun x => v (ix2 x l)) := by
  have e := pair_of_lanes q k v r l
  generalize attendLate (pairScore q k r l) (fun x => v (ix2 x l)) = z at e ⊢
  pointwise [k0_pay4, k0_pay5, k0_pay6, k0_pay7, k0_pay8, k0_pay9, k0_pay10, k0_pay11]
  simp only [select_low, select_high, neg_inf]
  exact e

/-- The neighbourhood heads' store of a pair, as a function of its queries, keys and values. -/
def naPair (q : FVec Ideal S256x128 .bf16) (k v : FVec Ideal S256x128 .f32) : FVec Ideal S256x128 .bf16 :=
  k0_pay11 q (k0_pay4 k) (k0_pay5 v) k0_pay6 (k0_pay7 (F := Ideal)) (k0_pay9 q k v) (k0_pay10 q k)

theorem naPair_apply (q : FVec Ideal S256x128 .bf16) (k v : FVec Ideal S256x128 .f32) (x : S256x128.Idx) :
    naPair q k v x = attendLate (pairScore q k (x 0) (x 1)) (fun y => v (ix2 y (x 1))) := by
  rw [eq_ix2 x]; exact na_pay q k v (x 0) (x 1)

/-- The other three pairs' stores are the same function. -/
theorem naPair_1 (q : FVec Ideal S256x128 .bf16) (k v : FVec Ideal S256x128 .f32) :
    k0_pay26 q (k0_pay19 k) (k0_pay20 v) k0_pay21 (k0_pay22 (F := Ideal)) (k0_pay24 q k v) (k0_pay25 q k)
      = naPair q k v := rfl

theorem naPair_2 (q : FVec Ideal S256x128 .bf16) (k v : FVec Ideal S256x128 .f32) :
    k0_pay41 q (k0_pay34 k) (k0_pay35 v) k0_pay36 (k0_pay37 (F := Ideal)) (k0_pay39 q k v) (k0_pay40 q k)
      = naPair q k v := rfl

theorem naPair_3 (q : FVec Ideal S256x128 .bf16) (k v : FVec Ideal S256x128 .f32) :
    k0_pay56 q (k0_pay49 k) (k0_pay50 v) k0_pay51 (k0_pay52 (F := Ideal)) (k0_pay54 q k v) (k0_pay55 q k)
      = naPair q k v := rfl

/-- The first store of the grouped-query heads, at the keys and values laid out for the pair. -/
theorem gqa_pay (q : FVec Ideal S256x128 .bf16) (k v : FVec Ideal S256x256 .bf16) (r : Fin 256) (l : Fin 128) :
    k0_pay18 q (k0_pay12 k) (k0_pay13 v) (k0_pay15 (F := Ideal)) (k0_pay16 k v q) k0_pay17 (ix2 r l)
      = attendLate (pairScore q (k0_pay12 k) r l) (fun x => k0_pay13 v (ix2 x l)) := by
  generalize hk : k0_pay12 k = k'
  generalize hv : k0_pay13 v = v'
  have e := pair_of_lanes q k' v' r l
  generalize attendLate (pairScore q k' r l) (fun x => v' (ix2 x l)) = z at e ⊢
  pointwise [k0_pay14, k0_pay15, k0_pay16, k0_pay17, k0_pay18, hk, hv]
  simp only [select_low, select_high, neg_inf]
  exact e

/-- The four pairs' stores are that function, of the low head's keys and values for two and the high head's for two. -/
theorem gqaPair_0 (q : FVec Ideal S256x128 .bf16) (k v : FVec Ideal S256x256 .bf16) :
    k0_pay18 q (k0_pay12 k) (k0_pay13 v) (k0_pay15 (F := Ideal)) (k0_pay16 k v q) k0_pay17
      = naPair q (k0_pay12 k) (k0_pay13 v) := rfl

theorem gqaPair_1 (q : FVec Ideal S256x128 .bf16) (k v : FVec Ideal S256x256 .bf16) :
    k0_pay33 q (k0_pay27 k) (k0_pay28 v) (k0_pay30 (F := Ideal)) (k0_pay31 k v q) k0_pay32
      = naPair q (k0_pay27 k) (k0_pay28 v) := rfl

theorem gqaPair_2 (q : FVec Ideal S256x128 .bf16) (k v : FVec Ideal S256x256 .bf16) :
    k0_pay48 q (k0_pay42 k) (k0_pay43 v) (k0_pay45 (F := Ideal)) (k0_pay46 k v q) k0_pay47
      = naPair q (k0_pay42 k) (k0_pay43 v) := rfl

theorem gqaPair_3 (q : FVec Ideal S256x128 .bf16) (k v : FVec Ideal S256x256 .bf16) :
    k0_pay1 q (k0_pay57 k) (k0_pay58 v) (k0_pay60 (F := Ideal)) (k0_pay61 k v q) k0_pay62
      = naPair q (k0_pay57 k) (k0_pay58 v) := rfl

/-- Keys (or values) of one grouped-query head, laid out on both halves of the lanes: the low head's. -/
theorem dup_low (g : FVec Ideal S256x128 .f32) (r : Fin 256) (l : Fin 128) :
    k0_pay12 (k0_pay2 (F := Ideal) g) (ix2 r l) = g (ix2 r ⟨l.val % 64, by omega⟩) := by
  pointwise [k0_pay12, k0_pay2]
  rw [select_low]
  split <;> congr 2 <;> ext <;> simp <;> omega

/-- … and the high head's. -/
theorem dup_high (g : FVec Ideal S256x128 .f32) (r : Fin 256) (l : Fin 128) :
    k0_pay57 (k0_pay2 (F := Ideal) g) (ix2 r l) = g (ix2 r ⟨64 + l.val % 64, by omega⟩) := by
  pointwise [k0_pay57, k0_pay2]
  rw [select_low]
  split <;> congr 2 <;> ext <;> simp <;> omega

end Cert.AttnIdeal.Lanes

end
-- ==== Proof.AttnRefPoint.lean ====
/- The attention reference's results, element by element: softmax attention of one row over its own head. -/
module

public import proofs.«01_k».proof.Proof.Softmax
public import proofs.«01_k».proof.Proof.Gen.AttnRefIdeal.Run
public import Idealize.ShloMosaic.Lib.Pointwise

@[expose] public section

set_option maxRecDepth 16384

noncomputable section

namespace Cert.AttnRefIdeal.Rows

open Cert.AttnRefIdeal Cert.AttnRefIdeal.Gen Idealize.ShloMosaic Idealize.ShloMosaic.TcCoe Idealize.SL.Sem
open Cert.AttnRefIdeal.Facts Cert.Layer

/-- The pattern of the reductions' initial value is −∞. -/
theorem neg_inf : Ideal.ofBits .f32 0xFF800000#32 = ⊥ := by simp [Ideal.ofBits, Ideal.ieee]

/-! ## The neighbourhood heads -/

/-- The scores: each query row against each key row of its sequence, per head. -/
def scoresNa (q : FVec Ideal S4096x512 .bf16) (k : FVec Ideal S4096x512 .f32) : FVec Ideal S16x8x1x256x256 .f32 :=
  transpose S16x8x1x256x256 [0, 1, 4, 3, 2] (Host.dotGeneral dot_S16x256x8x64_S16x256x8x1x64_S16x8x256x256x1_3_4_1_13_02_02 none
    (shapeCast _ k shapeCasts_S4096x512_S16x256x8x64)
    (shapeCast _ (extf .f32 q bitsLt_bf16_f32) shapeCasts_S4096x512_S16x256x8x1x64)) transposes_S16x8x256x256x1_S16x8x1x256x256_0_1_4_3_2

/-- The row maxima of the scores. -/
def maxNa (s : FVec Ideal S16x8x1x256x256 .f32) : FVec Ideal S16x8x1x256 .f32 :=
  Host.reduce FloatOps.maximumf s (constant S_ .f32 0xFF800000#32) reducesTo_S16x8x1x256x256_S16x8x1x256_d4 h_S_

/-- A number per row, repeated along the row. -/
def rowNa (x : FVec Ideal S16x8x1x256 .f32) : FVec Ideal S16x8x1x256x256 .f32 :=
  broadcastInDim S16x8x1x256x256 ![0, 1, 2, 3, 4] bcast_S16x8x1x256x1_S16x8x1x256x256_0_1_2_3_4
    (broadcastInDim S16x8x1x256x1 ![0, 1, 2, 3] bcast_S16x8x1x256_S16x8x1x256x1_0_1_2_3 x)

/-- The larger of a number per row and −∞. -/
def topNa (x : FVec Ideal S16x8x1x256 .f32) : FVec Ideal S16x8x1x256 .f32 :=
  maximumf (broadcastInDim S16x8x1x256 ![] bcast_S_S16x8x1x256 (constant S_ .f32 0xFF800000#32)) x

/-- The unnormalised weights. -/
def expNa (s : FVec Ideal S16x8x1x256x256 .f32) : FVec Ideal S16x8x1x256x256 .f32 :=
  Host.exp (subf s (rowNa (topNa (maxNa s))))

/-- The row sums of the weights. -/
def denNa (e : FVec Ideal S16x8x1x256x256 .f32) : FVec Ideal S16x8x1x256 .f32 :=
  Host.reduceAdd e (constant S_ .f32 0x00000000#32) reducesTo_S16x8x1x256x256_S16x8x1x256_d4 h_S_

/-- The values, weighted and summed, the heads side by side again. -/
def mixNa (p : FVec Ideal S16x8x1x256x256 .f32) (v : FVec Ideal S4096x512 .f32) : FVec Ideal S4096x512 .bf16 :=
  truncf .bf16 (shapeCast _ (transpose S16x256x8x1x64 [0, 4, 1, 3, 2] (Host.dotGeneral dot_S16x256x8x64_S16x8x1x256x256_S16x8x64x1x256_1_4_3_23_02_01 none
    (shapeCast _ v shapeCasts_S4096x512_S16x256x8x64) p) transposes_S16x8x64x1x256_S16x256x8x1x64_0_4_1_3_2) shapeCasts_S16x256x8x1x64_S4096x512) bitsLt_bf16_f32

/-- The reference's result for these heads. -/
def refNa (q : FVec Ideal S4096x512 .bf16) (k v : FVec Ideal S4096x512 .f32) : FVec Ideal S4096x512 .bf16 :=
  mixNa (Host.divf (expNa (scoresNa q k)) (rowNa (denNa (expNa (scoresNa q k))))) v

theorem scoresNa_apply (q : FVec Ideal S4096x512 .bf16) (k : FVec Ideal S4096x512 .f32) (b : Fin 16) (h : Fin 8) (i j : Fin 256) :
    scoresNa q k (ix5 b h 0 i j) = ∑ d : Fin 64,
      q (ix2 ⟨b.val * 256 + i.val, by omega⟩ ⟨h.val * 64 + d.val, by omega⟩) * k (ix2 ⟨b.val * 256 + j.val, by omega⟩ ⟨h.val * 64 + d.val, by omega⟩) := by
  pointwise! [scoresNa]

theorem maxNa_apply (s : FVec Ideal S16x8x1x256x256 .f32) (b : Fin 16) (h : Fin 8) (i : Fin 256) :
    maxNa s (ix4 b h 0 i) = rowMax (fun x => s (ix5 b h 0 i x)) := by
  pointwise [maxNa]
  rw [neg_inf]; rfl

theorem rowNa_apply (x : FVec Ideal S16x8x1x256 .f32) (b : Fin 16) (h : Fin 8) (i j : Fin 256) :
    rowNa x (ix5 b h 0 i j) = x (ix4 b h 0 i) := by
  pointwise [rowNa]

theorem topNa_apply (x : FVec Ideal S16x8x1x256 .f32) (i : S16x8x1x256.Idx) : topNa x i = x i := by
  have h : topNa x i = max (Ideal.ofBits .f32 0xFF800000#32) (x i) := rfl
  rw [h, neg_inf, max_eq_right bot_le]

theorem subNa_apply (s t : FVec Ideal S16x8x1x256x256 .f32) (i : S16x8x1x256x256.Idx) : Host.exp (subf s t) i = Ideal.exp (s i - t i) := rfl

theorem expNa_apply (s : FVec Ideal S16x8x1x256x256 .f32) (b : Fin 16) (h : Fin 8) (i j : Fin 256) :
    expNa s (ix5 b h 0 i j) = wt (fun x => s (ix5 b h 0 i x)) j := by
  rw [expNa, subNa_apply, rowNa_apply, topNa_apply, maxNa_apply, wt]

theorem divNa_apply (s t : FVec Ideal S16x8x1x256x256 .f32) (i : S16x8x1x256x256.Idx) : Host.divf s t i = Ideal.div (s i) (t i) := rfl

theorem denNa_apply (e : FVec Ideal S16x8x1x256x256 .f32) (b : Fin 16) (h : Fin 8) (i : Fin 256) :
    denNa e (ix4 b h 0 i) = ∑ x, e (ix5 b h 0 i x) := by
  pointwise [denNa]

theorem mixNa_apply (p : FVec Ideal S16x8x1x256x256 .f32) (v : FVec Ideal S4096x512 .f32) (r : Fin 4096) (l : Fin 512) :
    mixNa p v (ix2 r l) = ∑ x : Fin 256, v (ix2 ⟨r.val / 256 * 256 + x.val, by omega⟩ l)
      * p (ix5 ⟨r.val / 256, by omega⟩ ⟨l.val / 64, by omega⟩ 0 ⟨r.val % 256, by omega⟩ x) := by
  pointwise [mixNa]

/-- Element `(r, l)` of the reference's result: softmax attention of query row `r` in lane `l`'s head. -/
theorem refNa_apply (q : FVec Ideal S4096x512 .bf16) (k v : FVec Ideal S4096x512 .f32) (r : Fin 4096) (l : Fin 512) :
    refNa q k v (ix2 r l) = attend
      (fun x : Fin 256 => ∑ d : Fin 64, q (ix2 r ⟨l.val / 64 * 64 + d.val, by omega⟩)
        * k (ix2 ⟨r.val / 256 * 256 + x.val, by omega⟩ ⟨l.val / 64 * 64 + d.val, by omega⟩))
      (fun x : Fin 256 => v (ix2 ⟨r.val / 256 * 256 + x.val, by omega⟩ l)) := by
  rw [refNa, mixNa_apply]
  refine Finset.sum_congr rfl fun x _ => congrArg _ ?_
  rw [divNa_apply, rowNa_apply, denNa_apply]
  simp only [expNa_apply, scoresNa_apply]
  have hr : r.val / 256 * 256 + r.val % 256 = r.val := by omega
  simp only [hr]

/-! ## The grouped-query heads -/

/-- The scores: each query row against each key row of its sequence, per head. -/
def scoresGqa (q : FVec Ideal S4096x512 .bf16) (k : FVec Ideal S4096x128 .f32) : FVec Ideal S16x2x4x256x256 .f32 :=
  transpose S16x2x4x256x256 [0, 1, 4, 3, 2] (Host.dotGeneral dot_S16x256x2x64_S16x256x2x4x64_S16x2x256x256x4_3_4_1_13_02_02 none
    (shapeCast _ k shapeCasts_S4096x128_S16x256x2x64)
    (shapeCast _ (extf .f32 q bitsLt_bf16_f32) shapeCasts_S4096x512_S16x256x2x4x64)) transposes_S16x2x256x256x4_S16x2x4x256x256_0_1_4_3_2

/-- The row maxima of the scores. -/
def maxGqa (s : FVec Ideal S16x2x4x256x256 .f32) : FVec Ideal S16x2x4x256 .f32 :=
  Host.reduce FloatOps.maximumf s (constant S_ .f32 0xFF800000#32) reducesTo_S16x2x4x256x256_S16x2x4x256_d4 h_S_

/-- A number per row, repeated along the row. -/
def rowGqa (x : FVec Ideal S16x2x4x256 .f32) : FVec Ideal S16x2x4x256x256 .f32 :=
  broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3 x)

/-- The larger of a number per row and −∞. -/
def topGqa (x : FVec Ideal S16x2x4x256 .f32) : FVec Ideal S16x2x4x256 .f32 :=
  maximumf (broadcastInDim S16x2x4x256 ![] bcast_S_S16x2x4x256 (constant S_ .f32 0xFF800000#32)) x

/-- The unnormalised weights. -/
def expGqa (s : FVec Ideal S16x2x4x256x256 .f32) : FVec Ideal S16x2x4x256x256 .f32 :=
  Host.exp (subf s (rowGqa (topGqa (maxGqa s))))

/-- The row sums of the weights. -/
def denGqa (e : FVec Ideal S16x2x4x256x256 .f32) : FVec Ideal S16x2x4x256 .f32 :=
  Host.reduceAdd e (constant S_ .f32 0x00000000#32) reducesTo_S16x2x4x256x256_S16x2x4x256_d4 h_S_

/-- The values, weighted and summed, the heads side by side again. -/
def mixGqa (p : FVec Ideal S16x2x4x256x256 .f32) (v : FVec Ideal S4096x128 .f32) : FVec Ideal S4096x512 .bf16 :=
  truncf .bf16 (shapeCast _ (transpose S16x256x2x4x64 [0, 4, 1, 3, 2] (Host.dotGeneral dot_S16x256x2x64_S16x2x4x256x256_S16x2x64x4x256_1_4_3_23_02_01 none
    (shapeCast _ v shapeCasts_S4096x128_S16x256x2x64) p) transposes_S16x2x64x4x256_S16x256x2x4x64_0_4_1_3_2) shapeCasts_S16x256x2x4x64_S4096x512) bitsLt_bf16_f32

/-- The reference's result for these heads. -/
def refGqa (q : FVec Ideal S4096x512 .bf16) (k v : FVec Ideal S4096x128 .f32) : FVec Ideal S4096x512 .bf16 :=
  mixGqa (Host.divf (expGqa (scoresGqa q k)) (rowGqa (denGqa (expGqa (scoresGqa q k))))) v

theorem scoresGqa_apply (q : FVec Ideal S4096x512 .bf16) (k : FVec Ideal S4096x128 .f32) (b : Fin 16) (h : Fin 2) (g : Fin 4) (i j : Fin 256) :
    scoresGqa q k (ix5 b h g i j) = ∑ d : Fin 64,
      q (ix2 ⟨b.val * 256 + i.val, by omega⟩ ⟨h.val * 256 + g.val * 64 + d.val, by omega⟩) * k (ix2 ⟨b.val * 256 + j.val, by omega⟩ ⟨h.val * 64 + d.val, by omega⟩) := by
  pointwise! [scoresGqa]

theorem maxGqa_apply (s : FVec Ideal S16x2x4x256x256 .f32) (b : Fin 16) (h : Fin 2) (g : Fin 4) (i : Fin 256) :
    maxGqa s (ix4 b h g i) = rowMax (fun x => s (ix5 b h g i x)) := by
  pointwise [maxGqa]
  rw [neg_inf]; rfl

theorem rowGqa_apply (x : FVec Ideal S16x2x4x256 .f32) (b : Fin 16) (h : Fin 2) (g : Fin 4) (i j : Fin 256) :
    rowGqa x (ix5 b h g i j) = x (ix4 b h g i) := by
  pointwise [rowGqa]

theorem topGqa_apply (x : FVec Ideal S16x2x4x256 .f32) (i : S16x2x4x256.Idx) : topGqa x i = x i := by
  have h : topGqa x i = max (Ideal.ofBits .f32 0xFF800000#32) (x i) := rfl
  rw [h, neg_inf, max_eq_right bot_le]

theorem subGqa_apply (s t : FVec Ideal S16x2x4x256x256 .f32) (i : S16x2x4x256x256.Idx) : Host.exp (subf s t) i = Ideal.exp (s i - t i) := rfl

theorem expGqa_apply (s : FVec Ideal S16x2x4x256x256 .f32) (b : Fin 16) (h : Fin 2) (g : Fin 4) (i j : Fin 256) :
    expGqa s (ix5 b h g i j) = wt (fun x => s (ix5 b h g i x)) j := by
  rw [expGqa, subGqa_apply, rowGqa_apply, topGqa_apply, maxGqa_apply, wt]

theorem divGqa_apply (s t : FVec Ideal S16x2x4x256x256 .f32) (i : S16x2x4x256x256.Idx) : Host.divf s t i = Ideal.div (s i) (t i) := rfl

theorem denGqa_apply (e : FVec Ideal S16x2x4x256x256 .f32) (b : Fin 16) (h : Fin 2) (g : Fin 4) (i : Fin 256) :
    denGqa e (ix4 b h g i) = ∑ x, e (ix5 b h g i x) := by
  pointwise [denGqa]

theorem mixGqa_apply (p : FVec Ideal S16x2x4x256x256 .f32) (v : FVec Ideal S4096x128 .f32) (r : Fin 4096) (l : Fin 512) :
    mixGqa p v (ix2 r l) = ∑ x : Fin 256, v (ix2 ⟨r.val / 256 * 256 + x.val, by omega⟩ ⟨l.val / 256 * 64 + l.val % 64, by omega⟩)
      * p (ix5 ⟨r.val / 256, by omega⟩ ⟨l.val / 256, by omega⟩ ⟨l.val / 64 % 4, by omega⟩ ⟨r.val % 256, by omega⟩ x) := by
  pointwise [mixGqa]

/-- Element `(r, l)` of the reference's result: softmax attention of query row `r` in lane `l`'s head. -/
theorem refGqa_apply (q : FVec Ideal S4096x512 .bf16) (k v : FVec Ideal S4096x128 .f32) (r : Fin 4096) (l : Fin 512) :
    refGqa q k v (ix2 r l) = attend
      (fun x : Fin 256 => ∑ d : Fin 64, q (ix2 r ⟨l.val / 64 * 64 + d.val, by omega⟩)
        * k (ix2 ⟨r.val / 256 * 256 + x.val, by omega⟩ ⟨l.val / 256 * 64 + d.val, by omega⟩))
      (fun x : Fin 256 => v (ix2 ⟨r.val / 256 * 256 + x.val, by omega⟩ ⟨l.val / 256 * 64 + l.val % 64, by omega⟩)) := by
  rw [refGqa, mixGqa_apply]
  refine Finset.sum_congr rfl fun x _ => congrArg _ ?_
  rw [divGqa_apply, rowGqa_apply, denGqa_apply]
  simp only [expGqa_apply, scoresGqa_apply]
  have hr : r.val / 256 * 256 + r.val % 256 = r.val := by omega
  have hl : l.val / 256 * 256 + l.val / 64 % 4 * 64 = l.val / 64 * 64 := by omega
  simp only [hr, hl]

end Cert.AttnRefIdeal.Rows

end
-- ==== Proof.AttnValue.lean ====
/- The attention kernel's two result arrays are the reference's, at finite queries and keys. -/
module

public import proofs.«01_k».proof.Proof.AttnPay
public import proofs.«01_k».proof.Proof.AttnRefPoint

@[expose] public section

set_option maxRecDepth 16384

noncomputable section

namespace Cert.AttnIdeal.Arrays

open Cert.AttnIdeal Cert.AttnIdeal.Gen Idealize.ShloMosaic Idealize.ShloMosaic.TcCoe Idealize.SL.Sem
open Idealize.ShloMosaic.Pipeline (Dat)
open Cert.Layer Cert.AttnIdeal.Lanes

/-- The four loads of a block of 512 lanes, each of one pair of heads. -/
theorem ld_1 {e : EltTy} (b : Vec Ideal S256x512 e) (r : Fin 256) (l : Fin 128) :
    View.ld b r0_1 (ix2 r l) = b (ix2 r ⟨0 * 128 + l.val, by omega⟩) := by
  refine View.ld_unit_apply_of _ _ _ _ _ _ fun a => ?_
  fin_cases a
  · exact (Nat.zero_add _).symm
  · rfl

theorem ld_2 {e : EltTy} (b : Vec Ideal S256x512 e) (r : Fin 256) (l : Fin 128) :
    View.ld b r0_2 (ix2 r l) = b (ix2 r ⟨1 * 128 + l.val, by omega⟩) := by
  refine View.ld_unit_apply_of _ _ _ _ _ _ fun a => ?_
  fin_cases a
  · exact (Nat.zero_add _).symm
  · rfl

theorem ld_3 {e : EltTy} (b : Vec Ideal S256x512 e) (r : Fin 256) (l : Fin 128) :
    View.ld b r0_3 (ix2 r l) = b (ix2 r ⟨2 * 128 + l.val, by omega⟩) := by
  refine View.ld_unit_apply_of _ _ _ _ _ _ fun a => ?_
  fin_cases a
  · exact (Nat.zero_add _).symm
  · rfl

theorem ld_4 {e : EltTy} (b : Vec Ideal S256x512 e) (r : Fin 256) (l : Fin 128) :
    View.ld b r0_4 (ix2 r l) = b (ix2 r ⟨3 * 128 + l.val, by omega⟩) := by
  refine View.ld_unit_apply_of _ _ _ _ _ _ fun a => ?_
  fin_cases a
  · exact (Nat.zero_add _).symm
  · rfl

/-- A pair's store, from the block of 512 lanes its queries are taken of and the keys and values taken for it. -/
theorem pair_block (o : Fin 4) (q k v : FVec Ideal S256x128 .f32) (x0 : FVec Ideal S256x512 .f32)
    (hq : ∀ r l, q (ix2 r l) = x0 (ix2 r ⟨o.val * 128 + l.val, by omega⟩)) (K V : Fin 256 → Fin 512 → EReal)
    (hk : ∀ x (l : Fin 128), k (ix2 x l) = K x ⟨o.val * 128 + l.val, by omega⟩)
    (hv : ∀ x (l : Fin 128), v (ix2 x l) = V x ⟨o.val * 128 + l.val, by omega⟩)
    (x : S256x128.Idx) (r : Fin 256) (l : Fin 512) (hr : r.val = (x 0).val) (hl : l.val = o.val * 128 + (x 1).val) :
    naPair q k v x = attendLate
      (fun y : Fin 256 => ∑ d : Fin 64, x0 (ix2 r ⟨l.val / 64 * 64 + d.val, by omega⟩)
        * K y ⟨l.val / 64 * 64 + d.val, by omega⟩)
      (fun y : Fin 256 => V y l) := by
  obtain rfl : r = x 0 := Fin.ext hr
  have hx : (x 1).val < 128 := (x 1).isLt
  have e : ∀ d : Fin 64, (⟨l.val / 64 * 64 + d.val, by omega⟩ : Fin 512)
      = ⟨o.val * 128 + ((x 1).val / 64 * 64 + d.val), by omega⟩ := fun d => Fin.ext (by
    show l.val / 64 * 64 + d.val = o.val * 128 + ((x 1).val / 64 * 64 + d.val)
    omega)
  rw [naPair_apply]
  unfold pairScore
  simp only [hq, hk, hv, e]
  congr 1
  · funext y
    exact Finset.sum_congr rfl fun d _ => congrArg (· * _) (hq (x 0) _)
  · have e' : (⟨o.val * 128 + (x 1).val, by omega⟩ : Fin 512) = l := Fin.ext hl.symm
    funext y
    exact (hv y (x 1)).trans (congrArg (V y) e')

/-- One element of a block of the neighbourhood heads' result, from the blocks of queries, keys and values. -/
theorem na_block (x0 : Vec Ideal S256x512 .bf16) (x1 x2 : Vec Ideal S256x512 .f32) (x3 : Vec Ideal S256x512 .bf16)
    (x4 x5 : Vec Ideal S256x128 .f32) (y : S256x512.Idx) (r : Fin 256) (l : Fin 512) (hr : (y 0).val = r.val)
    (hl : (y 1).val = l.val) :
    out0_6 (F := Ideal) x0 x1 x2 x3 x4 x5 y = attendLate
      (fun x : Fin 256 => ∑ d : Fin 64, x0 (ix2 r ⟨l.val / 64 * 64 + d.val, by omega⟩)
        * x1 (ix2 x ⟨l.val / 64 * 64 + d.val, by omega⟩))
      (fun x : Fin 256 => x2 (ix2 x l)) := by
  canon_tiles x h
  case piece0 =>
    show naPair (View.ld x0 r0_4) (View.ld x1 r0_4) (View.ld x2 r0_4) x = _
    exact pair_block 3 _ _ _ x0 (ld_4 x0) (fun y l => x1 (ix2 y l)) (fun y l => x2 (ix2 y l)) (ld_4 x1) (ld_4 x2)
      x r l (by omega) (by show l.val = 3 * 128 + (x 1).val; omega)
  case piece1 =>
    show naPair (View.ld x0 r0_3) (View.ld x1 r0_3) (View.ld x2 r0_3) x = _
    exact pair_block 2 _ _ _ x0 (ld_3 x0) (fun y l => x1 (ix2 y l)) (fun y l => x2 (ix2 y l)) (ld_3 x1) (ld_3 x2)
      x r l (by omega) (by show l.val = 2 * 128 + (x 1).val; omega)
  case piece2 =>
    show naPair (View.ld x0 r0_2) (View.ld x1 r0_2) (View.ld x2 r0_2) x = _
    exact pair_block 1 _ _ _ x0 (ld_2 x0) (fun y l => x1 (ix2 y l)) (fun y l => x2 (ix2 y l)) (ld_2 x1) (ld_2 x2)
      x r l (by omega) (by show l.val = 1 * 128 + (x 1).val; omega)
  case piece3 =>
    show naPair (View.ld x0 r0_1) (View.ld x1 r0_1) (View.ld x2 r0_1) x = _
    exact pair_block 0 _ _ _ x0 (ld_1 x0) (fun y l => x1 (ix2 y l)) (fun y l => x2 (ix2 y l)) (ld_1 x1) (ld_1 x2)
      x r l (by omega) (by show l.val = 0 * 128 + (x 1).val; omega)
/-- The load of a whole block of keys or values. -/
theorem ld_0 {e : EltTy} (b : Vec Ideal S256x128 e) : View.ld b r0_0 = b :=
  View.ld_unit_lit _ b (by intro a; fin_cases a <;> rfl)

/-- The low head laid out twice, at a lane of the first or second pair: the head that the lane's query head reads. -/
theorem low_at (g : Vec Ideal S256x128 .f32) (o : Nat) (ho : o < 2) (x : Fin 256) (l : Fin 128) :
    k0_pay12 (F := Ideal) (k0_pay2 (View.ld g r0_0)) (ix2 x l)
      = g (ix2 x ⟨(o * 128 + l.val) / 256 * 64 + (o * 128 + l.val) % 64, by omega⟩) := by
  rw [ld_0, dup_low]
  exact congrArg (fun j => g (ix2 x j)) (Fin.ext (by
    show l.val % 64 = (o * 128 + l.val) / 256 * 64 + (o * 128 + l.val) % 64
    omega))

/-- The high head, at a lane of the third or fourth pair. -/
theorem high_at (g : Vec Ideal S256x128 .f32) (o : Nat) (ho : 2 ≤ o) (ho' : o < 4) (x : Fin 256) (l : Fin 128) :
    k0_pay57 (F := Ideal) (k0_pay2 (View.ld g r0_0)) (ix2 x l)
      = g (ix2 x ⟨(o * 128 + l.val) / 256 * 64 + (o * 128 + l.val) % 64, by omega⟩) := by
  rw [ld_0, dup_high]
  exact congrArg (fun j => g (ix2 x j)) (Fin.ext (by
    show 64 + l.val % 64 = (o * 128 + l.val) / 256 * 64 + (o * 128 + l.val) % 64
    omega))

/-- One element of a block of the grouped-query heads' result: a head of keys and values serves four of queries. -/
theorem gqa_block (x0 : Vec Ideal S256x512 .bf16) (x1 x2 : Vec Ideal S256x512 .f32) (x3 : Vec Ideal S256x512 .bf16)
    (x4 x5 : Vec Ideal S256x128 .f32) (y : S256x512.Idx) (r : Fin 256) (l : Fin 512) (hr : (y 0).val = r.val)
    (hl : (y 1).val = l.val) :
    out0_7 (F := Ideal) x0 x1 x2 x3 x4 x5 y = attendLate
      (fun x : Fin 256 => ∑ d : Fin 64, x3 (ix2 r ⟨l.val / 64 * 64 + d.val, by omega⟩)
        * x4 (ix2 x ⟨l.val / 256 * 64 + d.val, by omega⟩))
      (fun x : Fin 256 => x5 (ix2 x ⟨l.val / 256 * 64 + l.val % 64, by omega⟩)) := by
  have e : ∀ d : Fin 64, (⟨(l.val / 64 * 64 + d.val) / 256 * 64 + (l.val / 64 * 64 + d.val) % 64, by omega⟩ : Fin 128)
      = ⟨l.val / 256 * 64 + d.val, by omega⟩ := fun d => Fin.ext (by
    show (l.val / 64 * 64 + d.val) / 256 * 64 + (l.val / 64 * 64 + d.val) % 64 = l.val / 256 * 64 + d.val
    omega)
  have done : ∀ z : EReal, z = attendLate
      (fun x : Fin 256 => ∑ d : Fin 64, x3 (ix2 r ⟨l.val / 64 * 64 + d.val, by omega⟩)
        * x4 (ix2 x ⟨(l.val / 64 * 64 + d.val) / 256 * 64 + (l.val / 64 * 64 + d.val) % 64, by omega⟩))
      (fun x : Fin 256 => x5 (ix2 x ⟨l.val / 256 * 64 + l.val % 64, by omega⟩)) → z = attendLate
      (fun x : Fin 256 => ∑ d : Fin 64, x3 (ix2 r ⟨l.val / 64 * 64 + d.val, by omega⟩)
        * x4 (ix2 x ⟨l.val / 256 * 64 + d.val, by omega⟩))
      (fun x : Fin 256 => x5 (ix2 x ⟨l.val / 256 * 64 + l.val % 64, by omega⟩)) := by
    intro z hz
    rw [hz]
    simp only [e]
  canon_tiles x h
  case piece0 =>
    refine done _ ?_
    show naPair (View.ld x3 r0_4) (k0_pay57 (k0_pay2 (View.ld x4 r0_0))) (k0_pay58 (k0_pay3 (View.ld x5 r0_0))) x = _
    exact pair_block 3 _ _ _ x3 (ld_4 x3) (fun y j => x4 (ix2 y ⟨j.val / 256 * 64 + j.val % 64, by omega⟩))
      (fun y j => x5 (ix2 y ⟨j.val / 256 * 64 + j.val % 64, by omega⟩)) (high_at x4 3 (by omega) (by omega)) (high_at x5 3 (by omega) (by omega))
      x r l (by omega) (by show l.val = 3 * 128 + (x 1).val; omega)
  case piece1 =>
    refine done _ ?_
    show naPair (View.ld x3 r0_3) (k0_pay42 (k0_pay2 (View.ld x4 r0_0))) (k0_pay43 (k0_pay3 (View.ld x5 r0_0))) x = _
    exact pair_block 2 _ _ _ x3 (ld_3 x3) (fun y j => x4 (ix2 y ⟨j.val / 256 * 64 + j.val % 64, by omega⟩))
      (fun y j => x5 (ix2 y ⟨j.val / 256 * 64 + j.val % 64, by omega⟩)) (high_at x4 2 (by omega) (by omega)) (high_at x5 2 (by omega) (by omega))
      x r l (by omega) (by show l.val = 2 * 128 + (x 1).val; omega)
  case piece2 =>
    refine done _ ?_
    show naPair (View.ld x3 r0_2) (k0_pay27 (k0_pay2 (View.ld x4 r0_0))) (k0_pay28 (k0_pay3 (View.ld x5 r0_0))) x = _
    exact pair_block 1 _ _ _ x3 (ld_2 x3) (fun y j => x4 (ix2 y ⟨j.val / 256 * 64 + j.val % 64, by omega⟩))
      (fun y j => x5 (ix2 y ⟨j.val / 256 * 64 + j.val % 64, by omega⟩)) (low_at x4 1 (by omega)) (low_at x5 1 (by omega))
      x r l (by omega) (by show l.val = 1 * 128 + (x 1).val; omega)
  case piece3 =>
    refine done _ ?_
    show naPair (View.ld x3 r0_1) (k0_pay12 (k0_pay2 (View.ld x4 r0_0))) (k0_pay13 (k0_pay3 (View.ld x5 r0_0))) x = _
    exact pair_block 0 _ _ _ x3 (ld_1 x3) (fun y j => x4 (ix2 y ⟨j.val / 256 * 64 + j.val % 64, by omega⟩))
      (fun y j => x5 (ix2 y ⟨j.val / 256 * 64 + j.val % 64, by omega⟩)) (low_at x4 0 (by omega)) (low_at x5 0 (by omega))
      x r l (by omega) (by show l.val = 0 * 128 + (x 1).val; omega)

end Cert.AttnIdeal.Arrays

end
-- ==== Proof.AttnFinal.lean ====
/- The attention kernel's two result arrays are the reference's, where queries and keys are finite. -/
module

public import proofs.«01_k».proof.Defs
public import proofs.«01_k».proof.Proof.AttnValue

@[expose] public section

set_option maxRecDepth 16384

noncomputable section

namespace Cert.AttnIdeal.Arrays

open Cert.AttnIdeal Cert.AttnIdeal.Gen Idealize.ShloMosaic Idealize.ShloMosaic.TcCoe Idealize.SL.Sem
open Idealize.ShloMosaic.Pipeline (Dat)
open Cert.Layer Cert.AttnIdeal.Lanes Cert.AttnRefIdeal.Rows

/-- An array whose entries are real numbers. -/
def Reals {s : Shape} (x : s.Idx → EReal) : Prop := ∀ i, ∃ r : ℝ, x i = r

/-- A number whose absolute value tests below +∞ is a real number. -/
theorem real_of_test (x b : EReal) (hb : b = ⊤) (h : Ideal.cmp .olt (max x (-x)) b = 1#1) : ∃ r : ℝ, x = r := by
  subst hb
  induction x with
  | bot => simp [Ideal.cmp] at h
  | top => simp [Ideal.cmp] at h
  | coe r => exact ⟨r, rfl⟩

theorem pat32 : Ideal.ofBits .f32 0x7F800000#32 = ⊤ := by simp [Ideal.ofBits, Ideal.ieee]
theorem pat16 : Ideal.ofBits .bf16 0x7F80#16 = ⊤ := by simp [Ideal.ofBits, Ideal.ieee]

variable [Cert.Pre_finite_scores.Facts] (m : (ℓ : Loc nD τ sig) → Buf (Elt Ideal) ℓ)

/-- Under the condition, the entries of the first queries are real numbers. -/
theorem real_arg0 (H : Pre_AttnIdeal_finite_scores m) (c : Dev nD) : Reals (s := S4096x512) (V m c main_arg0) := fun i =>
  real_of_test _ _ pat16 (congrFun (H c).1 i)

/-- Under the condition, the entries of the first keys are real numbers. -/
theorem real_arg1 (H : Pre_AttnIdeal_finite_scores m) (c : Dev nD) : Reals (s := S4096x512) (V m c main_arg1) := fun i =>
  real_of_test _ _ pat32 (congrFun (H c).2.1 i)

/-- Under the condition, the entries of the second queries are real numbers. -/
theorem real_arg3 (H : Pre_AttnIdeal_finite_scores m) (c : Dev nD) : Reals (s := S4096x512) (V m c main_arg3) := fun i =>
  real_of_test _ _ pat16 (congrFun (H c).2.2.1 i)

/-- Under the condition, the entries of the second keys are real numbers. -/
theorem real_arg4 (H : Pre_AttnIdeal_finite_scores m) (c : Dev nD) : Reals (s := S4096x128) (V m c main_arg4) := fun i =>
  real_of_test _ _ pat32 (congrFun (H c).2.2.2 i)

/-- Which block of each array grid point `t` works on. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The blocks the kernel reads, as rows of the argument arrays. -/
theorem blk0 (c : Dev nD) (t : Fin cfg0.N) (r : Fin 256) (l : Fin 512) :
    (iblk m c 0 t : S256x512.Idx → EReal) (ix2 r l)
      = (V m c main_arg0 : S4096x512.Idx → EReal) (ix2 ⟨t.val * 256 + r.val, by have : t.val < 16 := t.isLt; omega⟩ l) := by
  obtain ⟨e,_,_,_,_,_,_,_⟩ := idx t
  blk_ext [iblk, V, e]

theorem blk1 (c : Dev nD) (t : Fin cfg0.N) (r : Fin 256) (l : Fin 512) :
    (iblk m c 1 t : S256x512.Idx → EReal) (ix2 r l)
      = (V m c main_arg1 : S4096x512.Idx → EReal) (ix2 ⟨t.val * 256 + r.val, by have : t.val < 16 := t.isLt; omega⟩ l) := by
  obtain ⟨_,e,_,_,_,_,_,_⟩ := idx t
  blk_ext [iblk, V, e]

theorem blk2 (c : Dev nD) (t : Fin cfg0.N) (r : Fin 256) (l : Fin 512) :
    (iblk m c 2 t : S256x512.Idx → EReal) (ix2 r l)
      = (V m c main_arg2 : S4096x512.Idx → EReal) (ix2 ⟨t.val * 256 + r.val, by have : t.val < 16 := t.isLt; omega⟩ l) := by
  obtain ⟨_,_,e,_,_,_,_,_⟩ := idx t
  blk_ext [iblk, V, e]

theorem blk3 (c : Dev nD) (t : Fin cfg0.N) (r : Fin 256) (l : Fin 512) :
    (iblk m c 3 t : S256x512.Idx → EReal) (ix2 r l)
      = (V m c main_arg3 : S4096x512.Idx → EReal) (ix2 ⟨t.val * 256 + r.val, by have : t.val < 16 := t.isLt; omega⟩ l) := by
  obtain ⟨_,_,_,e,_,_,_,_⟩ := idx t
  blk_ext [iblk, V, e]

theorem blk4 (c : Dev nD) (t : Fin cfg0.N) (r : Fin 256) (l : Fin 128) :
    (iblk m c 4 t : S256x128.Idx → EReal) (ix2 r l)
      = (V m c main_arg4 : S4096x128.Idx → EReal) (ix2 ⟨t.val * 256 + r.val, by have : t.val < 16 := t.isLt; omega⟩ l) := by
  obtain ⟨_,_,_,_,e,_,_,_⟩ := idx t
  blk_ext [iblk, V, e]

theorem blk5 (c : Dev nD) (t : Fin cfg0.N) (r : Fin 256) (l : Fin 128) :
    (iblk m c 5 t : S256x128.Idx → EReal) (ix2 r l)
      = (V m c main_arg5 : S4096x128.Idx → EReal) (ix2 ⟨t.val * 256 + r.val, by have : t.val < 16 := t.isLt; omega⟩ l) := by
  obtain ⟨_,_,_,_,_,e,_,_⟩ := idx t
  blk_ext [iblk, V, e]

/-- The neighbourhood heads' array. -/
theorem final6 (c : Dev nD) (hq : Reals (s := S4096x512) (V m c main_arg0)) (hk : Reals (s := S4096x512) (V m c main_arg1)) :
    (dats m 0 c).arrAt 6 cfg0.N = refNa (V m c main_arg0) (V m c main_arg1) (V m c main_arg2) := by
  refine (dats m 0 c).arrAt_eq_of_covers 6 _ (by decide +kernel) fun t _ y => ?_
  blk_simp
  rw [after0_6]
  obtain ⟨_,_,_,_,_,_,e,_⟩ := idx t
  have y0 : (y 0).val < 256 := (y 0).isLt
  have y1 : (y 1).val < 512 := (y 1).isLt
  have ht : t.val < 16 := t.isLt
  have hy : (win0_6.blk t).view.emb y = ix2 (⟨t.val * 256 + (y 0).val, by omega⟩ : Fin 4096) (⟨(y 1).val, y1⟩ : Fin 512) := by
    blk_ext [e]
  have hx : ∀ x : Fin 256, (⟨(t.val * 256 + (y 0).val) / 256 * 256 + x.val, by omega⟩ : Fin 4096) = ⟨t.val * 256 + x.val, by omega⟩ :=
    fun x => Fin.ext (by show (t.val * 256 + (y 0).val) / 256 * 256 + x.val = t.val * 256 + x.val; omega)
  rw [hy, refNa_apply]
  refine (na_block _ _ _ _ _ _ y ⟨(y 0).val, y0⟩ ⟨(y 1).val, y1⟩ rfl rfl).trans ?_
  refine Eq.trans ?_ (attendLate_eq (fun x => dot_real (fun d => hq _) (fun d => hk _)) _)
  simp only [hx]
  congr 1
  · funext x
    exact Finset.sum_congr rfl fun d _ => congrArg₂ (· * ·) (blk0 m c t _ _) (blk1 m c t _ _)
  · funext x
    exact blk2 m c t _ _

/-- The grouped-query heads' array. -/
theorem final7 (c : Dev nD) (hq : Reals (s := S4096x512) (V m c main_arg3)) (hk : Reals (s := S4096x128) (V m c main_arg4)) :
    (dats m 0 c).arrAt 7 cfg0.N = refGqa (V m c main_arg3) (V m c main_arg4) (V m c main_arg5) := by
  refine (dats m 0 c).arrAt_eq_of_covers 7 _ (by decide +kernel) fun t _ y => ?_
  blk_simp
  rw [after0_7]
  obtain ⟨_,_,_,_,_,_,_,e⟩ := idx t
  have y0 : (y 0).val < 256 := (y 0).isLt
  have y1 : (y 1).val < 512 := (y 1).isLt
  have ht : t.val < 16 := t.isLt
  have hy : (win0_7.blk t).view.emb y = ix2 (⟨t.val * 256 + (y 0).val, by omega⟩ : Fin 4096) (⟨(y 1).val, y1⟩ : Fin 512) := by
    blk_ext [e]
  have hx : ∀ x : Fin 256, (⟨(t.val * 256 + (y 0).val) / 256 * 256 + x.val, by omega⟩ : Fin 4096) = ⟨t.val * 256 + x.val, by omega⟩ :=
    fun x => Fin.ext (by show (t.val * 256 + (y 0).val) / 256 * 256 + x.val = t.val * 256 + x.val; omega)
  rw [hy, refGqa_apply]
  refine (gqa_block _ _ _ _ _ _ y ⟨(y 0).val, y0⟩ ⟨(y 1).val, y1⟩ rfl rfl).trans ?_
  refine Eq.trans ?_ (attendLate_eq (fun x => dot_real (fun d => hq _) (fun d => hk _)) _)
  simp only [hx]
  congr 1
  · funext x
    exact Finset.sum_congr rfl fun d _ => congrArg₂ (· * ·) (blk3 m c t _ _) (blk4 m c t _ _)
  · funext x
    exact blk5 m c t _ _

end Cert.AttnIdeal.Arrays

end
-- ==== Proof.Rows.lean ====
/- The arithmetic of the layer's dense steps, one row at a time, over the extended reals: the root-mean-square norm,
   modulation, and the gated update. -/
module

public import Idealize.ShloMosaic.Lib.Pointwise
public import Idealize.ShloMosaic.Lib.IdealHost

@[expose] public section

noncomputable section

namespace Cert.Layer

open Idealize.ShloMosaic

/-- The number one, as the programs print it. -/
def one : EReal := Ideal.ofBits .f32 0x3F800000#32

theorem one_eq : one = 1 := Ideal.ofBits_one_f32

/-- The number one half, as the programs print it. -/
def half : EReal := Ideal.ofBits .f32 0x3F000000#32

/-- The reciprocal root of a row's mean square plus epsilon. -/
def invRms (x : Fin 1024 → EReal) : EReal :=
  Ideal.rsqrt (Ideal.div (∑ k, x k * x k) (Ideal.ofBits .f32 0x44800000#32) + Ideal.ofBits .f32 0x358637BD#32)

/-- A row normed, gained, scaled and shifted. -/
def modulated (x g sh sc : Fin 1024 → EReal) (l : Fin 1024) : EReal :=
  x l * invRms x * g l * (one + sc l) + sh l

/-- A row plus its gated, normed and gained update. -/
def gatedSum (x y g gate : Fin 1024 → EReal) (w : EReal) (l : Fin 1024) : EReal :=
  x l + w * gate l * (y l * invRms y * g l)

/-- The logistic function as a quotient. -/
def sig (x : EReal) : EReal := Ideal.div one (one + Ideal.exp (-x))

theorem logistic_eq (x : EReal) : Ideal.logistic x = sig x := by
  rw [sig, one_eq]; rfl

/-- The gated activation at one hidden column. -/
def act (a u : EReal) : EReal := a * sig a * u

end Cert.Layer

end
-- ==== Proof.FfnPay.lean ====
/- The feed-forward kernel's block computations, element by element. -/
module

public import proofs.«01_k».proof.Proof.Rows
public import proofs.«01_k».proof.Proof.Gen.FfnIdeal.Value
public import Idealize.ShloMosaic.Lib.Pipeline.ValueKit

@[expose] public section

set_option maxRecDepth 65536

noncomputable section

namespace Cert.FfnIdeal.Blocks

open Cert.FfnIdeal Cert.FfnIdeal.Gen Idealize.ShloMosaic Idealize.ShloMosaic.TcCoe Idealize.SL.Sem
open Cert.Layer

abbrev BX := Vec Ideal S512x1024 .f32
abbrev BH := FVec Ideal S512x1024 .bf16
abbrev BM := Vec Ideal S1x9x1024 .f32
abbrev BG := Vec Ideal S1x1024 .f32
abbrev BA := Vec Ideal S1024x256 .bf16
abbrev BW := Vec Ideal S256x1024 .bf16

/-- The modulated rows of a block. -/
theorem pay3_apply (x : BX) (md : BM) (g : BG) (r : Fin 512) (l : Fin 1024) :
    k0_pay3 x md g (ix2 r l) = modulated (fun k => x (ix2 r k)) (fun k => g (ix2 0 k)) (fun k => md (ix3 0 6 k)) (fun k => md (ix3 0 7 k)) l := by
  pointwise [k0_pay3, k0_pay1, k0_pay2, modulated, invRms, one]

/-- One chunk's product. -/
theorem pay7_apply (h : BH) (wa wu : BA) (w2 : BW) (r : Fin 512) (l : Fin 1024) :
    k0_pay7 h wa wu w2 (ix2 r l) = ∑ j : Fin 256, act (∑ k : Fin 1024, h (ix2 r k) * wa (ix2 k j)) (∑ k : Fin 1024, h (ix2 r k) * wu (ix2 k j)) * w2 (ix2 j l) := by
  simp only [act, ← logistic_eq]
  pointwise [k0_pay7]

theorem pay8_apply (p a : BX) (r : Fin 512) (l : Fin 1024) : k0_pay8 p a (ix2 r l) = a (ix2 r l) + p (ix2 r l) := by
  pointwise [k0_pay8]

theorem pay5_apply (p : FVec Ideal S512x1024 .f32) (r : Fin 512) (l : Fin 1024) : k0_pay5 p (ix2 r l) = p (ix2 r l) := by
  pointwise [k0_pay5]

theorem pay23_apply (x : BX) (md : BM) (y : BX) (g : BG) (r : Fin 512) (l : Fin 1024) :
    k0_pay23 (k0_pay1 x) (k0_pay2 md) y g (ix2 r l) = gatedSum (fun k => x (ix2 r k)) (fun k => y (ix2 r k)) (fun k => g (ix2 0 k)) (fun k => md (ix3 0 8 k)) half l := by
  pointwise [k0_pay23, k0_pay1, k0_pay2, gatedSum, invRms, half]

/-! The chunks' computations differ only in where they are cut, so they are one function. -/

theorem pay4_eq (x : BX) (md : BM) (g : BG) (wa wu : BA) (w2 : BW) : k0_pay4 x md g wa wu w2 = k0_pay7 (k0_pay3 x md g) wa wu w2 := rfl
theorem pay6_eq (h : BH) (wa wu : BA) (w2 : BW) (a : BX) : k0_pay6 h wa wu w2 a = k0_pay8 (k0_pay7 h wa wu w2) a := rfl
theorem pay9_eq (h : BH) (wa wu : BA) (w2 : BW) (a : BX) : k0_pay9 h wa wu w2 a = k0_pay8 (k0_pay7 h wa wu w2) a := rfl
theorem pay11_eq (h : BH) (wa wu : BA) (w2 : BW) (a : BX) : k0_pay11 (k0_pay10 h wa wu) w2 a = k0_pay8 (k0_pay7 h wa wu w2) a := rfl
theorem pay12_eq (h : BH) (wa wu : BA) (w2 : BW) (a : BX) : k0_pay12 h wa wu w2 a = k0_pay8 (k0_pay7 h wa wu w2) a := rfl
theorem pay15_eq (h : BH) (wa wu : BA) (w2 : BW) (a : BX) : k0_pay15 (k0_pay13 h wu) (k0_pay14 h wa) w2 a = k0_pay8 (k0_pay7 h wa wu w2) a := rfl
theorem pay16_eq (h : BH) (wa wu : BA) (w2 : BW) (a : BX) : k0_pay16 h wa wu w2 a = k0_pay8 (k0_pay7 h wa wu w2) a := rfl
theorem pay19_eq (h : BH) (wa wu : BA) (w2 : BW) (a : BX) : k0_pay19 h (k0_pay17 h wa) (k0_pay18 wu) w2 a = k0_pay8 (k0_pay7 h wa wu w2) a := rfl
theorem pay20_eq (h : BH) (wa wu : BA) (w2 : BW) (a : BX) : k0_pay20 h wa wu w2 a = k0_pay8 (k0_pay7 h wa wu w2) a := rfl
theorem pay22_eq (h : BH) (wa wu : BA) (w2 : BW) (a : BX) : k0_pay22 h (k0_pay21 h wa) wu w2 a = k0_pay8 (k0_pay7 h wa wu w2) a := rfl

end Cert.FfnIdeal.Blocks

end
-- ==== Proof.FfnBlock.lean ====
/- What the feed-forward kernel writes at one grid point: each row's feed-forward, with the hidden columns summed in eleven chunks. -/
module

public import proofs.«01_k».proof.Proof.FfnPay

@[expose] public section

set_option maxRecDepth 65536

noncomputable section

namespace Cert.FfnIdeal.Blocks

open Cert.FfnIdeal Cert.FfnIdeal.Gen Idealize.ShloMosaic Idealize.ShloMosaic.TcCoe Idealize.SL.Sem
open Cert.Layer

abbrev W1 := Vec Ideal S1024x5632 .bf16
abbrev W2 := Vec Ideal S2816x1024 .bf16

/-- A load of 256 columns of the first weights. -/
abbrev la (w : W1) (o : ℕ) (inb : ∀ a, (![0, o] : Fin 2 → Nat) a + S1024x256.size a ≤ S1024x5632.size a) : BA :=
  View.ld w (Rect.unit (s := S1024x5632) ![0, o] S1024x256.size inb)

/-- A load of 256 rows of the second weights. -/
abbrev lw (w : W2) (o : ℕ) (inb : ∀ a, (![o, 0] : Fin 2 → Nat) a + S256x1024.size a ≤ S2816x1024.size a) : BW :=
  View.ld w (Rect.unit (s := S2816x1024) ![o, 0] S256x1024.size inb)

/-- A load of one row of the gains. -/
abbrev lg (w : Vec Ideal S6x1024 .f32) (o : ℕ) (inb : ∀ a, (![o, 0] : Fin 2 → Nat) a + S1x1024.size a ≤ S6x1024.size a) : BG :=
  View.ld w (Rect.unit (s := S6x1024) ![o, 0] S1x1024.size inb)

theorem la_apply (w : W1) (o : ℕ) (inb) (ho : o + 256 ≤ 5632) (k : Fin 1024) (j : Fin 256) :
    la w o inb (ix2 k j) = w (ix2 k ⟨o + j.val, by omega⟩) := by
  refine View.ld_unit_apply_of _ _ _ _ _ _ fun a => ?_
  fin_cases a
  · exact (Nat.zero_add _).symm
  · rfl

theorem lw_apply (w : W2) (o : ℕ) (inb) (ho : o + 256 ≤ 2816) (j : Fin 256) (l : Fin 1024) :
    lw w o inb (ix2 j l) = w (ix2 ⟨o + j.val, by omega⟩ l) := by
  refine View.ld_unit_apply_of _ _ _ _ _ _ fun a => ?_
  fin_cases a
  · rfl
  · exact (Nat.zero_add _).symm

theorem lg_apply (w : Vec Ideal S6x1024 .f32) (o : ℕ) (inb) (ho : o < 6) (l : Fin 1024) :
    lg w o inb (ix2 0 l) = w (ix2 ⟨o, ho⟩ l) := by
  refine View.ld_unit_apply_of _ _ _ _ _ _ fun a => ?_
  fin_cases a
  · rfl
  · exact (Nat.zero_add _).symm

/-- One hidden column's contribution to lane `l` of a row. -/
def term (h : Fin 1024 → EReal) (w1 : W1) (w2 : W2) (l : Fin 1024) (j : Fin 2816) : EReal :=
  act (∑ k : Fin 1024, h k * w1 (ix2 k ⟨j.val, by omega⟩)) (∑ k : Fin 1024, h k * w1 (ix2 k ⟨2816 + j.val, by omega⟩)) * w2 (ix2 j l)

theorem chunk (h : BH) (w1 : W1) (w2 : W2) (o o' : ℕ) (i1 i2 i3) (ho : o + 256 ≤ 2816) (ho' : o' = 2816 + o) (r : Fin 512) (l : Fin 1024) :
    k0_pay7 h (la w1 o i1) (la w1 o' i2) (lw w2 o i3) (ix2 r l)
      = ∑ j : Fin 256, term (fun k => h (ix2 r k)) w1 w2 l ⟨o + j.val, by omega⟩ := by
  subst ho'
  rw [pay7_apply]
  refine Finset.sum_congr rfl fun j _ => ?_
  rw [lw_apply w2 o i3 ho, term]
  simp only [la_apply w1 o i1 (by omega), la_apply w1 (2816 + o) i2 (by omega), Nat.add_assoc]

theorem eleven (f : Fin 11 → EReal) : ∑ s, f s = ((((((((((f 0 + f 1) + f 2) + f 3) + f 4) + f 5) + f 6) + f 7) + f 8) + f 9) + f 10) := by
  simp only [Fin.sum_univ_castSucc, Fin.sum_univ_zero, zero_add]
  rfl

theorem tiles (f : Fin 2816 → EReal) :
    ((((((((((∑ j : Fin 256, f ⟨0 + j.val, by omega⟩) + ∑ j : Fin 256, f ⟨256 + j.val, by omega⟩) + ∑ j : Fin 256, f ⟨512 + j.val, by omega⟩) + ∑ j : Fin 256, f ⟨768 + j.val, by omega⟩) + ∑ j : Fin 256, f ⟨1024 + j.val, by omega⟩) + ∑ j : Fin 256, f ⟨1280 + j.val, by omega⟩) + ∑ j : Fin 256, f ⟨1536 + j.val, by omega⟩) + ∑ j : Fin 256, f ⟨1792 + j.val, by omega⟩) + ∑ j : Fin 256, f ⟨2048 + j.val, by omega⟩) + ∑ j : Fin 256, f ⟨2304 + j.val, by omega⟩) + ∑ j : Fin 256, f ⟨2560 + j.val, by omega⟩ = ∑ k, f k := by
  rw [Fin.sum_univ_tiles 11 256 rfl f]
  rw [eleven]
  rfl

variable (x : BX) (md : BM) (g : Vec Ideal S6x1024 .f32) (w1 : W1) (w2 : W2)

/-- What the scratch holds after the last chunk. -/
def acc : BX :=
  k0_pay22 (k0_pay3 x md (lg g 4 inb_S6x1024_S1x1024_4_0)) (k0_pay21 (k0_pay3 x md (lg g 4 inb_S6x1024_S1x1024_4_0)) (la w1 2560 inb_S1024x5632_S1024x256_0_2560)) (la w1 5376 inb_S1024x5632_S1024x256_0_5376) (lw w2 2560 inb_S2816x1024_S256x1024_2560_0) (k0_pay20 (k0_pay3 x md (lg g 4 inb_S6x1024_S1x1024_4_0)) (la w1 2304 inb_S1024x5632_S1024x256_0_2304) (la w1 5120 inb_S1024x5632_S1024x256_0_5120) (lw w2 2304 inb_S2816x1024_S256x1024_2304_0) (k0_pay19 (k0_pay3 x md (lg g 4 inb_S6x1024_S1x1024_4_0)) (k0_pay17 (k0_pay3 x md (lg g 4 inb_S6x1024_S1x1024_4_0)) (la w1 2048 inb_S1024x5632_S1024x256_0_2048)) (k0_pay18 (la w1 4864 inb_S1024x5632_S1024x256_0_4864)) (lw w2 2048 inb_S2816x1024_S256x1024_2048_0) (k0_pay16 (k0_pay3 x md (lg g 4 inb_S6x1024_S1x1024_4_0)) (la w1 1792 inb_S1024x5632_S1024x256_0_1792) (la w1 4608 inb_S1024x5632_S1024x256_0_4608) (lw w2 1792 inb_S2816x1024_S256x1024_1792_0) (k0_pay15 (k0_pay13 (k0_pay3 x md (lg g 4 inb_S6x1024_S1x1024_4_0)) (la w1 4352 inb_S1024x5632_S1024x256_0_4352)) (k0_pay14 (k0_pay3 x md (lg g 4 inb_S6x1024_S1x1024_4_0)) (la w1 1536 inb_S1024x5632_S1024x256_0_1536)) (lw w2 1536 inb_S2816x1024_S256x1024_1536_0) (k0_pay12 (k0_pay3 x md (lg g 4 inb_S6x1024_S1x1024_4_0)) (la w1 1280 inb_S1024x5632_S1024x256_0_1280) (la w1 4096 inb_S1024x5632_S1024x256_0_4096) (lw w2 1280 inb_S2816x1024_S256x1024_1280_0) (k0_pay11 (k0_pay10 (k0_pay3 x md (lg g 4 inb_S6x1024_S1x1024_4_0)) (la w1 1024 inb_S1024x5632_S1024x256_0_1024) (la w1 3840 inb_S1024x5632_S1024x256_0_3840)) (lw w2 1024 inb_S2816x1024_S256x1024_1024_0) (k0_pay9 (k0_pay3 x md (lg g 4 inb_S6x1024_S1x1024_4_0)) (la w1 768 inb_S1024x5632_S1024x256_0_768) (la w1 3584 inb_S1024x5632_S1024x256_0_3584) (lw w2 768 inb_S2816x1024_S256x1024_768_0) (k0_pay8 (k0_pay7 (k0_pay3 x md (lg g 4 inb_S6x1024_S1x1024_4_0)) (la w1 512 inb_S1024x5632_S1024x256_0_512) (la w1 3328 inb_S1024x5632_S1024x256_0_3328) (lw w2 512 inb_S2816x1024_S256x1024_512_0)) (k0_pay6 (k0_pay3 x md (lg g 4 inb_S6x1024_S1x1024_4_0)) (la w1 256 inb_S1024x5632_S1024x256_0_256) (la w1 3072 inb_S1024x5632_S1024x256_0_3072) (lw w2 256 inb_S2816x1024_S256x1024_256_0) (k0_pay5 (k0_pay4 x md (lg g 4 inb_S6x1024_S1x1024_4_0) (la w1 0 inb_S1024x5632_S1024x256_0_0) (la w1 2816 inb_S1024x5632_S1024x256_0_2816) (lw w2 0 inb_S2816x1024_S256x1024_0_0))))))))))))

theorem acc_apply (r : Fin 512) (l : Fin 1024) : acc x md g w1 w2 (ix2 r l)
    = ∑ j : Fin 2816, term (modulated (fun k => x (ix2 r k)) (fun k => g (ix2 4 k)) (fun k => md (ix3 0 6 k)) (fun k => md (ix3 0 7 k))) w1 w2 l j := by
  have hh : (fun k => k0_pay3 x md (lg g 4 inb_S6x1024_S1x1024_4_0) (ix2 r k))
      = modulated (fun k => x (ix2 r k)) (fun k => g (ix2 4 k)) (fun k => md (ix3 0 6 k)) (fun k => md (ix3 0 7 k)) := by
    funext k
    rw [pay3_apply]
    simp only [lg_apply g 4 _ (by omega)]
    rfl
  rw [← tiles, ← hh, acc]
  rw [pay22_eq, pay20_eq, pay19_eq, pay16_eq, pay15_eq, pay12_eq, pay11_eq, pay9_eq, pay6_eq, pay4_eq]
  simp only [pay8_apply, pay5_apply]
  rw [chunk _ w1 w2 0 2816 _ _ _ (by omega) (by omega)]
  rw [chunk _ w1 w2 256 3072 _ _ _ (by omega) (by omega)]
  rw [chunk _ w1 w2 512 3328 _ _ _ (by omega) (by omega)]
  rw [chunk _ w1 w2 768 3584 _ _ _ (by omega) (by omega)]
  rw [chunk _ w1 w2 1024 3840 _ _ _ (by omega) (by omega)]
  rw [chunk _ w1 w2 1280 4096 _ _ _ (by omega) (by omega)]
  rw [chunk _ w1 w2 1536 4352 _ _ _ (by omega) (by omega)]
  rw [chunk _ w1 w2 1792 4608 _ _ _ (by omega) (by omega)]
  rw [chunk _ w1 w2 2048 4864 _ _ _ (by omega) (by omega)]
  rw [chunk _ w1 w2 2304 5120 _ _ _ (by omega) (by omega)]
  rw [chunk _ w1 w2 2560 5376 _ _ _ (by omega) (by omega)]

/-- Lane `l` of row `r` of what the kernel writes. -/
theorem block_apply (r : Fin 512) (l : Fin 1024) :
    k0_pay23 (k0_pay1 x) (k0_pay2 md) (acc x md g w1 w2) (lg g 5 inb_S6x1024_S1x1024_5_0) (ix2 r l)
      = gatedSum (fun k => x (ix2 r k))
          (fun k => ∑ j : Fin 2816, term (modulated (fun k => x (ix2 r k)) (fun k => g (ix2 4 k)) (fun k => md (ix3 0 6 k)) (fun k => md (ix3 0 7 k))) w1 w2 k j)
          (fun k => g (ix2 5 k)) (fun k => md (ix3 0 8 k)) half l := by
  rw [pay23_apply]
  simp only [acc_apply, lg_apply g 5 _ (by omega)]
  rfl

end Cert.FfnIdeal.Blocks

end
-- ==== Proof.FfnRefPoint.lean ====
/- The feed-forward reference's result, element by element. -/
module

public import proofs.«01_k».proof.Proof.Rows
public import proofs.«01_k».proof.Proof.Gen.FfnRefIdeal.Run

@[expose] public section

set_option maxRecDepth 16384

noncomputable section

namespace Cert.FfnRefIdeal.Rows

open Cert.FfnRefIdeal Cert.FfnRefIdeal.Gen Idealize.ShloMosaic Idealize.ShloMosaic.TcCoe Idealize.SL.Sem
open Cert.FfnRefIdeal.Facts Cert.Layer

/-- Every row's reciprocal root mean square. -/
def invS (x : FVec Ideal S8x1024x1024 .f32) : FVec Ideal S8x1024x1 .f32 :=
  Host.rsqrt (addf (Host.divf (broadcastInDim S8x1024x1 ![0, 1] bcast_S8x1024_S8x1024x1_0_1 (Host.reduceAdd (mulf x x) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))

/-- The normed rows. -/
def normS (x : FVec Ideal S8x1024x1024 .f32) : FVec Ideal S8x1024x1024 .f32 :=
  mulf x (broadcastInDim S8x1024x1024 ![0, 1, 2] bcast_S8x1024x1_S8x1024x1024_0_1_2 (invS x))

/-- The gain before the step, on every row. -/
def gainS (g : FVec Ideal S6x1024 .f32) : FVec Ideal S8x1024x1024 .f32 :=
  broadcastInDim S8x1024x1024 ![0, 1, 2] bcast_S1x1x1024_S8x1024x1024_0_1_2 (broadcastInDim S1x1x1024 ![2] bcast_S1024_S1x1x1024_2 (shapeCast _ (extractStridedSlice S1x1024 ![4, 0] g slices_S6x1024_S1x1024_4_0) shapeCasts_S1x1024_S1024))

/-- The gain after the step, on every row. -/
def gainT (g : FVec Ideal S6x1024 .f32) : FVec Ideal S8x1024x1024 .f32 :=
  broadcastInDim S8x1024x1024 ![0, 1, 2] bcast_S1x1x1024_S8x1024x1024_0_1_2 (broadcastInDim S1x1x1024 ![2] bcast_S1024_S1x1x1024_2 (shapeCast _ (extractStridedSlice S1x1024 ![5, 0] g slices_S6x1024_S1x1024_5_0) shapeCasts_S1x1024_S1024))

/-- The step's three modulation rows per batch. -/
def modS (md : FVec Ideal S8x9x1024 .f32) : FVec Ideal S8x3x1024 .f32 :=
  shapeCast _ (extractStridedSlice S8x1x3x1024 ![0, 2, 0, 0] (shapeCast _ md shapeCasts_S8x9x1024_S8x3x3x1024) slices_S8x3x3x1024_S8x1x3x1024_0_2_0_0) shapeCasts_S8x1x3x1024_S8x3x1024

/-- The scale rows, plus one, on every row. -/
def scaleS (md : FVec Ideal S8x3x1024 .f32) : FVec Ideal S8x1024x1024 .f32 :=
  broadcastInDim S8x1024x1024 ![0, 1, 2] bcast_S8x1x1024_S8x1024x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] md slices_S8x3x1024_S8x1x1024_0_1_0) shapeCasts_S8x1x1024_S8x1024)))

/-- The shift rows, on every row. -/
def shiftS (md : FVec Ideal S8x3x1024 .f32) : FVec Ideal S8x1024x1024 .f32 :=
  broadcastInDim S8x1024x1024 ![0, 1, 2] bcast_S8x1x1024_S8x1024x1024_0_1_2 (broadcastInDim S8x1x1024 ![0, 2] bcast_S8x1024_S8x1x1024_0_2 (shapeCast _ (extractStridedSlice S8x1x1024 ![0, 0, 0] md slices_S8x3x1024_S8x1x1024_0_0_0) shapeCasts_S8x1x1024_S8x1024))

/-- The gate rows, weighted, on every row. -/
def gateS (md : FVec Ideal S8x3x1024 .f32) : FVec Ideal S8x1024x1024 .f32 :=
  broadcastInDim S8x1024x1024 ![0, 1, 2] bcast_S8x1x1024_S8x1024x1024_0_1_2 (mulf (broadcastInDim S8x1x1024 ![] bcast_S_S8x1x1024 (constant S_ .f32 0x3F000000#32)) (broadcastInDim S8x1x1024 ![0, 2] bcast_S8x1024_S8x1x1024_0_2 (shapeCast _ (extractStridedSlice S8x1x1024 ![0, 2, 0] md slices_S8x3x1024_S8x1x1024_0_2_0) shapeCasts_S8x1x1024_S8x1024)))

/-- The modulated rows. -/
def rowsS (x : FVec Ideal S8x1024x1024 .f32) (md : FVec Ideal S8x9x1024 .f32) (g : FVec Ideal S6x1024 .f32) : FVec Ideal S8x1024x1024 .f32 :=
  addf (mulf (mulf (normS x) (gainS g)) (scaleS (modS md))) (shiftS (modS md))

/-- The rows plus their update. -/
def sumS (x : FVec Ideal S8x1024x1024 .f32) (md : FVec Ideal S8x9x1024 .f32) (g : FVec Ideal S6x1024 .f32) (y : FVec Ideal S8x1024x1024 .f32) : FVec Ideal S8192x1024 .f32 :=
  shapeCast _ (addf x (mulf (gateS (modS md)) (mulf (normS y) (gainT g)))) shapeCasts_S8x1024x1024_S8192x1024

theorem invS_apply (x : FVec Ideal S8x1024x1024 .f32) (b : Fin 8) (r : Fin 1024) :
    invS x (ix3 b r 0) = invRms (fun k => x (ix3 b r k)) := by
  pointwise [invS, invRms]

theorem normS_apply (x : FVec Ideal S8x1024x1024 .f32) (b : Fin 8) (r l : Fin 1024) :
    normS x (ix3 b r l) = x (ix3 b r l) * invRms (fun k => x (ix3 b r k)) := by
  rw [← invS_apply]
  generalize hi : invS x = y
  pointwise [normS, hi]

theorem gainS_apply (g : FVec Ideal S6x1024 .f32) (b : Fin 8) (r l : Fin 1024) : gainS g (ix3 b r l) = g (ix2 4 l) := by
  pointwise [gainS]

theorem gainT_apply (g : FVec Ideal S6x1024 .f32) (b : Fin 8) (r l : Fin 1024) : gainT g (ix3 b r l) = g (ix2 5 l) := by
  pointwise [gainT]

theorem modS_apply (md : FVec Ideal S8x9x1024 .f32) (b : Fin 8) (s : Fin 3) (l : Fin 1024) :
    modS md (ix3 b s l) = md (ix3 b ⟨2 * 3 + s.val, by omega⟩ l) := by
  pointwise! [modS]

theorem scaleS_apply (md : FVec Ideal S8x3x1024 .f32) (b : Fin 8) (r l : Fin 1024) : scaleS md (ix3 b r l) = one + md (ix3 b 1 l) := by
  pointwise [scaleS, one]

theorem shiftS_apply (md : FVec Ideal S8x3x1024 .f32) (b : Fin 8) (r l : Fin 1024) : shiftS md (ix3 b r l) = md (ix3 b 0 l) := by
  pointwise [shiftS]

theorem gateS_apply (md : FVec Ideal S8x3x1024 .f32) (b : Fin 8) (r l : Fin 1024) : gateS md (ix3 b r l) = half * md (ix3 b 2 l) := by
  pointwise [gateS, half]

theorem rowsS_apply (x : FVec Ideal S8x1024x1024 .f32) (md : FVec Ideal S8x9x1024 .f32) (g : FVec Ideal S6x1024 .f32) (b : Fin 8) (r l : Fin 1024) :
    rowsS x md g (ix3 b r l) = modulated (fun k => x (ix3 b r k)) (fun k => g (ix2 4 k)) (fun k => md (ix3 b 6 k)) (fun k => md (ix3 b 7 k)) l := by
  show normS x (ix3 b r l) * gainS g (ix3 b r l) * scaleS (modS md) (ix3 b r l) + shiftS (modS md) (ix3 b r l) = _
  rw [normS_apply, gainS_apply, scaleS_apply, shiftS_apply, modS_apply, modS_apply]
  rfl

/-- Element `(r, l)` of the rows plus their update. -/
theorem sumS_apply (x : FVec Ideal S8x1024x1024 .f32) (md : FVec Ideal S8x9x1024 .f32) (g : FVec Ideal S6x1024 .f32) (y : FVec Ideal S8x1024x1024 .f32)
    (r : Fin 8192) (l : Fin 1024) :
    sumS x md g y (ix2 r l) = gatedSum (fun k => x (ix3 ⟨r.val / 1024, by omega⟩ ⟨r.val % 1024, by omega⟩ k))
      (fun k => y (ix3 ⟨r.val / 1024, by omega⟩ ⟨r.val % 1024, by omega⟩ k)) (fun k => g (ix2 5 k)) (fun k => md (ix3 ⟨r.val / 1024, by omega⟩ 8 k)) half l := by
  have h : sumS x md g y (ix2 r l) = addf x (mulf (gateS (modS md)) (mulf (normS y) (gainT g))) (ix3 ⟨r.val / 1024, by omega⟩ ⟨r.val % 1024, by omega⟩ l) := by
    generalize hz : addf x (mulf (gateS (modS md)) (mulf (normS y) (gainT g))) = z
    pointwise! [sumS, hz]
  rw [h]
  show x (ix3 _ _ l) + gateS (modS md) (ix3 _ _ l) * (normS y (ix3 _ _ l) * gainT g (ix3 _ _ l)) = _
  rw [gateS_apply, normS_apply, gainT_apply, modS_apply]
  rfl

/-- The hidden columns, both halves. -/
def hidS (h : FVec Ideal S8x1024x1024 .f32) (w : FVec Ideal S1024x5632 .f32) : FVec Ideal S8x1024x5632 .f32 :=
  Host.dotGeneral dot_S8x1024x1024_S1024x5632_S8x1024x5632_2_0_01_1_n_n none h w

/-- The first half. -/
def fstS (z : FVec Ideal S8x1024x5632 .f32) : FVec Ideal S8x1024x2816 .f32 :=
  extractStridedSlice S8x1024x2816 ![0, 0, 0] z slices_S8x1024x5632_S8x1024x2816_0_0_0

/-- The second half. -/
def sndS (z : FVec Ideal S8x1024x5632 .f32) : FVec Ideal S8x1024x2816 .f32 :=
  extractStridedSlice S8x1024x2816 ![0, 0, 2816] z slices_S8x1024x5632_S8x1024x2816_0_0_2816

/-- The activations. -/
def actS (z : FVec Ideal S8x1024x5632 .f32) : FVec Ideal S8x1024x2816 .f32 :=
  mulf (mulf (fstS z) (Host.divf (broadcastInDim S8x1024x2816 ![] bcast_S_S8x1024x2816 (constant S_ .f32 0x3F800000#32)) (addf (broadcastInDim S8x1024x2816 ![] bcast_S_S8x1024x2816 (constant S_ .f32 0x3F800000#32)) (Host.exp (Host.negf (fstS z)))))) (sndS z)

/-- The step's rows. -/
def outS (a : FVec Ideal S8x1024x2816 .f32) (w : FVec Ideal S2816x1024 .f32) : FVec Ideal S8x1024x1024 .f32 :=
  Host.dotGeneral dot_S8x1024x2816_S2816x1024_S8x1024x1024_2_0_01_1_n_n none a w

/-- The reference's result. -/
def refS (x : FVec Ideal S8x1024x1024 .f32) (md : FVec Ideal S8x9x1024 .f32) (g : FVec Ideal S6x1024 .f32) (w1 : FVec Ideal S1024x5632 .f32)
    (w2 : FVec Ideal S2816x1024 .f32) : FVec Ideal S8192x1024 .f32 :=
  sumS x md g (outS (actS (hidS (rowsS x md g) w1)) w2)

theorem hidS_apply (h : FVec Ideal S8x1024x1024 .f32) (w : FVec Ideal S1024x5632 .f32) (b : Fin 8) (r : Fin 1024) (j : Fin 5632) :
    hidS h w (ix3 b r j) = ∑ k : Fin 1024, h (ix3 b r k) * w (ix2 k j) := by
  pointwise [hidS]

theorem fstS_apply (z : FVec Ideal S8x1024x5632 .f32) (b : Fin 8) (r : Fin 1024) (j : Fin 2816) : fstS z (ix3 b r j) = z (ix3 b r ⟨j.val, by omega⟩) := by
  pointwise! [fstS]

theorem sndS_apply (z : FVec Ideal S8x1024x5632 .f32) (b : Fin 8) (r : Fin 1024) (j : Fin 2816) : sndS z (ix3 b r j) = z (ix3 b r ⟨2816 + j.val, by omega⟩) := by
  pointwise! [sndS]

theorem actS_apply (z : FVec Ideal S8x1024x5632 .f32) (b : Fin 8) (r : Fin 1024) (j : Fin 2816) :
    actS z (ix3 b r j) = act (z (ix3 b r ⟨j.val, by omega⟩)) (z (ix3 b r ⟨2816 + j.val, by omega⟩)) := by
  show fstS z (ix3 b r j) * Cert.Layer.sig (fstS z (ix3 b r j)) * sndS z (ix3 b r j) = _
  rw [fstS_apply, sndS_apply]
  rfl

theorem outS_apply (a : FVec Ideal S8x1024x2816 .f32) (w : FVec Ideal S2816x1024 .f32) (b : Fin 8) (r l : Fin 1024) :
    outS a w (ix3 b r l) = ∑ j : Fin 2816, a (ix3 b r j) * w (ix2 j l) := by
  pointwise [outS]

/-- Element `(r, l)` of the reference's result. -/
theorem refS_apply (x : FVec Ideal S8x1024x1024 .f32) (md : FVec Ideal S8x9x1024 .f32) (g : FVec Ideal S6x1024 .f32) (w1 : FVec Ideal S1024x5632 .f32)
    (w2 : FVec Ideal S2816x1024 .f32) (r : Fin 8192) (l : Fin 1024) :
    refS x md g w1 w2 (ix2 r l) = gatedSum (fun k => x (ix3 ⟨r.val / 1024, by omega⟩ ⟨r.val % 1024, by omega⟩ k))
      (fun l => ∑ j : Fin 2816, act
        (∑ k : Fin 1024, modulated (fun k => x (ix3 ⟨r.val / 1024, by omega⟩ ⟨r.val % 1024, by omega⟩ k)) (fun k => g (ix2 4 k))
          (fun k => md (ix3 ⟨r.val / 1024, by omega⟩ 6 k)) (fun k => md (ix3 ⟨r.val / 1024, by omega⟩ 7 k)) k * w1 (ix2 k ⟨j.val, by omega⟩))
        (∑ k : Fin 1024, modulated (fun k => x (ix3 ⟨r.val / 1024, by omega⟩ ⟨r.val % 1024, by omega⟩ k)) (fun k => g (ix2 4 k))
          (fun k => md (ix3 ⟨r.val / 1024, by omega⟩ 6 k)) (fun k => md (ix3 ⟨r.val / 1024, by omega⟩ 7 k)) k * w1 (ix2 k ⟨2816 + j.val, by omega⟩))
        * w2 (ix2 j l))
      (fun k => g (ix2 5 k)) (fun k => md (ix3 ⟨r.val / 1024, by omega⟩ 8 k)) half l := by
  rw [refS, sumS_apply]
  simp only [outS_apply, actS_apply, hidS_apply, rowsS_apply]

/-- What the run leaves in the result buffer. -/
theorem run_eq (m : (ℓ : Loc nD τ sig) → Buf (Elt Ideal) ℓ) (c : Dev nD) :
    Cert.FfnRefIdeal.Value.res_main_v61 m c = refS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.FfnRefIdeal.Rows

end
-- ==== Proof.FfnFinal.lean ====
/- The feed-forward kernel's result array is the reference's. -/
module

public import proofs.«01_k».proof.Proof.FfnBlock
public import proofs.«01_k».proof.Proof.FfnRefPoint
public import Idealize.ShloMosaic.Adequacy
public import Idealize.ShloMosaic.Init
public import Idealize.ShloMosaic.Lib.Claim

@[expose] public section

set_option maxRecDepth 16384

noncomputable section

namespace Cert.FfnIdeal.Arrays

open Cert.FfnIdeal Cert.FfnIdeal.Gen Idealize.ShloMosaic Idealize.ShloMosaic.TcCoe Idealize.SL.Sem
open Idealize.ShloMosaic.Pipeline (Dat)
open Cert.Layer Cert.FfnIdeal.Blocks Cert.FfnRefIdeal.Rows

variable (m : (ℓ : Loc nD τ sig) → Buf (Elt Ideal) ℓ)

/-- Which block of each array grid point `t` works on. -/
theorem idx : ∀ t : Fin cfg0.N, win0_0.index t = ![t.val, 0] ∧ win0_1.index t = ![t.val / 2, 0, 0] ∧ win0_2.index t = ![0, 0]
    ∧ win0_3.index t = ![0, 0] ∧ win0_4.index t = ![0, 0] ∧ win0_5.index t = ![t.val, 0] :=
  (by decide +kernel : ∀ t : Fin grid0.N, _)

/-- The arguments as the region's run finds them. -/
abbrev a0 (c : Dev nD) : S8x1024x1024.Idx → EReal := m ((c : Thread nD τ).loc main_arg0)
abbrev a1 (c : Dev nD) : S8x9x1024.Idx → EReal := m ((c : Thread nD τ).loc main_arg1)
abbrev a2 (c : Dev nD) : S6x1024.Idx → EReal := m ((c : Thread nD τ).loc main_arg2)
abbrev a3 (c : Dev nD) : S1024x5632.Idx → EReal := m ((c : Thread nD τ).loc main_arg3)
abbrev a4 (c : Dev nD) : S2816x1024.Idx → EReal := m ((c : Thread nD τ).loc main_arg4)

theorem v0 (c : Dev nD) (r : Fin 8192) (l : Fin 1024) :
    (V m c main_v0 : S8192x1024.Idx → EReal) (ix2 r l) = a0 m c (ix3 ⟨r.val / 1024, by omega⟩ ⟨r.val % 1024, by omega⟩ l) := by
  entry_read
  pointwise!

theorem v1 (c : Dev nD) : (V m c main_v1 : S1024x5632.Idx → EReal) = a3 m c := by
  entry_read
  rfl

theorem v2 (c : Dev nD) : (V m c main_v2 : S2816x1024.Idx → EReal) = a4 m c := by
  entry_read
  rfl

theorem blk0 (c : Dev nD) (t : Fin cfg0.N) (r : Fin 512) (l : Fin 1024) :
    (iblk m c 0 t : S512x1024.Idx → EReal) (ix2 r l)
      = (V m c main_v0 : S8192x1024.Idx → EReal) (ix2 ⟨t.val * 512 + r.val, by have : t.val < 16 := t.isLt; omega⟩ l) := by
  obtain ⟨e,_,_,_,_,_⟩ := idx t
  blk_ext [iblk, e]

theorem blk1 (c : Dev nD) (t : Fin cfg0.N) (s : Fin 9) (l : Fin 1024) :
    (iblk m c 1 t : S1x9x1024.Idx → EReal) (ix3 0 s l)
      = (V m c main_arg1 : S8x9x1024.Idx → EReal) (ix3 ⟨t.val / 2, by have : t.val < 16 := t.isLt; omega⟩ s l) := by
  obtain ⟨_,e,_,_,_,_⟩ := idx t
  blk_ext [iblk, e]

theorem blk2 (c : Dev nD) (t : Fin cfg0.N) (s : Fin 6) (l : Fin 1024) :
    (iblk m c 2 t : S6x1024.Idx → EReal) (ix2 s l) = (V m c main_arg2 : S6x1024.Idx → EReal) (ix2 s l) := by
  obtain ⟨_,_,e,_,_,_⟩ := idx t
  blk_ext [iblk, e]

theorem blk3 (c : Dev nD) (t : Fin cfg0.N) (k : Fin 1024) (j : Fin 5632) :
    (iblk m c 3 t : S1024x5632.Idx → EReal) (ix2 k j) = (V m c main_v1 : S1024x5632.Idx → EReal) (ix2 k j) := by
  obtain ⟨_,_,_,e,_,_⟩ := idx t
  blk_ext [iblk, e]

theorem blk4 (c : Dev nD) (t : Fin cfg0.N) (j : Fin 2816) (l : Fin 1024) :
    (iblk m c 4 t : S2816x1024.Idx → EReal) (ix2 j l) = (V m c main_v2 : S2816x1024.Idx → EReal) (ix2 j l) := by
  obtain ⟨_,_,_,_,e,_⟩ := idx t
  blk_ext [iblk, e]

/-- What the kernel writes, at an index given by its row and lane. -/
theorem block_at (x : BX) (md : BM) (g : Vec Ideal S6x1024 .f32) (w1 : W1) (w2 : W2) (y : S512x1024.Idx) (r : Fin 512) (l : Fin 1024)
    (hy : y = ix2 r l) :
    k0_pay23 (k0_pay1 x) (k0_pay2 md) (acc x md g w1 w2) (lg g 5 inb_S6x1024_S1x1024_5_0) y
      = gatedSum (fun k => x (ix2 r k))
          (fun k => ∑ j : Fin 2816, term (modulated (fun k => x (ix2 r k)) (fun k => g (ix2 4 k)) (fun k => md (ix3 0 6 k)) (fun k => md (ix3 0 7 k))) w1 w2 k j)
          (fun k => g (ix2 5 k)) (fun k => md (ix3 0 8 k)) half l := by
  rw [hy, block_apply]

/-- Row `r` of block `t` is the reference's row. -/
theorem row_eq (c : Dev nD) (t : Fin cfg0.N) (r : Fin 512) (l : Fin 1024) (R : Fin 8192) (hR : R.val = t.val * 512 + r.val) :
    gatedSum (fun k => (iblk m c 0 t : S512x1024.Idx → EReal) (ix2 r k))
      (fun k => ∑ j : Fin 2816, term (modulated (fun k => (iblk m c 0 t : S512x1024.Idx → EReal) (ix2 r k)) (fun k => (iblk m c 2 t : S6x1024.Idx → EReal) (ix2 4 k))
        (fun k => (iblk m c 1 t : S1x9x1024.Idx → EReal) (ix3 0 6 k)) (fun k => (iblk m c 1 t : S1x9x1024.Idx → EReal) (ix3 0 7 k)))
        (iblk m c 3 t) (iblk m c 4 t) k j)
      (fun k => (iblk m c 2 t : S6x1024.Idx → EReal) (ix2 5 k)) (fun k => (iblk m c 1 t : S1x9x1024.Idx → EReal) (ix3 0 8 k)) half l
    = refS (a0 m c) (a1 m c) (a2 m c) (a3 m c) (a4 m c) (ix2 R l) := by
  have ht : t.val < 16 := t.isLt
  have h0 : ∀ k, (iblk m c 0 t : S512x1024.Idx → EReal) (ix2 r k) = a0 m c (ix3 ⟨R.val / 1024, by omega⟩ ⟨R.val % 1024, by omega⟩ k) := by
    intro k
    have e : (⟨t.val * 512 + r.val, by omega⟩ : Fin 8192) = R := Fin.ext hR.symm
    rw [blk0, v0, e]
  have h1 : ∀ s k, (iblk m c 1 t : S1x9x1024.Idx → EReal) (ix3 0 s k) = a1 m c (ix3 ⟨R.val / 1024, by omega⟩ s k) := by
    intro s k
    have e : (⟨t.val / 2, by omega⟩ : Fin 8) = ⟨R.val / 1024, by omega⟩ := Fin.ext (by show t.val / 2 = R.val / 1024; omega)
    rw [blk1, e, V_main_arg1]
  have h2 : ∀ s k, (iblk m c 2 t : S6x1024.Idx → EReal) (ix2 s k) = a2 m c (ix2 s k) := fun s k => by rw [blk2, V_main_arg2]
  have h3 : ∀ k j, (iblk m c 3 t : S1024x5632.Idx → EReal) (ix2 k j) = a3 m c (ix2 k j) := fun k j => by rw [blk3, v1]
  have h4 : ∀ j l, (iblk m c 4 t : S2816x1024.Idx → EReal) (ix2 j l) = a4 m c (ix2 j l) := fun j l => by rw [blk4, v2]
  rw [refS_apply]
  simp only [term, h0, h1, h2, h3, h4]

/-- The feed-forward's array. -/
theorem final5 (c : Dev nD) : (dats m 0 c).arrAt 5 cfg0.N = refS (a0 m c) (a1 m c) (a2 m c) (a3 m c) (a4 m c) := by
  refine (dats m 0 c).arrAt_eq_of_covers 5 _ (by decide +kernel) fun t _ y => ?_
  blk_simp
  rw [after0_5]; unfold Gen.outsAt0
  frame_out
  obtain ⟨_,_,_,_,_,e⟩ := idx t
  have y0 : (y 0).val < 512 := (y 0).isLt
  have y1 : (y 1).val < 1024 := (y 1).isLt
  have ht : t.val < 16 := t.isLt
  have hy : (win0_5.blk t).view.emb y = ix2 (⟨t.val * 512 + (y 0).val, by omega⟩ : Fin 8192) (⟨(y 1).val, y1⟩ : Fin 1024) := by
    blk_ext [e]
  rw [hy]
  refine (block_at _ _ _ _ _ y ⟨(y 0).val, y0⟩ ⟨(y 1).val, y1⟩ (eq_ix2 y)).trans ?_
  exact row_eq m c t _ _ _ rfl

end Cert.FfnIdeal.Arrays

end
-- ==== Proof.MergeBlock.lean ====
/- What the merge kernel writes at one grid point, element by element. -/
module

public import proofs.«01_k».proof.Proof.Rows
public import proofs.«01_k».proof.Proof.Gen.MergeIdeal.Value
public import Idealize.ShloMosaic.Lib.Pipeline.ValueKit

@[expose] public section

set_option maxRecDepth 65536

noncomputable section

namespace Cert.MergeIdeal.Blocks

open Cert.MergeIdeal Cert.MergeIdeal.Gen Idealize.ShloMosaic Idealize.ShloMosaic.TcCoe Idealize.SL.Sem
open Cert.Layer

abbrev BX := Vec Ideal S256x1024 .f32
abbrev BH := FVec Ideal S256x1024 .bf16
abbrev BM := Vec Ideal S1x9x1024 .f32
abbrev BG := Vec Ideal S1x1024 .f32
abbrev BA := Vec Ideal S1024x1024 .bf16
abbrev BB := Vec Ideal S256x512 .bf16
abbrev BC := Vec Ideal S1x512x1024 .bf16

/-- The modulated rows of a block. -/
theorem pay4_apply (x : BX) (md : BM) (g : BG) (r : Fin 256) (l : Fin 1024) :
    k0_pay4 x md g (ix2 r l) = modulated (fun k => x (ix2 r k)) (fun k => g (ix2 0 k)) (fun k => md (ix3 0 3 k)) (fun k => md (ix3 0 4 k)) l := by
  pointwise [k0_pay4, k0_pay3, k0_pay2, modulated, invRms, one]

/-- One branch's gated projection. -/
def gated (h : Fin 1024 → EReal) (w : Fin 1024 → EReal) (b : Fin 512 → EReal) (c : Fin 512 → EReal) : EReal :=
  Cert.Layer.sig (∑ k, h k * w k) * ∑ d, b d * c d

theorem pay5_apply (x : BX) (md : BM) (g : BG) (w : BA) (b : BB) (c : BC) (r : Fin 256) (j : Fin 1024) :
    k0_pay5 x md g w b c (ix2 r j) = gated (fun k => k0_pay4 x md g (ix2 r k)) (fun k => w (ix2 k j)) (fun d => b (ix2 r d)) (fun d => c (ix3 0 d j)) := by
  simp only [gated, ← logistic_eq]
  generalize hh : k0_pay4 x md g = h
  pointwise [k0_pay5, hh]

theorem pay6_apply (w : BA) (k j : Fin 1024) : k0_pay6 w (ix2 k j) = w (ix2 k j) := by
  pointwise [k0_pay6]

theorem pay7_apply (h : BH) (a : BX) (w1 : BA) (b1 : BB) (c1 : BC) (w2 : BA) (b2 : BB) (c2 : BC) (w3 : BA) (b3 : BB) (c3 : BC) (wo : BA)
    (r : Fin 256) (l : Fin 1024) :
    k0_pay7 h a w1 b1 c1 w2 b2 c2 w3 b3 c3 wo (ix2 r l) = ∑ j : Fin 1024,
      (((a (ix2 r j) + gated (fun k => h (ix2 r k)) (fun k => w1 (ix2 k j)) (fun d => b1 (ix2 r d)) (fun d => c1 (ix3 0 d j)))
        + gated (fun k => h (ix2 r k)) (fun k => w2 (ix2 k j)) (fun d => b2 (ix2 r d)) (fun d => c2 (ix3 0 d j)))
        + gated (fun k => h (ix2 r k)) (fun k => w3 (ix2 k j)) (fun d => b3 (ix2 r d)) (fun d => c3 (ix3 0 d j))) * wo (ix2 j l) := by
  simp only [gated, ← logistic_eq]
  pointwise [k0_pay7]

theorem pay1_apply (x : BX) (md : BM) (y : FVec Ideal S256x1024 .f32) (g : BG) (r : Fin 256) (l : Fin 1024) :
    k0_pay1 (k0_pay2 x) (k0_pay3 md) y g (ix2 r l) = gatedSum (fun k => x (ix2 r k)) (fun k => y (ix2 r k)) (fun k => g (ix2 0 k)) (fun k => md (ix3 0 5 k)) one l := by
  rw [one_eq]
  pointwise [k0_pay1, k0_pay2, k0_pay3, gatedSum, invRms, one_mul]

/-! ## The loads -/

theorem ldw (w : Vec Ideal S1024x4096 .bf16) (o : ℕ) (inb) (ho : o + 1024 ≤ 4096) (k j : Fin 1024) :
    (View.ld w (Rect.unit (s := S1024x4096) ![0, o] S1024x1024.size inb) : BA) (ix2 k j) = w (ix2 k ⟨o + j.val, by omega⟩) := by
  refine View.ld_unit_apply_of _ _ _ _ _ _ fun a => ?_
  fin_cases a
  · exact (Nat.zero_add _).symm
  · rfl

theorem ldc (w : Vec Ideal S4x512x1024 .bf16) (o : ℕ) (inb) (ho : o < 4) (d : Fin 512) (j : Fin 1024) :
    (View.ld w (Rect.unit (s := S4x512x1024) ![o, 0, 0] S1x512x1024.size inb) : BC) (ix3 0 d j) = w (ix3 ⟨o, ho⟩ d j) := by
  refine View.ld_unit_apply_of _ _ _ _ _ _ fun a => ?_
  fin_cases a
  · rfl
  · exact (Nat.zero_add _).symm
  · exact (Nat.zero_add _).symm

theorem ldg (w : Vec Ideal S6x1024 .f32) (o : ℕ) (inb) (ho : o < 6) (l : Fin 1024) :
    (View.ld w (Rect.unit (s := S6x1024) ![o, 0] S1x1024.size inb) : BG) (ix2 0 l) = w (ix2 ⟨o, ho⟩ l) := by
  refine View.ld_unit_apply_of _ _ _ _ _ _ fun a => ?_
  fin_cases a
  · rfl
  · exact (Nat.zero_add _).symm

/-- One branch's gated projection from the whole weights. -/
def branch (h : Fin 1024 → EReal) (w : S1024x4096.Idx → EReal) (c : S4x512x1024.Idx → EReal) (b : Fin 512 → EReal) (s : Fin 4) (j : Fin 1024) : EReal :=
  gated h (fun k => w (ix2 k ⟨s.val * 1024 + j.val, by omega⟩)) b (fun d => c (ix3 s d j))

/-- Lane `l` of row `r` of what the kernel writes. -/
theorem block_at (x0 : BX) (x1 : BM) (x2 : Vec Ideal S6x1024 .f32) (x3 : Vec Ideal S1024x4096 .bf16) (x4 x5 x6 x7 : BB) (x8 : Vec Ideal S4x512x1024 .bf16)
    (x9 : BA) (y : S256x1024.Idx) (r : Fin 256) (l : Fin 1024) (hy : y = ix2 r l) (h : Fin 1024 → EReal)
    (hh : h = modulated (fun k => x0 (ix2 r k)) (fun k => x2 (ix2 2 k)) (fun k => x1 (ix3 0 3 k)) (fun k => x1 (ix3 0 4 k))) :
    out0_10 x0 x1 x2 x3 x4 x5 x6 x7 x8 x9 y = gatedSum (fun k => x0 (ix2 r k))
      (fun l => ∑ j : Fin 1024, (((branch h x3 x8 (fun d => x4 (ix2 r d)) 0 j + branch h x3 x8 (fun d => x5 (ix2 r d)) 1 j)
        + branch h x3 x8 (fun d => x6 (ix2 r d)) 2 j) + branch h x3 x8 (fun d => x7 (ix2 r d)) 3 j) * x9 (ix2 j l))
      (fun k => x2 (ix2 3 k)) (fun k => x1 (ix3 0 5 k)) one l := by
  subst hy
  have eh : (fun k => k0_pay4 x0 x1 (View.ld x2 r0_2) (ix2 r k)) = h := by
    subst hh
    funext k
    rw [pay4_apply]
    simp only [ldg x2 2 _ (by omega)]
    rfl
  frame_out
  rw [pay1_apply]
  simp only [pay7_apply, pay5_apply, pay6_apply, eh, ldw x3 0 _ (by omega), ldw x3 1024 _ (by omega), ldw x3 2048 _ (by omega), ldw x3 3072 _ (by omega),
    ldc x8 0 _ (by omega), ldc x8 1 _ (by omega), ldc x8 2 _ (by omega), ldc x8 3 _ (by omega), ldg x2 3 _ (by omega)]
  rfl

end Cert.MergeIdeal.Blocks

end
-- ==== Proof.MergeRefPoint.lean ====
/- The merge reference's result, element by element. -/
module

public import proofs.«01_k».proof.Proof.Rows
public import proofs.«01_k».proof.Proof.Gen.MergeRefIdeal.Run

@[expose] public section

set_option maxRecDepth 16384

noncomputable section

namespace Cert.MergeRefIdeal.Rows

open Cert.MergeRefIdeal Cert.MergeRefIdeal.Gen Idealize.ShloMosaic Idealize.ShloMosaic.TcCoe Idealize.SL.Sem
open Cert.MergeRefIdeal.Facts Cert.Layer

/-- Every row's reciprocal root mean square. -/
def invS (x : FVec Ideal S8x1024x1024 .f32) : FVec Ideal S8x1024x1 .f32 :=
  Host.rsqrt (addf (Host.divf (broadcastInDim S8x1024x1 ![0, 1] bcast_S8x1024_S8x1024x1_0_1 (Host.reduceAdd (mulf x x) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))

/-- The normed rows. -/
def normS (x : FVec Ideal S8x1024x1024 .f32) : FVec Ideal S8x1024x1024 .f32 :=
  mulf x (broadcastInDim S8x1024x1024 ![0, 1, 2] bcast_S8x1024x1_S8x1024x1024_0_1_2 (invS x))

/-- The gain before the step, on every row. -/
def gainS (g : FVec Ideal S6x1024 .f32) : FVec Ideal S8x1024x1024 .f32 :=
  broadcastInDim S8x1024x1024 ![0, 1, 2] bcast_S1x1x1024_S8x1024x1024_0_1_2 (broadcastInDim S1x1x1024 ![2] bcast_S1024_S1x1x1024_2 (shapeCast _ (extractStridedSlice S1x1024 ![2, 0] g slices_S6x1024_S1x1024_2_0) shapeCasts_S1x1024_S1024))

/-- The gain after the step, on every row. -/
def gainT (g : FVec Ideal S6x1024 .f32) : FVec Ideal S8x1024x1024 .f32 :=
  broadcastInDim S8x1024x1024 ![0, 1, 2] bcast_S1x1x1024_S8x1024x1024_0_1_2 (broadcastInDim S1x1x1024 ![2] bcast_S1024_S1x1x1024_2 (shapeCast _ (extractStridedSlice S1x1024 ![3, 0] g slices_S6x1024_S1x1024_3_0) shapeCasts_S1x1024_S1024))

/-- The step's three modulation rows per batch. -/
def modS (md : FVec Ideal S8x9x1024 .f32) : FVec Ideal S8x3x1024 .f32 :=
  shapeCast _ (extractStridedSlice S8x1x3x1024 ![0, 1, 0, 0] (shapeCast _ md shapeCasts_S8x9x1024_S8x3x3x1024) slices_S8x3x3x1024_S8x1x3x1024_0_1_0_0) shapeCasts_S8x1x3x1024_S8x3x1024

/-- The scale rows, plus one, on every row. -/
def scaleS (md : FVec Ideal S8x3x1024 .f32) : FVec Ideal S8x1024x1024 .f32 :=
  broadcastInDim S8x1024x1024 ![0, 1, 2] bcast_S8x1x1024_S8x1024x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] md slices_S8x3x1024_S8x1x1024_0_1_0) shapeCasts_S8x1x1024_S8x1024)))

/-- The shift rows, on every row. -/
def shiftS (md : FVec Ideal S8x3x1024 .f32) : FVec Ideal S8x1024x1024 .f32 :=
  broadcastInDim S8x1024x1024 ![0, 1, 2] bcast_S8x1x1024_S8x1024x1024_0_1_2 (broadcastInDim S8x1x1024 ![0, 2] bcast_S8x1024_S8x1x1024_0_2 (shapeCast _ (extractStridedSlice S8x1x1024 ![0, 0, 0] md slices_S8x3x1024_S8x1x1024_0_0_0) shapeCasts_S8x1x1024_S8x1024))

/-- The gate rows, weighted, on every row. -/
def gateS (md : FVec Ideal S8x3x1024 .f32) : FVec Ideal S8x1024x1024 .f32 :=
  broadcastInDim S8x1024x1024 ![0, 1, 2] bcast_S8x1x1024_S8x1024x1024_0_1_2 (mulf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 2, 0] md slices_S8x3x1024_S8x1x1024_0_2_0) shapeCasts_S8x1x1024_S8x1024)))

/-- The modulated rows. -/
def rowsS (x : FVec Ideal S8x1024x1024 .f32) (md : FVec Ideal S8x9x1024 .f32) (g : FVec Ideal S6x1024 .f32) : FVec Ideal S8x1024x1024 .f32 :=
  addf (mulf (mulf (normS x) (gainS g)) (scaleS (modS md))) (shiftS (modS md))

/-- The rows plus their update. -/
def sumS (x : FVec Ideal S8x1024x1024 .f32) (md : FVec Ideal S8x9x1024 .f32) (g : FVec Ideal S6x1024 .f32) (y : FVec Ideal S8x1024x1024 .f32) : FVec Ideal S8192x1024 .f32 :=
  shapeCast _ (addf x (mulf (gateS (modS md)) (mulf (normS y) (gainT g)))) shapeCasts_S8x1024x1024_S8192x1024

theorem invS_apply (x : FVec Ideal S8x1024x1024 .f32) (b : Fin 8) (r : Fin 1024) :
    invS x (ix3 b r 0) = invRms (fun k => x (ix3 b r k)) := by
  pointwise [invS, invRms]

theorem normS_apply (x : FVec Ideal S8x1024x1024 .f32) (b : Fin 8) (r l : Fin 1024) :
    normS x (ix3 b r l) = x (ix3 b r l) * invRms (fun k => x (ix3 b r k)) := by
  rw [← invS_apply]
  generalize hi : invS x = y
  pointwise [normS, hi]

theorem gainS_apply (g : FVec Ideal S6x1024 .f32) (b : Fin 8) (r l : Fin 1024) : gainS g (ix3 b r l) = g (ix2 2 l) := by
  pointwise [gainS]

theorem gainT_apply (g : FVec Ideal S6x1024 .f32) (b : Fin 8) (r l : Fin 1024) : gainT g (ix3 b r l) = g (ix2 3 l) := by
  pointwise [gainT]

theorem modS_apply (md : FVec Ideal S8x9x1024 .f32) (b : Fin 8) (s : Fin 3) (l : Fin 1024) :
    modS md (ix3 b s l) = md (ix3 b ⟨1 * 3 + s.val, by omega⟩ l) := by
  pointwise! [modS]

theorem scaleS_apply (md : FVec Ideal S8x3x1024 .f32) (b : Fin 8) (r l : Fin 1024) : scaleS md (ix3 b r l) = one + md (ix3 b 1 l) := by
  pointwise [scaleS, one]

theorem shiftS_apply (md : FVec Ideal S8x3x1024 .f32) (b : Fin 8) (r l : Fin 1024) : shiftS md (ix3 b r l) = md (ix3 b 0 l) := by
  pointwise [shiftS]

theorem gateS_apply (md : FVec Ideal S8x3x1024 .f32) (b : Fin 8) (r l : Fin 1024) : gateS md (ix3 b r l) = one * md (ix3 b 2 l) := by
  pointwise [gateS, one]

theorem rowsS_apply (x : FVec Ideal S8x1024x1024 .f32) (md : FVec Ideal S8x9x1024 .f32) (g : FVec Ideal S6x1024 .f32) (b : Fin 8) (r l : Fin 1024) :
    rowsS x md g (ix3 b r l) = modulated (fun k => x (ix3 b r k)) (fun k => g (ix2 2 k)) (fun k => md (ix3 b 3 k)) (fun k => md (ix3 b 4 k)) l := by
  show normS x (ix3 b r l) * gainS g (ix3 b r l) * scaleS (modS md) (ix3 b r l) + shiftS (modS md) (ix3 b r l) = _
  rw [normS_apply, gainS_apply, scaleS_apply, shiftS_apply, modS_apply, modS_apply]
  rfl

/-- Element `(r, l)` of the rows plus their update. -/
theorem sumS_apply (x : FVec Ideal S8x1024x1024 .f32) (md : FVec Ideal S8x9x1024 .f32) (g : FVec Ideal S6x1024 .f32) (y : FVec Ideal S8x1024x1024 .f32)
    (r : Fin 8192) (l : Fin 1024) :
    sumS x md g y (ix2 r l) = gatedSum (fun k => x (ix3 ⟨r.val / 1024, by omega⟩ ⟨r.val % 1024, by omega⟩ k))
      (fun k => y (ix3 ⟨r.val / 1024, by omega⟩ ⟨r.val % 1024, by omega⟩ k)) (fun k => g (ix2 3 k)) (fun k => md (ix3 ⟨r.val / 1024, by omega⟩ 5 k)) one l := by
  have h : sumS x md g y (ix2 r l) = addf x (mulf (gateS (modS md)) (mulf (normS y) (gainT g))) (ix3 ⟨r.val / 1024, by omega⟩ ⟨r.val % 1024, by omega⟩ l) := by
    generalize hz : addf x (mulf (gateS (modS md)) (mulf (normS y) (gainT g))) = z
    pointwise! [sumS, hz]
  rw [h]
  show x (ix3 _ _ l) + gateS (modS md) (ix3 _ _ l) * (normS y (ix3 _ _ l) * gainT g (ix3 _ _ l)) = _
  rw [gateS_apply, normS_apply, gainT_apply, modS_apply]
  rfl

/-- The gates' logits. -/
def logitS (h : FVec Ideal S8x1024x1024 .f32) (w : FVec Ideal S1024x7936 .f32) : FVec Ideal S8x1024x4096 .f32 :=
  Host.dotGeneral dot_S8x1024x1024_S1024x4096_S8x1024x4096_2_0_01_1_n_n none h (extractStridedSlice S1024x4096 ![0, 3840] w slices_S1024x7936_S1024x4096_0_3840)

/-- The gates, by branch. -/
def gatesS (z : FVec Ideal S8x1024x4096 .f32) : FVec Ideal S8x1024x4x1024 .f32 :=
  shapeCast _ (Host.divf (broadcastInDim S8x1024x4096 ![] bcast_S_S8x1024x4096 (constant S_ .f32 0x3F800000#32)) (addf (broadcastInDim S8x1024x4096 ![] bcast_S_S8x1024x4096 (constant S_ .f32 0x3F800000#32)) (Host.exp (Host.negf z)))) shapeCasts_S8x1024x4096_S8x1024x4x1024

/-- One branch's rows, with an axis for the stack. -/
def rowS (b : FVec Ideal S8192x512 .bf16) : FVec Ideal S8x1024x1x512 .f32 :=
  broadcastInDim S8x1024x1x512 ![0, 1, 3] bcast_S8x1024x512_S8x1024x1x512_0_1_3 (shapeCast _ (extf .f32 b bitsLt_bf16_f32) shapeCasts_S8192x512_S8x1024x512)

/-- The four branches stacked. -/
def stackS (b0 b1 b2 b3 : FVec Ideal S8x1024x1x512 .f32) : FVec Ideal S8x1024x4x512 .f32 :=
  concatenate S8x1024x4x512 2 [⟨S8x1024x1x512, (b0 : (⟨S8x1024x1x512, .f32⟩ : BufTy).Contents (Elt Ideal))⟩, ⟨S8x1024x1x512, (b1 : (⟨S8x1024x1x512, .f32⟩ : BufTy).Contents (Elt Ideal))⟩, ⟨S8x1024x1x512, (b2 : (⟨S8x1024x1x512, .f32⟩ : BufTy).Contents (Elt Ideal))⟩, ⟨S8x1024x1x512, (b3 : (⟨S8x1024x1x512, .f32⟩ : BufTy).Contents (Elt Ideal))⟩] concatenates_S8x1024x1x512_S8x1024x1x512_S8x1024x1x512_S8x1024x1x512_S8x1024x4x512_d2

/-- Each branch through its own weights. -/
def projS (w : FVec Ideal S4x512x1024 .f32) (s : FVec Ideal S8x1024x4x512 .f32) : FVec Ideal S8x1024x4x1024 .f32 :=
  transpose S8x1024x4x1024 [2, 3, 0, 1] (Host.dotGeneral dot_S4x512x1024_S8x1024x4x512_S4x1024x8x1024_1_3_2_01_0_2 none w s) transposes_S4x1024x8x1024_S8x1024x4x1024_2_3_0_1

/-- The gated branches summed. -/
def mergedS (g p : FVec Ideal S8x1024x4x1024 .f32) : FVec Ideal S8x1024x1024 .f32 :=
  Host.reduceAdd (mulf g p) (constant S_ .f32 0x00000000#32) reducesTo_S8x1024x4x1024_S8x1024x1024_d2 h_S_

/-- The merge through its output weights. -/
def outS (a : FVec Ideal S8x1024x1024 .f32) (w : FVec Ideal S1024x1024 .f32) : FVec Ideal S8x1024x1024 .f32 :=
  Host.dotGeneral dot_S8x1024x1024_S1024x1024_S8x1024x1024_2_0_01_1_n_n none a w

/-- The reference's result. -/
def refS (x : FVec Ideal S8x1024x1024 .f32) (md : FVec Ideal S8x9x1024 .f32) (g : FVec Ideal S6x1024 .f32) (wi : FVec Ideal S1024x7936 .f32)
    (b0 b1 b2 b3 : FVec Ideal S8192x512 .bf16) (wb : FVec Ideal S4x512x1024 .f32) (wo : FVec Ideal S1024x1024 .f32) : FVec Ideal S8192x1024 .f32 :=
  sumS x md g (outS (mergedS (gatesS (logitS (rowsS x md g) wi)) (projS wb (stackS (rowS b0) (rowS b1) (rowS b2) (rowS b3)))) wo)

theorem logitS_apply (h : FVec Ideal S8x1024x1024 .f32) (w : FVec Ideal S1024x7936 .f32) (b : Fin 8) (r : Fin 1024) (j : Fin 4096) :
    logitS h w (ix3 b r j) = ∑ k : Fin 1024, h (ix3 b r k) * w (ix2 k ⟨3840 + j.val, by omega⟩) := by
  pointwise! [logitS]

theorem gatesS_apply (z : FVec Ideal S8x1024x4096 .f32) (b : Fin 8) (r : Fin 1024) (s : Fin 4) (j : Fin 1024) :
    gatesS z (ix4 b r s j) = Cert.Layer.sig (z (ix3 b r ⟨s.val * 1024 + j.val, by omega⟩)) := by
  pointwise! [gatesS, Cert.Layer.sig, one]

theorem rowS_apply (o : FVec Ideal S8192x512 .bf16) (b : Fin 8) (r : Fin 1024) (d : Fin 512) :
    rowS o (ix4 b r 0 d) = o (ix2 ⟨b.val * 1024 + r.val, by omega⟩ d) := by
  pointwise! [rowS]

theorem stackS_apply0 (b0 b1 b2 b3 : FVec Ideal S8x1024x1x512 .f32) (b : Fin 8) (r : Fin 1024) (d : Fin 512) : stackS b0 b1 b2 b3 (ix4 b r 0 d) = b0 (ix4 b r 0 d) := by
  pointwise! [stackS]
theorem stackS_apply1 (b0 b1 b2 b3 : FVec Ideal S8x1024x1x512 .f32) (b : Fin 8) (r : Fin 1024) (d : Fin 512) : stackS b0 b1 b2 b3 (ix4 b r 1 d) = b1 (ix4 b r 0 d) := by
  pointwise! [stackS]
theorem stackS_apply2 (b0 b1 b2 b3 : FVec Ideal S8x1024x1x512 .f32) (b : Fin 8) (r : Fin 1024) (d : Fin 512) : stackS b0 b1 b2 b3 (ix4 b r 2 d) = b2 (ix4 b r 0 d) := by
  pointwise! [stackS]
theorem stackS_apply3 (b0 b1 b2 b3 : FVec Ideal S8x1024x1x512 .f32) (b : Fin 8) (r : Fin 1024) (d : Fin 512) : stackS b0 b1 b2 b3 (ix4 b r 3 d) = b3 (ix4 b r 0 d) := by
  pointwise! [stackS]

theorem projS_apply (w : FVec Ideal S4x512x1024 .f32) (o : FVec Ideal S8x1024x4x512 .f32) (b : Fin 8) (r : Fin 1024) (s : Fin 4) (j : Fin 1024) :
    projS w o (ix4 b r s j) = ∑ d : Fin 512, w (ix3 s d j) * o (ix4 b r s d) := by
  pointwise! [projS]

theorem mergedS_apply (g p : FVec Ideal S8x1024x4x1024 .f32) (b : Fin 8) (r : Fin 1024) (j : Fin 1024) :
    mergedS g p (ix3 b r j) = ∑ s : Fin 4, g (ix4 b r s j) * p (ix4 b r s j) := by
  pointwise [mergedS]

theorem outS_apply (a : FVec Ideal S8x1024x1024 .f32) (w : FVec Ideal S1024x1024 .f32) (b : Fin 8) (r l : Fin 1024) :
    outS a w (ix3 b r l) = ∑ j : Fin 1024, a (ix3 b r j) * w (ix2 j l) := by
  pointwise [outS]

/-- One branch's gated projection, as the reference computes it. -/
def branchS (h : Fin 1024 → EReal) (wi : S1024x7936.Idx → EReal) (c : S4x512x1024.Idx → EReal) (o : Fin 512 → EReal) (s : Fin 4) (j : Fin 1024) : EReal :=
  Cert.Layer.sig (∑ k, h k * wi (ix2 k ⟨3840 + (s.val * 1024 + j.val), by omega⟩)) * ∑ d, c (ix3 s d j) * o d

/-- Element `(r, l)` of the reference's result. -/
theorem refS_apply (x : FVec Ideal S8x1024x1024 .f32) (md : FVec Ideal S8x9x1024 .f32) (g : FVec Ideal S6x1024 .f32) (wi : FVec Ideal S1024x7936 .f32)
    (b0 b1 b2 b3 : FVec Ideal S8192x512 .bf16) (wb : FVec Ideal S4x512x1024 .f32) (wo : FVec Ideal S1024x1024 .f32) (r : Fin 8192) (l : Fin 1024)
    (h : Fin 1024 → EReal) (hh : h = modulated (fun k => x (ix3 ⟨r.val / 1024, by omega⟩ ⟨r.val % 1024, by omega⟩ k)) (fun k => g (ix2 2 k))
      (fun k => md (ix3 ⟨r.val / 1024, by omega⟩ 3 k)) (fun k => md (ix3 ⟨r.val / 1024, by omega⟩ 4 k))) :
    refS x md g wi b0 b1 b2 b3 wb wo (ix2 r l) = gatedSum (fun k => x (ix3 ⟨r.val / 1024, by omega⟩ ⟨r.val % 1024, by omega⟩ k))
      (fun l => ∑ j : Fin 1024, (((branchS h wi wb (fun d => b0 (ix2 r d)) 0 j + branchS h wi wb (fun d => b1 (ix2 r d)) 1 j)
        + branchS h wi wb (fun d => b2 (ix2 r d)) 2 j) + branchS h wi wb (fun d => b3 (ix2 r d)) 3 j) * wo (ix2 j l))
      (fun k => g (ix2 3 k)) (fun k => md (ix3 ⟨r.val / 1024, by omega⟩ 5 k)) one l := by
  subst hh
  have e : (⟨r.val / 1024 * 1024 + r.val % 1024, by omega⟩ : Fin 8192) = r := Fin.ext (by show r.val / 1024 * 1024 + r.val % 1024 = r.val; omega)
  rw [refS, sumS_apply]
  simp only [outS_apply, mergedS_apply, Fin.sum_univ_four, gatesS_apply, logitS_apply, rowsS_apply, projS_apply, stackS_apply0, stackS_apply1, stackS_apply2, stackS_apply3,
    rowS_apply, branchS, e]

/-- What the run leaves in the result buffer. -/
theorem run_eq (m : (ℓ : Loc nD τ sig) → Buf (Elt Ideal) ℓ) (c : Dev nD) :
    Cert.MergeRefIdeal.Value.res_main_v82 m c = refS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Cert.MergeRefIdeal.Rows

end
-- ==== Proof.MergeFinal.lean ====
/- The merge kernel's result array is the reference's. -/
module

public import proofs.«01_k».proof.Proof.MergeBlock
public import proofs.«01_k».proof.Proof.MergeRefPoint
public import Idealize.ShloMosaic.Adequacy
public import Idealize.ShloMosaic.Init
public import Idealize.ShloMosaic.Lib.Claim

@[expose] public section

set_option maxRecDepth 16384

noncomputable section

namespace Cert.MergeIdeal.Arrays

open Cert.MergeIdeal Cert.MergeIdeal.Gen Idealize.ShloMosaic Idealize.ShloMosaic.TcCoe Idealize.SL.Sem
open Idealize.ShloMosaic.Pipeline (Dat)
open Cert.Layer Cert.MergeIdeal.Blocks Cert.MergeRefIdeal.Rows

variable (m : (ℓ : Loc nD τ sig) → Buf (Elt Ideal) ℓ)

/-- Which block of each array grid point `t` works on. -/
theorem idx : ∀ t : Fin cfg0.N, win0_0.index t = ![t.val, 0] ∧ win0_1.index t = ![t.val / 4, 0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0, 0] ∧ win0_9.index t = ![0, 0] ∧ win0_10.index t = ![t.val, 0] :=
  (by decide +kernel : ∀ t : Fin grid0.N, _)

/-- The arguments as the region's run finds them. -/
abbrev a0 (c : Dev nD) : S8x1024x1024.Idx → EReal := m ((c : Thread nD τ).loc main_arg0)
abbrev a1 (c : Dev nD) : S8x9x1024.Idx → EReal := m ((c : Thread nD τ).loc main_arg1)
abbrev a2 (c : Dev nD) : S6x1024.Idx → EReal := m ((c : Thread nD τ).loc main_arg2)
abbrev a3 (c : Dev nD) : S1024x7936.Idx → EReal := m ((c : Thread nD τ).loc main_arg3)
abbrev a4 (c : Dev nD) : S8192x512.Idx → EReal := m ((c : Thread nD τ).loc main_arg4)
abbrev a5 (c : Dev nD) : S8192x512.Idx → EReal := m ((c : Thread nD τ).loc main_arg5)
abbrev a6 (c : Dev nD) : S8192x512.Idx → EReal := m ((c : Thread nD τ).loc main_arg6)
abbrev a7 (c : Dev nD) : S8192x512.Idx → EReal := m ((c : Thread nD τ).loc main_arg7)
abbrev a8 (c : Dev nD) : S4x512x1024.Idx → EReal := m ((c : Thread nD τ).loc main_arg8)
abbrev a9 (c : Dev nD) : S1024x1024.Idx → EReal := m ((c : Thread nD τ).loc main_arg9)

theorem v0 (c : Dev nD) (r : Fin 8192) (l : Fin 1024) :
    (V m c main_v0 : S8192x1024.Idx → EReal) (ix2 r l) = a0 m c (ix3 ⟨r.val / 1024, by omega⟩ ⟨r.val % 1024, by omega⟩ l) := by
  entry_read
  pointwise!

theorem v2 (c : Dev nD) (k : Fin 1024) (j : Fin 4096) :
    (V m c main_v2 : S1024x4096.Idx → EReal) (ix2 k j) = a3 m c (ix2 k ⟨3840 + j.val, by omega⟩) := by
  entry_read
  pointwise!

theorem v3 (c : Dev nD) : (V m c main_v3 : S4x512x1024.Idx → EReal) = a8 m c := by
  entry_read
  rfl

theorem v4 (c : Dev nD) : (V m c main_v4 : S1024x1024.Idx → EReal) = a9 m c := by
  entry_read
  rfl

theorem blk0 (c : Dev nD) (t : Fin cfg0.N) (r : Fin 256) (l : Fin 1024) :
    (iblk m c 0 t : S256x1024.Idx → EReal) (ix2 r l)
      = (V m c main_v0 : S8192x1024.Idx → EReal) (ix2 ⟨t.val * 256 + r.val, by have : t.val < 32 := t.isLt; omega⟩ l) := by
  obtain ⟨e,_,_,_,_,_,_,_,_,_,_⟩ := idx t
  blk_ext [iblk, e]

theorem blk1 (c : Dev nD) (t : Fin cfg0.N) (s : Fin 9) (l : Fin 1024) :
    (iblk m c 1 t : S1x9x1024.Idx → EReal) (ix3 0 s l)
      = (V m c main_arg1 : S8x9x1024.Idx → EReal) (ix3 ⟨t.val / 4, by have : t.val < 32 := t.isLt; omega⟩ s l) := by
  obtain ⟨_,e,_,_,_,_,_,_,_,_,_⟩ := idx t
  blk_ext [iblk, e]

theorem blk2 (c : Dev nD) (t : Fin cfg0.N) (s : Fin 6) (l : Fin 1024) :
    (iblk m c 2 t : S6x1024.Idx → EReal) (ix2 s l) = (V m c main_arg2 : S6x1024.Idx → EReal) (ix2 s l) := by
  obtain ⟨_,_,e,_,_,_,_,_,_,_,_⟩ := idx t
  blk_ext [iblk, e]

theorem blk3 (c : Dev nD) (t : Fin cfg0.N) (k : Fin 1024) (j : Fin 4096) :
    (iblk m c 3 t : S1024x4096.Idx → EReal) (ix2 k j) = (V m c main_v2 : S1024x4096.Idx → EReal) (ix2 k j) := by
  obtain ⟨_,_,_,e,_,_,_,_,_,_,_⟩ := idx t
  blk_ext [iblk, e]

theorem blk4 (c : Dev nD) (t : Fin cfg0.N) (r : Fin 256) (l : Fin 512) :
    (iblk m c 4 t : S256x512.Idx → EReal) (ix2 r l)
      = (V m c main_arg4 : S8192x512.Idx → EReal) (ix2 ⟨t.val * 256 + r.val, by have : t.val < 32 := t.isLt; omega⟩ l) := by
  obtain ⟨_,_,_,_,e,_,_,_,_,_,_⟩ := idx t
  blk_ext [iblk, e]

theorem blk5 (c : Dev nD) (t : Fin cfg0.N) (r : Fin 256) (l : Fin 512) :
    (iblk m c 5 t : S256x512.Idx → EReal) (ix2 r l)
      = (V m c main_arg5 : S8192x512.Idx → EReal) (ix2 ⟨t.val * 256 + r.val, by have : t.val < 32 := t.isLt; omega⟩ l) := by
  obtain ⟨_,_,_,_,_,e,_,_,_,_,_⟩ := idx t
  blk_ext [iblk, e]

theorem blk6 (c : Dev nD) (t : Fin cfg0.N) (r : Fin 256) (l : Fin 512) :
    (iblk m c 6 t : S256x512.Idx → EReal) (ix2 r l)
      = (V m c main_arg6 : S8192x512.Idx → EReal) (ix2 ⟨t.val * 256 + r.val, by have : t.val < 32 := t.isLt; omega⟩ l) := by
  obtain ⟨_,_,_,_,_,_,e,_,_,_,_⟩ := idx t
  blk_ext [iblk, e]

theorem blk7 (c : Dev nD) (t : Fin cfg0.N) (r : Fin 256) (l : Fin 512) :
    (iblk m c 7 t : S256x512.Idx → EReal) (ix2 r l)
      = (V m c main_arg7 : S8192x512.Idx → EReal) (ix2 ⟨t.val * 256 + r.val, by have : t.val < 32 := t.isLt; omega⟩ l) := by
  obtain ⟨_,_,_,_,_,_,_,e,_,_,_⟩ := idx t
  blk_ext [iblk, e]

theorem blk8 (c : Dev nD) (t : Fin cfg0.N) (s : Fin 4) (d : Fin 512) (j : Fin 1024) :
    (iblk m c 8 t : S4x512x1024.Idx → EReal) (ix3 s d j) = (V m c main_v3 : S4x512x1024.Idx → EReal) (ix3 s d j) := by
  obtain ⟨_,_,_,_,_,_,_,_,e,_,_⟩ := idx t
  blk_ext [iblk, e]

theorem blk9 (c : Dev nD) (t : Fin cfg0.N) (j l : Fin 1024) :
    (iblk m c 9 t : S1024x1024.Idx → EReal) (ix2 j l) = (V m c main_v4 : S1024x1024.Idx → EReal) (ix2 j l) := by
  obtain ⟨_,_,_,_,_,_,_,_,_,e,_⟩ := idx t
  blk_ext [iblk, e]

/-- Row `r` of block `t` is the reference's row. -/
theorem row_eq (c : Dev nD) (t : Fin cfg0.N) (y : S256x1024.Idx) (r : Fin 256) (l : Fin 1024) (hy : y = ix2 r l) (R : Fin 8192) (hR : R.val = t.val * 256 + r.val) :
    out0_10 (iblk m c 0 t) (iblk m c 1 t) (iblk m c 2 t) (iblk m c 3 t) (iblk m c 4 t) (iblk m c 5 t) (iblk m c 6 t) (iblk m c 7 t) (iblk m c 8 t) (iblk m c 9 t) y
    = refS (a0 m c) (a1 m c) (a2 m c) (a3 m c) (a4 m c) (a5 m c) (a6 m c) (a7 m c) (a8 m c) (a9 m c) (ix2 R l) := by
  have ht : t.val < 32 := t.isLt
  have eR : (⟨t.val * 256 + r.val, by omega⟩ : Fin 8192) = R := Fin.ext hR.symm
  have h0 : ∀ k, (iblk m c 0 t : S256x1024.Idx → EReal) (ix2 r k) = a0 m c (ix3 ⟨R.val / 1024, by omega⟩ ⟨R.val % 1024, by omega⟩ k) := by
    intro k
    rw [blk0, v0, eR]
  have h1 : ∀ s k, (iblk m c 1 t : S1x9x1024.Idx → EReal) (ix3 0 s k) = a1 m c (ix3 ⟨R.val / 1024, by omega⟩ s k) := by
    intro s k
    have e : (⟨t.val / 4, by omega⟩ : Fin 8) = ⟨R.val / 1024, by omega⟩ := Fin.ext (by show t.val / 4 = R.val / 1024; omega)
    rw [blk1, e, V_main_arg1]
  have h2 : ∀ s k, (iblk m c 2 t : S6x1024.Idx → EReal) (ix2 s k) = a2 m c (ix2 s k) := fun s k => by rw [blk2, V_main_arg2]
  have h3 : ∀ k j, (iblk m c 3 t : S1024x4096.Idx → EReal) (ix2 k j) = a3 m c (ix2 k ⟨3840 + j.val, by omega⟩) := fun k j => by rw [blk3, v2]
  have h4 : ∀ d, (iblk m c 4 t : S256x512.Idx → EReal) (ix2 r d) = a4 m c (ix2 R d) := fun d => by rw [blk4, eR, V_main_arg4]
  have h5 : ∀ d, (iblk m c 5 t : S256x512.Idx → EReal) (ix2 r d) = a5 m c (ix2 R d) := fun d => by rw [blk5, eR, V_main_arg5]
  have h6 : ∀ d, (iblk m c 6 t : S256x512.Idx → EReal) (ix2 r d) = a6 m c (ix2 R d) := fun d => by rw [blk6, eR, V_main_arg6]
  have h7 : ∀ d, (iblk m c 7 t : S256x512.Idx → EReal) (ix2 r d) = a7 m c (ix2 R d) := fun d => by rw [blk7, eR, V_main_arg7]
  have h8 : ∀ s d j, (iblk m c 8 t : S4x512x1024.Idx → EReal) (ix3 s d j) = a8 m c (ix3 s d j) := fun s d j => by rw [blk8, v3]
  have h9 : ∀ j l, (iblk m c 9 t : S1024x1024.Idx → EReal) (ix2 j l) = a9 m c (ix2 j l) := fun j l => by rw [blk9, v4]
  rw [block_at _ _ _ _ _ _ _ _ _ _ y r l hy _ rfl, refS_apply _ _ _ _ _ _ _ _ _ _ R l _ rfl]
  have hb : ∀ (h : Fin 1024 → EReal) (b : Fin 512 → EReal) (s : Fin 4) (j : Fin 1024),
      branch h (iblk m c 3 t) (iblk m c 8 t) b s j = branchS h (a3 m c) (a8 m c) b s j := by
    intro h b s j
    rw [branch, branchS, gated]
    congr 1
    · exact congrArg _ (Finset.sum_congr rfl fun k _ => congrArg _ (h3 _ _))
    · refine Finset.sum_congr rfl fun d _ => ?_
      rw [mul_comm]
      exact congrArg (· * b d) (h8 _ _ _)
  simp only [hb, h0, h1, h2, h4, h5, h6, h7, h9]

/-- The merge's array. -/
theorem final10 (c : Dev nD) : (dats m 0 c).arrAt 10 cfg0.N
    = refS (a0 m c) (a1 m c) (a2 m c) (a3 m c) (a4 m c) (a5 m c) (a6 m c) (a7 m c) (a8 m c) (a9 m c) := by
  refine (dats m 0 c).arrAt_eq_of_covers 10 _ (by decide +kernel) fun t _ y => ?_
  blk_simp
  rw [after0_10]
  obtain ⟨_,_,_,_,_,_,_,_,_,_,e⟩ := idx t
  have y0 : (y 0).val < 256 := (y 0).isLt
  have y1 : (y 1).val < 1024 := (y 1).isLt
  have ht : t.val < 32 := t.isLt
  have hy : (win0_10.blk t).view.emb y = ix2 (⟨t.val * 256 + (y 0).val, by omega⟩ : Fin 8192) (⟨(y 1).val, y1⟩ : Fin 1024) := by
    blk_ext [e]
  rw [hy]
  exact row_eq m c t y ⟨(y 0).val, y0⟩ ⟨(y 1).val, y1⟩ (eq_ix2 y) _ rfl

end Cert.MergeIdeal.Arrays

end
-- ==== Proof.HeadNorm.lean ====
/- The norm of one head's 64 lanes, and the two ways of computing it: over the head's own lanes, and by a product of the
   squared row with a matrix of ones on its diagonal blocks, the square split in two parts of which the second is zero. -/
module

public import proofs.«01_k».proof.Proof.Rows
public import proofs.«01_k».proof.Proof.Softmax

@[expose] public section

noncomputable section

namespace Cert.Layer

open Idealize.ShloMosaic

/-- The reciprocal root of a head's mean square plus epsilon. -/
def headInv (q : Fin 64 → EReal) : EReal :=
  Ideal.rsqrt (Ideal.div (∑ d, q d * q d) (Ideal.ofBits .f32 0x42800000#32) + Ideal.ofBits .f32 0x358637BD#32)

/-- The same from the two products. -/
def headInvSplit {n : ℕ} (q o : Fin n → EReal) : EReal :=
  Ideal.rsqrt ((∑ k, q k * q k * o k + ∑ k, (q k * q k - q k * q k) * o k) * Ideal.ofBits .f32 0x3C800000#32
    + Ideal.ofBits .f32 0x358637BD#32)

/-- The scale of the queries. -/
def scale : EReal := Ideal.ofBits .f32 0x3E000000#32

theorem pat64 : Ideal.ofBits .f32 0x42800000#32 = ((64 : ℝ) : EReal) := by
  simp [Ideal.ofBits, Ideal.ieee, -EReal.coe_mul]; norm_num

theorem pat64inv : Ideal.ofBits .f32 0x3C800000#32 = ((1 / 64 : ℝ) : EReal) := by
  simp [Ideal.ofBits, Ideal.ieee, -EReal.coe_mul]; norm_num

theorem pat1024 : Ideal.ofBits .f32 0x44800000#32 = ((1024 : ℝ) : EReal) := by
  simp [Ideal.ofBits, Ideal.ieee, -EReal.coe_mul]; norm_num

/-- Epsilon is a positive real number. -/
theorem eps_pos : ∃ e : ℝ, 0 < e ∧ Ideal.ofBits .f32 0x358637BD#32 = (e : EReal) := by
  refine ⟨_, ?_, by simp only [Ideal.ofBits, Ideal.ieee]; rfl⟩
  norm_num
  rw [if_neg (by decide)]
  positivity

/-- A sum against the indicator of one head's lanes is the sum over that head's lanes. -/
theorem sum_head (H : ℕ) {n : ℕ} (hn : n = H * 64) (f o : Fin n → EReal) (h : Fin H)
    (ho : ∀ k, o k = if k.val / 64 = h.val then 1 else 0) :
    ∑ k, f k * o k = ∑ d : Fin 64, f ⟨h.val * 64 + d.val, by have := h.isLt; omega⟩ := by
  subst hn
  rw [Fin.sum_univ_tiles H 64 rfl, Finset.sum_eq_single h]
  · refine Finset.sum_congr rfl fun d _ => ?_
    rw [ho, if_pos (by show (h.val * 64 + d.val) / 64 = h.val; omega), mul_one]
  · intro g _ hg
    refine Finset.sum_eq_zero fun d _ => ?_
    rw [ho, if_neg (by show ¬ (g.val * 64 + d.val) / 64 = h.val; intro e; exact hg (Fin.ext (by omega))), mul_zero]
  · intro hh
    exact absurd (Finset.mem_univ h) hh

/-- The two ways agree where the row's entries are real numbers. -/
theorem headInvSplit_eq (H : ℕ) {n : ℕ} (hn : n = H * 64) (q o : Fin n → EReal) (h : Fin H)
    (ho : ∀ k, o k = if k.val / 64 = h.val then 1 else 0) (hq : ∀ k, ∃ r : ℝ, q k = r) :
    headInvSplit q o = headInv fun d => q ⟨h.val * 64 + d.val, by have := h.isLt; omega⟩ := by
  have hz : ∀ k, (q k * q k - q k * q k) * o k = 0 := by
    intro k
    obtain ⟨r, hr⟩ := hq k
    rw [hr, ← EReal.coe_mul, ← EReal.coe_sub, sub_self, EReal.coe_zero, zero_mul]
  rw [headInvSplit, headInv, sum_head H hn (fun k => q k * q k) o h ho, Finset.sum_eq_zero fun k _ => hz k, add_zero,
    pat64, Ideal.div_coe (by norm_num), pat64inv]

/-- A row of real numbers has a real reciprocal root mean square. -/
theorem invRms_real {x : Fin 1024 → EReal} (hx : ∀ k, ∃ r : ℝ, x k = r) : ∃ r : ℝ, invRms x = r := by
  choose p hp using hx
  obtain ⟨e, he, hee⟩ := eps_pos
  have hs : (∑ k, x k * x k) = ((∑ k, p k * p k : ℝ) : EReal) := by
    rw [coe_sum]
    exact Finset.sum_congr rfl fun k _ => by rw [hp, EReal.coe_mul]
  have h0 : 0 ≤ ∑ k, p k * p k := Finset.sum_nonneg fun k _ => mul_self_nonneg _
  have h1 : 0 < (∑ k, p k * p k) * (1 / 1024) + e := by positivity
  refine ⟨(Real.sqrt ((∑ k, p k * p k) * (1 / 1024) + e))⁻¹, ?_⟩
  rw [invRms, hs, pat1024, Ideal.div_coe (by norm_num), hee, ← EReal.coe_mul, ← EReal.coe_add, Ideal.rsqrt_coe,
    if_neg (not_lt.mpr h1.le), if_neg h1.ne']

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A normed row is a row of real numbers: where the row has an infinite entry, its norm is zero. -/
theorem normed_real (x : Fin 1024 → EReal) (l : Fin 1024) : ∃ r : ℝ, x l * invRms x = r := by
  by_cases hx : ∀ k, ∃ r : ℝ, x k = r
  · obtain ⟨i, hi⟩ := invRms_real hx
    obtain ⟨a, ha⟩ := hx l
    exact ⟨a * i, by rw [ha, hi, EReal.coe_mul]⟩
  · obtain ⟨k, hk⟩ := not_forall.mp hx
    have ht : x k * x k = ⊤ := by
      generalize x k = z at hk
      induction z with
      | bot => exact EReal.bot_mul_bot
      | top => exact EReal.top_mul_top
      | coe r => exact absurd ⟨r, rfl⟩ hk
    have hs : (∑ k, x k * x k) = ⊤ :=
      top_le_iff.mp (ht ▸ Finset.single_le_sum (f := fun k => x k * x k) (fun _ _ => square_nonneg _) (Finset.mem_univ k))
    obtain ⟨e, _, hee⟩ := eps_pos
    refine ⟨0, ?_⟩
    rw [invRms, hs, pat1024, Ideal.div_coe (by norm_num), hee, EReal.top_mul_coe_of_pos (by norm_num), EReal.top_add_coe,
      Ideal.rsqrt_top, mul_zero, EReal.coe_zero]

/-- A row, modulated by real numbers, is a row of real numbers. -/
theorem modulated_real (x : Fin 1024 → EReal) {g sh sc : Fin 1024 → EReal} (hg : ∀ k, ∃ r : ℝ, g k = r)
    (hsh : ∀ k, ∃ r : ℝ, sh k = r) (hsc : ∀ k, ∃ r : ℝ, sc k = r) (l : Fin 1024) : ∃ r : ℝ, modulated x g sh sc l = r := by
  obtain ⟨a, ha⟩ := normed_real x l
  obtain ⟨b, hb⟩ := hg l
  obtain ⟨c, hc⟩ := hsh l
  obtain ⟨d, hd⟩ := hsc l
  refine ⟨a * b * (1 + d) + c, ?_⟩
  rw [modulated, ha, hb, hc, hd, one_eq]
  push_cast
  rfl

end Cert.Layer

end
-- ==== Proof.ProjRefPoint.lean ====
/- The input projection's reference, element by element. -/
module

public import proofs.«01_k».proof.Proof.HeadNorm
public import proofs.«01_k».proof.Proof.Gen.ProjRefIdeal.Run

@[expose] public section

set_option maxRecDepth 16384

noncomputable section

namespace Cert.ProjRefIdeal.Rows

open Cert.ProjRefIdeal Cert.ProjRefIdeal.Gen Idealize.ShloMosaic Idealize.ShloMosaic.TcCoe Idealize.SL.Sem
open Cert.ProjRefIdeal.Facts Cert.Layer

/-- Every row's reciprocal root mean square. -/
def invS (x : FVec Ideal S16x256x1024 .f32) : FVec Ideal S16x256x1 .f32 :=
  Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))

/-- The normed rows. -/
def normS (x : FVec Ideal S16x256x1024 .f32) : FVec Ideal S16x256x1024 .f32 :=
  mulf x (broadcastInDim S16x256x1024 ![0, 1, 2] bcast_S16x256x1_S16x256x1024_0_1_2 (invS x))

/-- The gain before the step, on every row. -/
def gainS (g : FVec Ideal S6x1024 .f32) : FVec Ideal S16x256x1024 .f32 :=
  broadcastInDim S16x256x1024 ![0, 1, 2] bcast_S1x1x1024_S16x256x1024_0_1_2 (broadcastInDim S1x1x1024 ![2] bcast_S1024_S1x1x1024_2 (shapeCast _ (extractStridedSlice S1x1024 ![2, 0] g slices_S6x1024_S1x1024_2_0) shapeCasts_S1x1024_S1024))

/-- The step's three modulation rows. -/
def modS (md : FVec Ideal S1x9x1024 .f32) : FVec Ideal S1x3x1024 .f32 :=
  shapeCast _ (extractStridedSlice S1x1x3x1024 ![0, 1, 0, 0] (shapeCast _ md shapeCasts_S1x9x1024_S1x3x3x1024) slices_S1x3x3x1024_S1x1x3x1024_0_1_0_0) shapeCasts_S1x1x3x1024_S1x3x1024

/-- The scale row, plus one, on every row. -/
def scaleS (md : FVec Ideal S1x3x1024 .f32) : FVec Ideal S16x256x1024 .f32 :=
  broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] md slices_S1x3x1024_S1x1x1024_0_1_0) shapeCasts_S1x1x1024_S1x1024)))

/-- The shift row, on every row. -/
def shiftS (md : FVec Ideal S1x3x1024 .f32) : FVec Ideal S16x256x1024 .f32 :=
  broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 0, 0] md slices_S1x3x1024_S1x1x1024_0_0_0) shapeCasts_S1x1x1024_S1x1024))

/-- The modulated rows. -/
def rowsS (x : FVec Ideal S16x256x1024 .f32) (md : FVec Ideal S1x9x1024 .f32) (g : FVec Ideal S6x1024 .f32) : FVec Ideal S16x256x1024 .f32 :=
  addf (mulf (mulf (normS x) (gainS g)) (scaleS (modS md))) (shiftS (modS md))

/-- The projected rows, all columns. -/
def projS (x : FVec Ideal S16x256x1024 .f32) (md : FVec Ideal S1x9x1024 .f32) (g : FVec Ideal S6x1024 .f32) (w : FVec Ideal S1024x7936 .f32) : FVec Ideal S16x256x7936 .f32 :=
  Host.dotGeneral dot_S16x256x1024_S1024x7936_S16x256x7936_2_0_01_1_n_n none (rowsS x md g) w

theorem invS_apply (x : FVec Ideal S16x256x1024 .f32) (b : Fin 16) (r : Fin 256) :
    invS x (ix3 b r 0) = invRms (fun k => x (ix3 b r k)) := by
  pointwise [invS, invRms]

theorem normS_apply (x : FVec Ideal S16x256x1024 .f32) (b : Fin 16) (r : Fin 256) (l : Fin 1024) :
    normS x (ix3 b r l) = x (ix3 b r l) * invRms (fun k => x (ix3 b r k)) := by
  rw [← invS_apply]
  generalize hi : invS x = y
  pointwise [normS, hi]

theorem gainS_apply (g : FVec Ideal S6x1024 .f32) (b : Fin 16) (r : Fin 256) (l : Fin 1024) : gainS g (ix3 b r l) = g (ix2 2 l) := by
  pointwise [gainS]

theorem modS_apply (md : FVec Ideal S1x9x1024 .f32) (s : Fin 3) (l : Fin 1024) :
    modS md (ix3 0 s l) = md (ix3 0 ⟨1 * 3 + s.val, by omega⟩ l) := by
  pointwise! [modS]

theorem scaleS_apply (md : FVec Ideal S1x3x1024 .f32) (b : Fin 16) (r : Fin 256) (l : Fin 1024) : scaleS md (ix3 b r l) = one + md (ix3 0 1 l) := by
  pointwise [scaleS, one]

theorem shiftS_apply (md : FVec Ideal S1x3x1024 .f32) (b : Fin 16) (r : Fin 256) (l : Fin 1024) : shiftS md (ix3 b r l) = md (ix3 0 0 l) := by
  pointwise [shiftS]

theorem rowsS_apply (x : FVec Ideal S16x256x1024 .f32) (md : FVec Ideal S1x9x1024 .f32) (g : FVec Ideal S6x1024 .f32) (b : Fin 16) (r : Fin 256) (l : Fin 1024) :
    rowsS x md g (ix3 b r l) = modulated (fun k => x (ix3 b r k)) (fun k => g (ix2 2 k)) (fun k => md (ix3 0 3 k)) (fun k => md (ix3 0 4 k)) l := by
  show normS x (ix3 b r l) * gainS g (ix3 b r l) * scaleS (modS md) (ix3 b r l) + shiftS (modS md) (ix3 b r l) = _
  rw [normS_apply, gainS_apply, scaleS_apply, shiftS_apply, modS_apply, modS_apply]
  rfl

/-- Column `j` of the projection of row `R`. -/
def colS (x : FVec Ideal S16x256x1024 .f32) (md : FVec Ideal S1x9x1024 .f32) (g : FVec Ideal S6x1024 .f32) (w : FVec Ideal S1024x7936 .f32)
    (R : Fin 4096) (j : Fin 7936) : EReal :=
  ∑ k : Fin 1024, modulated (fun k => x (ix3 ⟨R.val / 256, by omega⟩ ⟨R.val % 256, by omega⟩ k)) (fun k => g (ix2 2 k)) (fun k => md (ix3 0 3 k)) (fun k => md (ix3 0 4 k)) k * w (ix2 k j)

theorem projS_apply (x : FVec Ideal S16x256x1024 .f32) (md : FVec Ideal S1x9x1024 .f32) (g : FVec Ideal S6x1024 .f32) (w : FVec Ideal S1024x7936 .f32)
    (R : Fin 4096) (j : Fin 7936) : projS x md g w (ix3 ⟨R.val / 256, by omega⟩ ⟨R.val % 256, by omega⟩ j) = colS x md g w R j := by
  have h : ∀ v : FVec Ideal S16x256x1024 .f32, Host.dotGeneral dot_S16x256x1024_S1024x7936_S16x256x7936_2_0_01_1_n_n none v w (ix3 ⟨R.val / 256, by omega⟩ ⟨R.val % 256, by omega⟩ j)
      = ∑ k : Fin 1024, v (ix3 ⟨R.val / 256, by omega⟩ ⟨R.val % 256, by omega⟩ k) * w (ix2 k j) := by
    intro v
    pointwise
  rw [projS, h, colS]
  simp only [rowsS_apply]

variable (p : FVec Ideal S16x256x7936 .f32)

/-- The neighbourhood keys. -/
def nakS : FVec Ideal S4096x512 .f32 :=
  shapeCast _ (shapeCast _ (extractStridedSlice S16x256x512 ![0, 0, 512] p slices_S16x256x7936_S16x256x512_0_0_512) shapeCasts_S16x256x512_S16x256x8x64) shapeCasts_S16x256x8x64_S4096x512

theorem nakS_apply (R : Fin 4096) (j : Fin 512) : nakS p (ix2 R j) = p (ix3 ⟨R.val / 256, by omega⟩ ⟨R.val % 256, by omega⟩ ⟨512 + j.val, by omega⟩) := by
  pointwise! [nakS]

/-- The neighbourhood values. -/
def navS : FVec Ideal S4096x512 .f32 :=
  shapeCast _ (shapeCast _ (extractStridedSlice S16x256x512 ![0, 0, 1024] p slices_S16x256x7936_S16x256x512_0_0_1024) shapeCasts_S16x256x512_S16x256x8x64) shapeCasts_S16x256x8x64_S4096x512

theorem navS_apply (R : Fin 4096) (j : Fin 512) : navS p (ix2 R j) = p (ix3 ⟨R.val / 256, by omega⟩ ⟨R.val % 256, by omega⟩ ⟨1024 + j.val, by omega⟩) := by
  pointwise! [navS]

/-- The grouped values. -/
def gvS : FVec Ideal S4096x128 .f32 :=
  shapeCast _ (shapeCast _ (extractStridedSlice S16x256x128 ![0, 0, 3200] p slices_S16x256x7936_S16x256x128_0_0_3200) shapeCasts_S16x256x128_S16x256x2x64) shapeCasts_S16x256x2x64_S4096x128

theorem gvS_apply (R : Fin 4096) (j : Fin 128) : gvS p (ix2 R j) = p (ix3 ⟨R.val / 256, by omega⟩ ⟨R.val % 256, by omega⟩ ⟨3200 + j.val, by omega⟩) := by
  pointwise! [gvS]

/-- The linear recurrence's input. -/
def lruS : FVec Ideal S4096x512 .f32 :=
  shapeCast _ (extractStridedSlice S16x256x512 ![0, 0, 3328] p slices_S16x256x7936_S16x256x512_0_0_3328) shapeCasts_S16x256x512_S4096x512

theorem lruS_apply (R : Fin 4096) (j : Fin 512) : lruS p (ix2 R j) = p (ix3 ⟨R.val / 256, by omega⟩ ⟨R.val % 256, by omega⟩ ⟨3328 + j.val, by omega⟩) := by
  pointwise! [lruS]

/-- The neighbourhood queries, scaled. -/
def naqS : FVec Ideal S4096x512 .bf16 :=
  truncf .bf16 (shapeCast _ (mulf (shapeCast _ (extractStridedSlice S16x256x512 ![0, 0, 0] p slices_S16x256x7936_S16x256x512_0_0_0) shapeCasts_S16x256x512_S16x256x8x64) (broadcastInDim S16x256x8x64 ![] bcast_S_S16x256x8x64 (constant S_ .f32 0x3E000000#32))) shapeCasts_S16x256x8x64_S4096x512) bitsLt_bf16_f32

theorem naqS_apply (R : Fin 4096) (j : Fin 512) : naqS p (ix2 R j) = p (ix3 ⟨R.val / 256, by omega⟩ ⟨R.val % 256, by omega⟩ ⟨0 + j.val, by omega⟩) * scale := by
  pointwise! [naqS, scale]

/-- The convolution's two halves. -/
def gluS : FVec Ideal S16x256x1024 .f32 := extractStridedSlice S16x256x1024 ![0, 0, 1536] p slices_S16x256x7936_S16x256x1024_0_0_1536

/-- The gated linear unit. -/
def uS (z : FVec Ideal S16x256x1024 .f32) : FVec Ideal S16x256x512 .f32 :=
  mulf (extractStridedSlice S16x256x512 ![0, 0, 0] z slices_S16x256x1024_S16x256x512_0_0_0) (Host.divf (broadcastInDim S16x256x512 ![] bcast_S_S16x256x512 (constant S_ .f32 0x3F800000#32)) (addf (broadcastInDim S16x256x512 ![] bcast_S_S16x256x512 (constant S_ .f32 0x3F800000#32)) (Host.exp (Host.negf (extractStridedSlice S16x256x512 ![0, 0, 512] z slices_S16x256x1024_S16x256x512_0_0_512)))))

/-- Batches and positions joined. -/
def flatS (z : FVec Ideal S16x256x512 .f32) : FVec Ideal S4096x512 .f32 := shapeCast _ z shapeCasts_S16x256x512_S4096x512

theorem flatS_apply (z : FVec Ideal S16x256x512 .f32) (R : Fin 4096) (j : Fin 512) : flatS z (ix2 R j) = z (ix3 ⟨R.val / 256, by omega⟩ ⟨R.val % 256, by omega⟩ j) := by
  pointwise! [flatS]

theorem gluS_apply (b : Fin 16) (r : Fin 256) (j : Fin 1024) : gluS p (ix3 b r j) = p (ix3 b r ⟨1536 + j.val, by omega⟩) := by
  pointwise! [gluS]

theorem uS_apply (z : FVec Ideal S16x256x1024 .f32) (b : Fin 16) (r : Fin 256) (j : Fin 512) :
    uS z (ix3 b r j) = z (ix3 b r ⟨j.val, by omega⟩) * Cert.Layer.sig (z (ix3 b r ⟨512 + j.val, by omega⟩)) := by
  have h0 : extractStridedSlice S16x256x512 ![0, 0, 0] z slices_S16x256x1024_S16x256x512_0_0_0 (ix3 b r j) = z (ix3 b r ⟨j.val, by omega⟩) := by pointwise!
  have h1 : extractStridedSlice S16x256x512 ![0, 0, 512] z slices_S16x256x1024_S16x256x512_0_0_512 (ix3 b r j) = z (ix3 b r ⟨512 + j.val, by omega⟩) := by pointwise!
  rw [← h0, ← h1]
  rfl

/-- The grouped queries, by head. -/
def headQS : FVec Ideal S16x256x8x64 .f32 :=
  shapeCast _ (extractStridedSlice S16x256x512 ![0, 0, 2560] p slices_S16x256x7936_S16x256x512_0_0_2560) shapeCasts_S16x256x512_S16x256x8x64

/-- Each head's reciprocal root mean square. -/
def invQS (q : FVec Ideal S16x256x8x64 .f32) : FVec Ideal S16x256x8x1 .f32 :=
  Host.rsqrt (addf (Host.divf (broadcastInDim S16x256x8x1 ![0, 1, 2] bcast_S16x256x8_S16x256x8x1_0_1_2 (Host.reduceAdd (mulf q q) (constant S_ .f32 0x00000000#32) reducesTo_S16x256x8x64_S16x256x8_d3 h_S_)) (broadcastInDim S16x256x8x1 ![] bcast_S_S16x256x8x1 (constant S_ .f32 0x42800000#32))) (broadcastInDim S16x256x8x1 ![] bcast_S_S16x256x8x1 (constant S_ .f32 0x358637BD#32)))

/-- The heads normed and gained. -/
def normQS (q : FVec Ideal S16x256x8x64 .f32) (g : FVec Ideal S64 .f32) : FVec Ideal S16x256x8x64 .f32 :=
  mulf (mulf q (broadcastInDim S16x256x8x64 ![0, 1, 2, 3] bcast_S16x256x8x1_S16x256x8x64_0_1_2_3 (invQS q))) (broadcastInDim S16x256x8x64 ![0, 1, 2, 3] bcast_S1x1x1x64_S16x256x8x64_0_1_2_3 (broadcastInDim S1x1x1x64 ![3] bcast_S64_S1x1x1x64_3 g))

theorem headQS_apply (b : Fin 16) (r : Fin 256) (h : Fin 8) (d : Fin 64) :
    headQS p (ix4 b r h d) = p (ix3 b r ⟨2560 + (h.val * 64 + d.val), by omega⟩) := by
  pointwise! [headQS]

theorem invQS_apply (q : FVec Ideal S16x256x8x64 .f32) (b : Fin 16) (r : Fin 256) (h : Fin 8) :
    invQS q (ix4 b r h 0) = headInv fun d => q (ix4 b r h d) := by
  pointwise [invQS, headInv]

theorem normQS_apply (q : FVec Ideal S16x256x8x64 .f32) (g : FVec Ideal S64 .f32) (b : Fin 16) (r : Fin 256) (h : Fin 8) (d : Fin 64) :
    normQS q g (ix4 b r h d) = q (ix4 b r h d) * (headInv fun d => q (ix4 b r h d)) * g (ix1 d) := by
  rw [← invQS_apply]
  generalize hi : invQS q = y
  pointwise [normQS, hi]

/-- The grouped keys, by head. -/
def headKS : FVec Ideal S16x256x2x64 .f32 :=
  shapeCast _ (extractStridedSlice S16x256x128 ![0, 0, 3072] p slices_S16x256x7936_S16x256x128_0_0_3072) shapeCasts_S16x256x128_S16x256x2x64

/-- Each head's reciprocal root mean square. -/
def invKS (q : FVec Ideal S16x256x2x64 .f32) : FVec Ideal S16x256x2x1 .f32 :=
  Host.rsqrt (addf (Host.divf (broadcastInDim S16x256x2x1 ![0, 1, 2] bcast_S16x256x2_S16x256x2x1_0_1_2 (Host.reduceAdd (mulf q q) (constant S_ .f32 0x00000000#32) reducesTo_S16x256x2x64_S16x256x2_d3 h_S_)) (broadcastInDim S16x256x2x1 ![] bcast_S_S16x256x2x1 (constant S_ .f32 0x42800000#32))) (broadcastInDim S16x256x2x1 ![] bcast_S_S16x256x2x1 (constant S_ .f32 0x358637BD#32)))

/-- The heads normed and gained. -/
def normKS (q : FVec Ideal S16x256x2x64 .f32) (g : FVec Ideal S64 .f32) : FVec Ideal S16x256x2x64 .f32 :=
  mulf (mulf q (broadcastInDim S16x256x2x64 ![0, 1, 2, 3] bcast_S16x256x2x1_S16x256x2x64_0_1_2_3 (invKS q))) (broadcastInDim S16x256x2x64 ![0, 1, 2, 3] bcast_S1x1x1x64_S16x256x2x64_0_1_2_3 (broadcastInDim S1x1x1x64 ![3] bcast_S64_S1x1x1x64_3 g))

theorem headKS_apply (b : Fin 16) (r : Fin 256) (h : Fin 2) (d : Fin 64) :
    headKS p (ix4 b r h d) = p (ix3 b r ⟨3072 + (h.val * 64 + d.val), by omega⟩) := by
  pointwise! [headKS]

theorem invKS_apply (q : FVec Ideal S16x256x2x64 .f32) (b : Fin 16) (r : Fin 256) (h : Fin 2) :
    invKS q (ix4 b r h 0) = headInv fun d => q (ix4 b r h d) := by
  pointwise [invKS, headInv]

theorem normKS_apply (q : FVec Ideal S16x256x2x64 .f32) (g : FVec Ideal S64 .f32) (b : Fin 16) (r : Fin 256) (h : Fin 2) (d : Fin 64) :
    normKS q g (ix4 b r h d) = q (ix4 b r h d) * (headInv fun d => q (ix4 b r h d)) * g (ix1 d) := by
  rw [← invKS_apply]
  generalize hi : invKS q = y
  pointwise [normKS, hi]

/-- The grouped queries, normed and scaled. -/
def gqS (z : FVec Ideal S16x256x8x64 .f32) : FVec Ideal S4096x512 .bf16 :=
  truncf .bf16 (shapeCast _ (mulf z (broadcastInDim S16x256x8x64 ![] bcast_S_S16x256x8x64 (constant S_ .f32 0x3E000000#32))) shapeCasts_S16x256x8x64_S4096x512) bitsLt_bf16_f32

theorem gqS_apply (z : FVec Ideal S16x256x8x64 .f32) (R : Fin 4096) (j : Fin 512) :
    gqS z (ix2 R j) = z (ix4 ⟨R.val / 256, by omega⟩ ⟨R.val % 256, by omega⟩ ⟨j.val / 64, by omega⟩ ⟨j.val % 64, by omega⟩) * scale := by
  pointwise! [gqS, scale]

/-- The grouped keys, normed. -/
def gkS (z : FVec Ideal S16x256x2x64 .f32) : FVec Ideal S4096x128 .f32 := shapeCast _ z shapeCasts_S16x256x2x64_S4096x128

theorem gkS_apply (z : FVec Ideal S16x256x2x64 .f32) (R : Fin 4096) (j : Fin 128) :
    gkS z (ix2 R j) = z (ix4 ⟨R.val / 256, by omega⟩ ⟨R.val % 256, by omega⟩ ⟨j.val / 64, by omega⟩ ⟨j.val % 64, by omega⟩) := by
  pointwise! [gkS]

variable (m : (ℓ : Loc nD τ sig) → Buf (Elt Ideal) ℓ) (c : Dev nD)

/-- The projected rows of the reference's arguments. -/
abbrev argsS : FVec Ideal S16x256x7936 .f32 :=
  projS (m ((c.tc : Thread nD τ).loc main_arg0)) (m ((c.tc : Thread nD τ).loc main_arg1)) (m ((c.tc : Thread nD τ).loc main_arg2)) (m ((c.tc : Thread nD τ).loc main_arg3))

/-- What the run leaves in the gated unit's buffer. -/
theorem run_u : Cert.ProjRefIdeal.Value.res_main_v86 m c = flatS (uS (gluS (argsS m c))) := rfl

/-- What the run leaves in the grouped queries' buffer. -/
theorem run_gq : Cert.ProjRefIdeal.Value.res_main_v90 m c = gqS (normQS (headQS (argsS m c)) (m ((c.tc : Thread nD τ).loc main_arg4))) := rfl

/-- What the run leaves in the grouped keys' buffer. -/
theorem run_gk : Cert.ProjRefIdeal.Value.res_main_v91 m c = gkS (normKS (headKS (argsS m c)) (m ((c.tc : Thread nD τ).loc main_arg5))) := rfl

end Cert.ProjRefIdeal.Rows

end
-- ==== Proof.FfnPromptRefPoint.lean ====
/- The prompt feed-forward reference's result, element by element; its norms and modulation are the projection reference's. -/
module

public import proofs.«01_k».proof.Proof.ProjRefPoint
public import proofs.«01_k».proof.Proof.Gen.FfnPromptRefIdeal.Run

@[expose] public section

set_option maxRecDepth 16384

noncomputable section

namespace Cert.FfnPromptRefIdeal.Rows

open Cert.FfnPromptRefIdeal Cert.FfnPromptRefIdeal.Gen Idealize.ShloMosaic Idealize.ShloMosaic.TcCoe Idealize.SL.Sem
open Cert.FfnPromptRefIdeal.Facts Cert.Layer
open Cert.ProjRefIdeal.Rows (normS normS_apply scaleS scaleS_apply shiftS shiftS_apply)

/-- The gain before the step, on every row. -/
def gainS (g : FVec Ideal S6x1024 .f32) : FVec Ideal S16x256x1024 .f32 :=
  broadcastInDim S16x256x1024 ![0, 1, 2] bcast_S1x1x1024_S16x256x1024_0_1_2 (broadcastInDim S1x1x1024 ![2] bcast_S1024_S1x1x1024_2 (shapeCast _ (extractStridedSlice S1x1024 ![4, 0] g slices_S6x1024_S1x1024_4_0) shapeCasts_S1x1024_S1024))

/-- The gain after the step, on every row. -/
def gainT (g : FVec Ideal S6x1024 .f32) : FVec Ideal S16x256x1024 .f32 :=
  broadcastInDim S16x256x1024 ![0, 1, 2] bcast_S1x1x1024_S16x256x1024_0_1_2 (broadcastInDim S1x1x1024 ![2] bcast_S1024_S1x1x1024_2 (shapeCast _ (extractStridedSlice S1x1024 ![5, 0] g slices_S6x1024_S1x1024_5_0) shapeCasts_S1x1024_S1024))

/-- The step's three modulation rows . -/
def modS (md : FVec Ideal S1x9x1024 .f32) : FVec Ideal S1x3x1024 .f32 :=
  shapeCast _ (extractStridedSlice S1x1x3x1024 ![0, 2, 0, 0] (shapeCast _ md shapeCasts_S1x9x1024_S1x3x3x1024) slices_S1x3x3x1024_S1x1x3x1024_0_2_0_0) shapeCasts_S1x1x3x1024_S1x3x1024

/-- The gate rows, weighted, on every row. -/
def gateS (md : FVec Ideal S1x3x1024 .f32) : FVec Ideal S16x256x1024 .f32 :=
  broadcastInDim S16x256x1024 ![0, 1, 2] bcast_S1x1x1024_S16x256x1024_0_1_2 (mulf (broadcastInDim S1x1x1024 ![] bcast_S_S1x1x1024 (constant S_ .f32 0x3F000000#32)) (broadcastInDim S1x1x1024 ![0, 2] bcast_S1x1024_S1x1x1024_0_2 (shapeCast _ (extractStridedSlice S1x1x1024 ![0, 2, 0] md slices_S1x3x1024_S1x1x1024_0_2_0) shapeCasts_S1x1x1024_S1x1024)))

/-- The modulated rows. -/
def rowsS (x : FVec Ideal S16x256x1024 .f32) (md : FVec Ideal S1x9x1024 .f32) (g : FVec Ideal S6x1024 .f32) : FVec Ideal S16x256x1024 .f32 :=
  addf (mulf (mulf (normS x) (gainS g)) (scaleS (modS md))) (shiftS (modS md))

/-- The rows plus their update. -/
def sumS (x : FVec Ideal S16x256x1024 .f32) (md : FVec Ideal S1x9x1024 .f32) (g : FVec Ideal S6x1024 .f32) (y : FVec Ideal S16x256x1024 .f32) : FVec Ideal S4096x1024 .f32 :=
  shapeCast _ (addf x (mulf (gateS (modS md)) (mulf (normS y) (gainT g)))) shapeCasts_S16x256x1024_S4096x1024

theorem gainS_apply (g : FVec Ideal S6x1024 .f32) (b : Fin 16) (r : Fin 256) (l : Fin 1024) : gainS g (ix3 b r l) = g (ix2 4 l) := by
  pointwise [gainS]

theorem gainT_apply (g : FVec Ideal S6x1024 .f32) (b : Fin 16) (r : Fin 256) (l : Fin 1024) : gainT g (ix3 b r l) = g (ix2 5 l) := by
  pointwise [gainT]

theorem modS_apply (md : FVec Ideal S1x9x1024 .f32) (s : Fin 3) (l : Fin 1024) :
    modS md (ix3 0 s l) = md (ix3 0 ⟨2 * 3 + s.val, by omega⟩ l) := by
  pointwise! [modS]

theorem gateS_apply (md : FVec Ideal S1x3x1024 .f32) (b : Fin 16) (r : Fin 256) (l : Fin 1024) : gateS md (ix3 b r l) = half * md (ix3 0 2 l) := by
  pointwise [gateS, half]

theorem rowsS_apply (x : FVec Ideal S16x256x1024 .f32) (md : FVec Ideal S1x9x1024 .f32) (g : FVec Ideal S6x1024 .f32) (b : Fin 16) (r : Fin 256) (l : Fin 1024) :
    rowsS x md g (ix3 b r l) = modulated (fun k => x (ix3 b r k)) (fun k => g (ix2 4 k)) (fun k => md (ix3 0 6 k)) (fun k => md (ix3 0 7 k)) l := by
  show normS x (ix3 b r l) * gainS g (ix3 b r l) * scaleS (modS md) (ix3 b r l) + shiftS (modS md) (ix3 b r l) = _
  rw [normS_apply, gainS_apply, scaleS_apply, shiftS_apply, modS_apply, modS_apply]
  rfl

/-- Element `(r, l)` of the rows plus their update. -/
theorem sumS_apply (x : FVec Ideal S16x256x1024 .f32) (md : FVec Ideal S1x9x1024 .f32) (g : FVec Ideal S6x1024 .f32) (y : FVec Ideal S16x256x1024 .f32)
    (r : Fin 4096) (l : Fin 1024) :
    sumS x md g y (ix2 r l) = gatedSum (fun k => x (ix3 ⟨r.val / 256, by omega⟩ ⟨r.val % 256, by omega⟩ k))
      (fun k => y (ix3 ⟨r.val / 256, by omega⟩ ⟨r.val % 256, by omega⟩ k)) (fun k => g (ix2 5 k)) (fun k => md (ix3 0 8 k)) half l := by
  have h : sumS x md g y (ix2 r l) = addf x (mulf (gateS (modS md)) (mulf (normS y) (gainT g))) (ix3 ⟨r.val / 256, by omega⟩ ⟨r.val % 256, by omega⟩ l) := by
    generalize hz : addf x (mulf (gateS (modS md)) (mulf (normS y) (gainT g))) = z
    pointwise! [sumS, hz]
  rw [h]
  show x (ix3 _ _ l) + gateS (modS md) (ix3 _ _ l) * (normS y (ix3 _ _ l) * gainT g (ix3 _ _ l)) = _
  rw [gateS_apply, normS_apply, gainT_apply, modS_apply]
  rfl

/-- The hidden columns, both halves. -/
def hidS (h : FVec Ideal S16x256x1024 .f32) (w : FVec Ideal S1024x5632 .f32) : FVec Ideal S16x256x5632 .f32 :=
  Host.dotGeneral dot_S16x256x1024_S1024x5632_S16x256x5632_2_0_01_1_n_n none h w

/-- The first half. -/
def fstS (z : FVec Ideal S16x256x5632 .f32) : FVec Ideal S16x256x2816 .f32 :=
  extractStridedSlice S16x256x2816 ![0, 0, 0] z slices_S16x256x5632_S16x256x2816_0_0_0

/-- The second half. -/
def sndS (z : FVec Ideal S16x256x5632 .f32) : FVec Ideal S16x256x2816 .f32 :=
  extractStridedSlice S16x256x2816 ![0, 0, 2816] z slices_S16x256x5632_S16x256x2816_0_0_2816

/-- The activations. -/
def actS (z : FVec Ideal S16x256x5632 .f32) : FVec Ideal S16x256x2816 .f32 :=
  mulf (mulf (fstS z) (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf (fstS z)))))) (sndS z)

/-- The step's rows. -/
def outS (a : FVec Ideal S16x256x2816 .f32) (w : FVec Ideal S2816x1024 .f32) : FVec Ideal S16x256x1024 .f32 :=
  Host.dotGeneral dot_S16x256x2816_S2816x1024_S16x256x1024_2_0_01_1_n_n none a w

/-- The reference's result. -/
def refS (x : FVec Ideal S16x256x1024 .f32) (md : FVec Ideal S1x9x1024 .f32) (g : FVec Ideal S6x1024 .f32) (w1 : FVec Ideal S1024x5632 .f32)
    (w2 : FVec Ideal S2816x1024 .f32) : FVec Ideal S4096x1024 .f32 :=
  sumS x md g (outS (actS (hidS (rowsS x md g) w1)) w2)

theorem hidS_apply (h : FVec Ideal S16x256x1024 .f32) (w : FVec Ideal S1024x5632 .f32) (b : Fin 16) (r : Fin 256) (j : Fin 5632) :
    hidS h w (ix3 b r j) = ∑ k : Fin 1024, h (ix3 b r k) * w (ix2 k j) := by
  pointwise [hidS]

theorem fstS_apply (z : FVec Ideal S16x256x5632 .f32) (b : Fin 16) (r : Fin 256) (j : Fin 2816) : fstS z (ix3 b r j) = z (ix3 b r ⟨j.val, by omega⟩) := by
  pointwise! [fstS]

theorem sndS_apply (z : FVec Ideal S16x256x5632 .f32) (b : Fin 16) (r : Fin 256) (j : Fin 2816) : sndS z (ix3 b r j) = z (ix3 b r ⟨2816 + j.val, by omega⟩) := by
  pointwise! [sndS]

theorem actS_apply (z : FVec Ideal S16x256x5632 .f32) (b : Fin 16) (r : Fin 256) (j : Fin 2816) :
    actS z (ix3 b r j) = act (z (ix3 b r ⟨j.val, by omega⟩)) (z (ix3 b r ⟨2816 + j.val, by omega⟩)) := by
  show fstS z (ix3 b r j) * Cert.Layer.sig (fstS z (ix3 b r j)) * sndS z (ix3 b r j) = _
  rw [fstS_apply, sndS_apply]
  rfl

theorem outS_apply (a : FVec Ideal S16x256x2816 .f32) (w : FVec Ideal S2816x1024 .f32) (b : Fin 16) (r : Fin 256) (l : Fin 1024) :
    outS a w (ix3 b r l) = ∑ j : Fin 2816, a (ix3 b r j) * w (ix2 j l) := by
  pointwise [outS]

/-- Element `(r, l)` of the reference's result. -/
theorem refS_apply (x : FVec Ideal S16x256x1024 .f32) (md : FVec Ideal S1x9x1024 .f32) (g : FVec Ideal S6x1024 .f32) (w1 : FVec Ideal S1024x5632 .f32)
    (w2 : FVec Ideal S2816x1024 .f32) (r : Fin 4096) (l : Fin 1024) :
    refS x md g w1 w2 (ix2 r l) = gatedSum (fun k => x (ix3 ⟨r.val / 256, by omega⟩ ⟨r.val % 256, by omega⟩ k))
      (fun l => ∑ j : Fin 2816, act
        (∑ k : Fin 1024, modulated (fun k => x (ix3 ⟨r.val / 256, by omega⟩ ⟨r.val % 256, by omega⟩ k)) (fun k => g (ix2 4 k))
          (fun k => md (ix3 0 6 k)) (fun k => md (ix3 0 7 k)) k * w1 (ix2 k ⟨j.val, by omega⟩))
        (∑ k : Fin 1024, modulated (fun k => x (ix3 ⟨r.val / 256, by omega⟩ ⟨r.val % 256, by omega⟩ k)) (fun k => g (ix2 4 k))
          (fun k => md (ix3 0 6 k)) (fun k => md (ix3 0 7 k)) k * w1 (ix2 k ⟨2816 + j.val, by omega⟩))
        * w2 (ix2 j l))
      (fun k => g (ix2 5 k)) (fun k => md (ix3 0 8 k)) half l := by
  rw [refS, sumS_apply]
  simp only [outS_apply, actS_apply, hidS_apply, rowsS_apply]

/-- What the run leaves in the result buffer. -/
theorem run_eq (m : (ℓ : Loc nD τ sig) → Buf (Elt Ideal) ℓ) (c : Dev nD) :
    Cert.FfnPromptRefIdeal.Value.res_main_v61 m c = refS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.FfnPromptRefIdeal.Rows

end
-- ==== Proof.FfnPromptFinal.lean ====
/- The prompt feed-forward kernel's result array is the reference's. -/
module

public import proofs.«01_k».proof.Proof.FfnFinal
public import proofs.«01_k».proof.Proof.Gen.FfnPromptIdeal.Value
public import proofs.«01_k».proof.Proof.FfnPromptRefPoint
public import Idealize.ShloMosaic.Adequacy
public import Idealize.ShloMosaic.Init
public import Idealize.ShloMosaic.Lib.Claim

@[expose] public section

set_option maxRecDepth 16384

noncomputable section

namespace Cert.FfnPromptIdeal.Arrays

open Cert.FfnPromptIdeal Cert.FfnPromptIdeal.Gen Idealize.ShloMosaic Idealize.ShloMosaic.TcCoe Idealize.SL.Sem
open Idealize.ShloMosaic.Pipeline (Dat)
open Cert.Layer Cert.FfnIdeal.Blocks Cert.FfnPromptRefIdeal.Rows

variable (m : (ℓ : Loc nD τ sig) → Buf (Elt Ideal) ℓ)

/-- Which block of each array grid point `t` works on. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![t.val, 0] :=
  (by decide +kernel : ∀ t : Fin grid0.N, _)

/-- The arguments as the region's run finds them. -/
abbrev a0 (c : Dev nD) : S16x256x1024.Idx → EReal := m ((c : Thread nD τ).loc main_arg0)
abbrev a1 (c : Dev nD) : S1x9x1024.Idx → EReal := m ((c : Thread nD τ).loc main_arg1)
abbrev a2 (c : Dev nD) : S6x1024.Idx → EReal := m ((c : Thread nD τ).loc main_arg2)
abbrev a3 (c : Dev nD) : S1024x5632.Idx → EReal := m ((c : Thread nD τ).loc main_arg3)
abbrev a4 (c : Dev nD) : S2816x1024.Idx → EReal := m ((c : Thread nD τ).loc main_arg4)

theorem v0 (c : Dev nD) (r : Fin 4096) (l : Fin 1024) :
    (V m c main_v0 : S4096x1024.Idx → EReal) (ix2 r l) = a0 m c (ix3 ⟨r.val / 256, by omega⟩ ⟨r.val % 256, by omega⟩ l) := by
  entry_read
  pointwise!

theorem v1 (c : Dev nD) : (V m c main_v1 : S1024x5632.Idx → EReal) = a3 m c := by
  entry_read
  rfl

theorem v2 (c : Dev nD) : (V m c main_v2 : S2816x1024.Idx → EReal) = a4 m c := by
  entry_read
  rfl

theorem blk0 (c : Dev nD) (t : Fin cfg0.N) (r : Fin 512) (l : Fin 1024) :
    (iblk m c 0 t : S512x1024.Idx → EReal) (ix2 r l)
      = (V m c main_v0 : S4096x1024.Idx → EReal) (ix2 ⟨t.val * 512 + r.val, by have : t.val < 8 := t.isLt; omega⟩ l) := by
  obtain ⟨e,_,_,_,_,_⟩ := idx t
  blk_ext [iblk, e]

theorem blk1 (c : Dev nD) (t : Fin cfg0.N) (s : Fin 9) (l : Fin 1024) :
    (iblk m c 1 t : S1x9x1024.Idx → EReal) (ix3 0 s l)
      = (V m c main_arg1 : S1x9x1024.Idx → EReal) (ix3 0 s l) := by
  obtain ⟨_,e,_,_,_,_⟩ := idx t
  blk_ext [iblk, e]

theorem blk2 (c : Dev nD) (t : Fin cfg0.N) (s : Fin 6) (l : Fin 1024) :
    (iblk m c 2 t : S6x1024.Idx → EReal) (ix2 s l) = (V m c main_arg2 : S6x1024.Idx → EReal) (ix2 s l) := by
  obtain ⟨_,_,e,_,_,_⟩ := idx t
  blk_ext [iblk, e]

theorem blk3 (c : Dev nD) (t : Fin cfg0.N) (k : Fin 1024) (j : Fin 5632) :
    (iblk m c 3 t : S1024x5632.Idx → EReal) (ix2 k j) = (V m c main_v1 : S1024x5632.Idx → EReal) (ix2 k j) := by
  obtain ⟨_,_,_,e,_,_⟩ := idx t
  blk_ext [iblk, e]

theorem blk4 (c : Dev nD) (t : Fin cfg0.N) (j : Fin 2816) (l : Fin 1024) :
    (iblk m c 4 t : S2816x1024.Idx → EReal) (ix2 j l) = (V m c main_v2 : S2816x1024.Idx → EReal) (ix2 j l) := by
  obtain ⟨_,_,_,_,e,_⟩ := idx t
  blk_ext [iblk, e]

/-- Row `r` of block `t` is the reference's row. -/
theorem row_eq (c : Dev nD) (t : Fin cfg0.N) (r : Fin 512) (l : Fin 1024) (R : Fin 4096) (hR : R.val = t.val * 512 + r.val) :
    gatedSum (fun k => (iblk m c 0 t : S512x1024.Idx → EReal) (ix2 r k))
      (fun k => ∑ j : Fin 2816, term (modulated (fun k => (iblk m c 0 t : S512x1024.Idx → EReal) (ix2 r k)) (fun k => (iblk m c 2 t : S6x1024.Idx → EReal) (ix2 4 k))
        (fun k => (iblk m c 1 t : S1x9x1024.Idx → EReal) (ix3 0 6 k)) (fun k => (iblk m c 1 t : S1x9x1024.Idx → EReal) (ix3 0 7 k)))
        (iblk m c 3 t) (iblk m c 4 t) k j)
      (fun k => (iblk m c 2 t : S6x1024.Idx → EReal) (ix2 5 k)) (fun k => (iblk m c 1 t : S1x9x1024.Idx → EReal) (ix3 0 8 k)) half l
    = refS (a0 m c) (a1 m c) (a2 m c) (a3 m c) (a4 m c) (ix2 R l) := by
  have ht : t.val < 8 := t.isLt
  have h0 : ∀ k, (iblk m c 0 t : S512x1024.Idx → EReal) (ix2 r k) = a0 m c (ix3 ⟨R.val / 256, by omega⟩ ⟨R.val % 256, by omega⟩ k) := by
    intro k
    have e : (⟨t.val * 512 + r.val, by omega⟩ : Fin 4096) = R := Fin.ext hR.symm
    rw [blk0, v0, e]
  have h1 : ∀ s k, (iblk m c 1 t : S1x9x1024.Idx → EReal) (ix3 0 s k) = a1 m c (ix3 0 s k) := fun s k => by rw [blk1, V_main_arg1]
  have h2 : ∀ s k, (iblk m c 2 t : S6x1024.Idx → EReal) (ix2 s k) = a2 m c (ix2 s k) := fun s k => by rw [blk2, V_main_arg2]
  have h3 : ∀ k j, (iblk m c 3 t : S1024x5632.Idx → EReal) (ix2 k j) = a3 m c (ix2 k j) := fun k j => by rw [blk3, v1]
  have h4 : ∀ j l, (iblk m c 4 t : S2816x1024.Idx → EReal) (ix2 j l) = a4 m c (ix2 j l) := fun j l => by rw [blk4, v2]
  rw [refS_apply]
  simp only [term, h0, h1, h2, h3, h4]

/-- The prompt feed-forward's array. -/
theorem final5 (c : Dev nD) : (dats m 0 c).arrAt 5 cfg0.N = refS (a0 m c) (a1 m c) (a2 m c) (a3 m c) (a4 m c) := by
  refine (dats m 0 c).arrAt_eq_of_covers 5 _ (by decide +kernel) fun t _ y => ?_
  blk_simp
  rw [after0_5]; unfold Gen.outsAt0
  frame_out
  obtain ⟨_,_,_,_,_,e⟩ := idx t
  have y0 : (y 0).val < 512 := (y 0).isLt
  have y1 : (y 1).val < 1024 := (y 1).isLt
  have ht : t.val < 8 := t.isLt
  have hy : (win0_5.blk t).view.emb y = ix2 (⟨t.val * 512 + (y 0).val, by omega⟩ : Fin 4096) (⟨(y 1).val, y1⟩ : Fin 1024) := by
    blk_ext [e]
  rw [hy]
  refine (Cert.FfnIdeal.Arrays.block_at _ _ _ _ _ y ⟨(y 0).val, y0⟩ ⟨(y 1).val, y1⟩ (eq_ix2 y)).trans ?_
  exact row_eq m c t _ _ _ rfl

end Cert.FfnPromptIdeal.Arrays

end
-- ==== Proof.ProjBlock.lean ====
/- What the input projection's kernel writes at one grid point, element by element. -/
module

public import proofs.«01_k».proof.Proof.HeadNorm
public import proofs.«01_k».proof.Proof.Gen.ProjIdeal.Value
public import Idealize.ShloMosaic.Lib.Pipeline.ValueKit

@[expose] public section

set_option maxRecDepth 65536

noncomputable section

namespace Cert.ProjIdeal.Blocks

open Cert.ProjIdeal Cert.ProjIdeal.Gen Idealize.ShloMosaic Idealize.ShloMosaic.TcCoe Idealize.SL.Sem
open Cert.Layer

abbrev BX := Vec Ideal S256x1024 .f32
abbrev BH := FVec Ideal S256x1024 .bf16
abbrev BM := Vec Ideal S1x9x1024 .f32
abbrev BG := Vec Ideal S1x1024 .f32
abbrev BW := Vec Ideal S1024x512 .bf16
abbrev BV := Vec Ideal S1024x128 .bf16
abbrev BP := Vec Ideal S1024x3840 .bf16

/-- The modulated rows of a block. -/
theorem pay2_apply (x : BX) (g : BG) (md : BM) (r : Fin 256) (l : Fin 1024) :
    k0_pay2 x g md (ix2 r l) = modulated (fun k => x (ix2 r k)) (fun k => g (ix2 0 k)) (fun k => md (ix3 0 3 k)) (fun k => md (ix3 0 4 k)) l := by
  pointwise [k0_pay2, modulated, invRms, one]

theorem pay1_apply (h : BH) (w : BW) (r : Fin 256) (j : Fin 512) : k0_pay1 h w (ix2 r j) = ∑ k : Fin 1024, h (ix2 r k) * w (ix2 k j) := by
  pointwise [k0_pay1]

theorem pay11_apply (h : BH) (w : BV) (r : Fin 256) (j : Fin 128) : k0_pay11 h w (ix2 r j) = ∑ k : Fin 1024, h (ix2 r k) * w (ix2 k j) := by
  pointwise [k0_pay11]

theorem pay3_eq (x : BX) (g : BG) (md : BM) (w : BW) (i : S256x512.Idx) : k0_pay3 x g md w i = k0_pay1 (k0_pay2 x g md) w i * scale := rfl

theorem pay6_eq (h : BH) (a b : BW) (i : S256x512.Idx) : k0_pay6 h a b i = k0_pay1 h a i * Cert.Layer.sig (k0_pay1 h b i) := by
  rw [← logistic_eq]
  rfl

/-- The queries' normed rows. -/
theorem pay12_apply (q v : FVec Ideal S256x512 .f32) (g : Vec Ideal S1x512 .f32) (r : Fin 256) (j : Fin 512) :
    k0_pay12 q (k0_pay8 g) v (ix2 r j) = q (ix2 r j) * Ideal.rsqrt (v (ix2 r j)) * g (ix2 0 j) * scale := by
  pointwise [k0_pay12, k0_pay8, scale]

theorem pay9_apply (h : BH) (w : BW) (o : Vec Ideal S512x512 .bf16) (r : Fin 256) (j : Fin 512) :
    Ideal.rsqrt (k0_pay9 h w o (ix2 r j)) = headInvSplit (fun k => k0_pay1 h w (ix2 r k)) (fun k => o (ix2 k j)) := by
  have e : k0_pay7 h w = k0_pay1 h w := rfl
  generalize hq : k0_pay1 h w = q at e ⊢
  pointwise [k0_pay9, e, headInvSplit]

/-- The keys' rows normed, from the rows themselves. -/
def keysN (q : FVec Ideal S256x128 .f32) (g : Vec Ideal S1x128 .f32) (o : Vec Ideal S128x128 .bf16) : FVec Ideal S256x128 .f32 :=
  mulf (mulf q (rsqrt (addf (mulf (addf
    (matmul (φ₂ := .bf16) dot_S256x128_S128x128_S256x128_1_0_0_1_n_n none (truncf .bf16 (mulf q q) bitsLt_bf16_f32) (shapeCast S128x128 o shapeCasts_S128x128_S128x128) (constant S256x128 .f32 0x00000000#32))
    (matmul (φ₂ := .bf16) dot_S256x128_S128x128_S256x128_1_0_0_1_n_n none
      (truncf .bf16 (subf (mulf q q) (extf .f32 (truncf .bf16 (mulf q q) bitsLt_bf16_f32) bitsLt_bf16_f32)) bitsLt_bf16_f32) (shapeCast S128x128 o shapeCasts_S128x128_S128x128) (constant S256x128 .f32 0x00000000#32)))
    (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

theorem keysN_apply (q : FVec Ideal S256x128 .f32) (g : Vec Ideal S1x128 .f32) (o : Vec Ideal S128x128 .bf16) (r : Fin 256) (j : Fin 128) :
    keysN q g o (ix2 r j) = q (ix2 r j) * headInvSplit (fun k => q (ix2 r k)) (fun k => o (ix2 k j)) * g (ix2 0 j) := by
  pointwise [keysN, headInvSplit]

theorem pay10_eq (h : BH) (w : BV) (g : Vec Ideal S1x128 .f32) (o : Vec Ideal S128x128 .bf16) : k0_pay10 h w g o = keysN (k0_pay11 h w) g o := rfl

/-! ## The loads -/

theorem ldw (w : BP) (o : ℕ) (inb) (ho : o + 512 ≤ 3840) (k : Fin 1024) (j : Fin 512) :
    (View.ld w (Rect.unit (s := S1024x3840) ![0, o] S1024x512.size inb) : BW) (ix2 k j) = w (ix2 k ⟨o + j.val, by omega⟩) := by
  refine View.ld_unit_apply_of _ _ _ _ _ _ fun a => ?_
  fin_cases a
  · exact (Nat.zero_add _).symm
  · rfl

theorem ldv (w : BP) (o : ℕ) (inb) (ho : o + 128 ≤ 3840) (k : Fin 1024) (j : Fin 128) :
    (View.ld w (Rect.unit (s := S1024x3840) ![0, o] S1024x128.size inb) : BV) (ix2 k j) = w (ix2 k ⟨o + j.val, by omega⟩) := by
  refine View.ld_unit_apply_of _ _ _ _ _ _ fun a => ?_
  fin_cases a
  · exact (Nat.zero_add _).symm
  · rfl

theorem ldg (w : Vec Ideal S6x1024 .f32) (o : ℕ) (inb) (ho : o < 6) (l : Fin 1024) :
    (View.ld w (Rect.unit (s := S6x1024) ![o, 0] S1x1024.size inb) : BG) (ix2 0 l) = w (ix2 ⟨o, ho⟩ l) := by
  refine View.ld_unit_apply_of _ _ _ _ _ _ fun a => ?_
  fin_cases a
  · rfl
  · exact (Nat.zero_add _).symm

/-- Column `j` of the projection of row `r` of a block. -/
def col (x0 : BX) (x1 : BM) (x2 : Vec Ideal S6x1024 .f32) (x3 : BP) (r : Fin 256) (j : Fin 3840) : EReal :=
  ∑ k : Fin 1024, modulated (fun k => x0 (ix2 r k)) (fun k => x2 (ix2 2 k)) (fun k => x1 (ix3 0 3 k)) (fun k => x1 (ix3 0 4 k)) k * x3 (ix2 k j)

variable (x0 : BX) (x1 : BM) (x2 : Vec Ideal S6x1024 .f32) (x3 : BP) (x4 : Vec Ideal S1x512 .f32) (x5 : Vec Ideal S1x128 .f32)
  (x6 : Vec Ideal S512x512 .bf16) (x7 : Vec Ideal S128x128 .bf16)

theorem rows_at (r : Fin 256) (k : Fin 1024) : k0_pay2 x0 (View.ld x2 r0_1) x1 (ix2 r k)
    = modulated (fun k => x0 (ix2 r k)) (fun k => x2 (ix2 2 k)) (fun k => x1 (ix3 0 3 k)) (fun k => x1 (ix3 0 4 k)) k := by
  rw [pay2_apply]
  simp only [ldg x2 2 _ (by omega)]
  rfl

/-- A product with 512 of the weights' columns. -/
theorem wide (o : ℕ) (inb) (ho : o + 512 ≤ 3840) (r : Fin 256) (j : Fin 512) :
    k0_pay1 (k0_pay2 x0 (View.ld x2 r0_1) x1) (View.ld x3 (Rect.unit (s := S1024x3840) ![0, o] S1024x512.size inb)) (ix2 r j)
      = col x0 x1 x2 x3 r ⟨o + j.val, by omega⟩ := by
  rw [pay1_apply, col]
  exact Finset.sum_congr rfl fun k _ => by rw [rows_at, ldw x3 o inb ho]

/-- A product with 128 of the weights' columns. -/
theorem narrow (o : ℕ) (inb) (ho : o + 128 ≤ 3840) (r : Fin 256) (j : Fin 128) :
    k0_pay11 (k0_pay2 x0 (View.ld x2 r0_1) x1) (View.ld x3 (Rect.unit (s := S1024x3840) ![0, o] S1024x128.size inb)) (ix2 r j)
      = col x0 x1 x2 x3 r ⟨o + j.val, by omega⟩ := by
  rw [pay11_apply, col]
  exact Finset.sum_congr rfl fun k _ => by rw [rows_at, ldv x3 o inb ho]

variable (r : Fin 256)

theorem out8_at (y : S256x512.Idx) (j : Fin 512) (hy : y = ix2 r j) :
    out0_8 x0 x1 x2 x3 x4 x5 x6 x7 y = col x0 x1 x2 x3 r ⟨0 + j.val, by omega⟩ * scale := by
  subst hy
  unfold_out out0_8
  frame_out
  rw [pay3_eq, wide _ _ _ _ 0 _ (by omega)]

theorem out9_at (y : S256x512.Idx) (j : Fin 512) (hy : y = ix2 r j) :
    out0_9 x0 x1 x2 x3 x4 x5 x6 x7 y = col x0 x1 x2 x3 r ⟨512 + j.val, by omega⟩ := by
  subst hy
  unfold_out out0_9
  frame_out
  exact wide _ _ _ _ 512 _ (by omega) r j

theorem out10_at (y : S256x512.Idx) (j : Fin 512) (hy : y = ix2 r j) :
    out0_10 x0 x1 x2 x3 x4 x5 x6 x7 y = col x0 x1 x2 x3 r ⟨1024 + j.val, by omega⟩ := by
  subst hy
  unfold_out out0_10
  frame_out
  exact wide _ _ _ _ 1024 _ (by omega) r j

theorem out11_at (y : S256x512.Idx) (j : Fin 512) (hy : y = ix2 r j) :
    out0_11 x0 x1 x2 x3 x4 x5 x6 x7 y = col x0 x1 x2 x3 r ⟨1536 + j.val, by omega⟩ * Cert.Layer.sig (col x0 x1 x2 x3 r ⟨2048 + j.val, by omega⟩) := by
  subst hy
  unfold_out out0_11
  frame_out
  rw [pay6_eq, wide _ _ _ _ 1536 _ (by omega), wide _ _ _ _ 2048 _ (by omega)]

theorem out12_at (y : S256x512.Idx) (j : Fin 512) (hy : y = ix2 r j) :
    out0_12 x0 x1 x2 x3 x4 x5 x6 x7 y = col x0 x1 x2 x3 r ⟨2560 + j.val, by omega⟩
      * headInvSplit (fun k : Fin 512 => col x0 x1 x2 x3 r ⟨2560 + k.val, by omega⟩) (fun k => x6 (ix2 k j)) * x4 (ix2 0 j) * scale := by
  subst hy
  unfold_out out0_12
  frame_out
  rw [pay12_apply, pay9_apply]
  simp only [wide x0 x1 x2 x3 2560 _ (by omega)]
  rw [← wide x0 x1 x2 x3 2560 inb_S1024x3840_S1024x512_0_2560 (by omega)]
  rfl

theorem out13_at (y : S256x128.Idx) (j : Fin 128) (hy : y = ix2 r j) :
    out0_13 x0 x1 x2 x3 x4 x5 x6 x7 y = col x0 x1 x2 x3 r ⟨3072 + j.val, by omega⟩
      * headInvSplit (fun k : Fin 128 => col x0 x1 x2 x3 r ⟨3072 + k.val, by omega⟩) (fun k => x7 (ix2 k j)) * x5 (ix2 0 j) := by
  subst hy
  unfold_out out0_13
  frame_out
  rw [pay10_eq, keysN_apply]
  simp only [narrow x0 x1 x2 x3 3072 _ (by omega)]

theorem out14_at (y : S256x128.Idx) (j : Fin 128) (hy : y = ix2 r j) :
    out0_14 x0 x1 x2 x3 x4 x5 x6 x7 y = col x0 x1 x2 x3 r ⟨3200 + j.val, by omega⟩ := by
  subst hy
  unfold_out out0_14
  frame_out
  exact narrow _ _ _ _ 3200 _ (by omega) r j

theorem out15_at (y : S256x512.Idx) (j : Fin 512) (hy : y = ix2 r j) :
    out0_15 x0 x1 x2 x3 x4 x5 x6 x7 y = col x0 x1 x2 x3 r ⟨3328 + j.val, by omega⟩ := by
  subst hy
  unfold_out out0_15
  frame_out
  exact wide _ _ _ _ 3328 _ (by omega) r j

end Cert.ProjIdeal.Blocks

end
-- ==== Proof.ProjFinal.lean ====
/- The input projection's eight result arrays are the reference's, where its modulation and weights are finite. -/
module

public import proofs.«01_k».proof.Defs
public import proofs.«01_k».proof.Proof.ProjBlock
public import proofs.«01_k».proof.Proof.ProjRefPoint
public import proofs.«01_k».proof.Proof.AttnFinal
public import Idealize.ShloMosaic.Adequacy
public import Idealize.ShloMosaic.Init
public import Idealize.ShloMosaic.Lib.Claim

@[expose] public section

set_option maxRecDepth 16384

noncomputable section

namespace Cert.ProjIdeal.Arrays

open Cert.ProjIdeal Cert.ProjIdeal.Gen Idealize.ShloMosaic Idealize.ShloMosaic.TcCoe Idealize.SL.Sem
open Idealize.ShloMosaic.Pipeline (Dat)
open Cert.Layer Cert.ProjIdeal.Blocks Cert.ProjRefIdeal.Rows
open Cert.AttnIdeal.Arrays (Reals real_of_test pat32)

variable (m : (ℓ : Loc nD τ sig) → Buf (Elt Ideal) ℓ)

/-- Which block of each array grid point `t` reads. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- Which block of each array grid point `t` writes. -/
theorem idxOut : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

/-- The arguments as the region's run finds them. -/
abbrev a0 (c : Dev nD) : S16x256x1024.Idx → EReal := m ((c : Thread nD τ).loc main_arg0)
abbrev a1 (c : Dev nD) : S1x9x1024.Idx → EReal := m ((c : Thread nD τ).loc main_arg1)
abbrev a2 (c : Dev nD) : S6x1024.Idx → EReal := m ((c : Thread nD τ).loc main_arg2)
abbrev a3 (c : Dev nD) : S1024x7936.Idx → EReal := m ((c : Thread nD τ).loc main_arg3)
abbrev a4 (c : Dev nD) : S64.Idx → EReal := m ((c : Thread nD τ).loc main_arg4)
abbrev a5 (c : Dev nD) : S64.Idx → EReal := m ((c : Thread nD τ).loc main_arg5)

/-- The projected rows of the arguments. -/
abbrev ps (c : Dev nD) : FVec Ideal Cert.ProjRefIdeal.S16x256x7936 .f32 := projS (a0 m c) (a1 m c) (a2 m c) (a3 m c)

/-! ## What the region finds in its input arrays -/

theorem v28 (c : Dev nD) (r : Fin 4096) (l : Fin 1024) :
    (V m c main_v28 : S4096x1024.Idx → EReal) (ix2 r l) = a0 m c (ix3 ⟨r.val / 256, by omega⟩ ⟨r.val % 256, by omega⟩ l) := by
  simp only [V, hostOps0, hostOps0_1, hostOps0_2, hostOps0_3, hostOps0_4, List.flatten_cons, List.flatten_nil, List.append_nil,
    List.cons_append, List.nil_append]
  entry_read
  pointwise!

theorem v1 (c : Dev nD) (k : Fin 1024) (j : Fin 3840) :
    (V m c main_v1 : S1024x3840.Idx → EReal) (ix2 k j) = a3 m c (ix2 k ⟨j.val, by omega⟩) := by
  simp only [V, hostOps0, hostOps0_1, hostOps0_2, hostOps0_3, hostOps0_4, List.flatten_cons, List.flatten_nil, List.append_nil,
    List.cons_append, List.nil_append]
  entry_read
  pointwise!

theorem v23 (c : Dev nD) (j : Fin 512) : (V m c main_v23 : S1x512.Idx → EReal) (ix2 0 j) = a4 m c (ix1 ⟨j.val % 64, by omega⟩) := by
  simp only [V, hostOps0, hostOps0_1, hostOps0_2, hostOps0_3, hostOps0_4, List.flatten_cons, List.flatten_nil, List.append_nil,
    List.cons_append, List.nil_append]
  entry_read
  pointwise!

theorem v27 (c : Dev nD) (j : Fin 128) : (V m c main_v27 : S1x128.Idx → EReal) (ix2 0 j) = a5 m c (ix1 ⟨j.val % 64, by omega⟩) := by
  simp only [V, hostOps0, hostOps0_1, hostOps0_2, hostOps0_3, hostOps0_4, List.flatten_cons, List.flatten_nil, List.append_nil,
    List.cons_append, List.nil_append]
  entry_read
  pointwise!

/-- The test of two indices, read as a number. -/
theorem same_bit (a b : ℕ) (ha : a < 2 ^ 32) (hb : b < 2 ^ 32) : (FloatOps.uitofp (F := Ideal) .f32
    (IntOp.cmpi .eq (IntOp.addi (BitVec.ofNat 32 a) 0#32) (BitVec.ofNat 32 b)) : EReal) = (if a = b then 1 else 0 : EReal) := by
  have e : (BitVec.ofNat 32 a = BitVec.ofNat 32 b) ↔ a = b := by
    rw [BitVec.toNat_eq, BitVec.toNat_ofNat, BitVec.toNat_ofNat, Nat.mod_eq_of_lt ha, Nat.mod_eq_of_lt hb]
  have z : IntOp.addi (BitVec.ofNat 32 a) 0#32 = BitVec.ofNat 32 a := BitVec.add_zero _
  rw [z]
  by_cases h : a = b
  · subst h
    rw [if_pos rfl]
    have t : IntOp.cmpi .eq (BitVec.ofNat 32 a) (BitVec.ofNat 32 a) = 1#1 := by simp [IntOp.cmpi]
    rw [t]
    show ((((1#1 : BitVec 1).toNat : ℝ)) : EReal) = 1
    norm_num
  · rw [if_neg h]
    have t : IntOp.cmpi .eq (BitVec.ofNat 32 a) (BitVec.ofNat 32 b) = 0#1 := by
      have f : (BitVec.ofNat 32 a == BitVec.ofNat 32 b) = false := beq_eq_false_iff_ne.mpr fun q => h (e.mp q)
      simp only [IntOp.cmpi, f, BitVec.ofBool_false]
      rfl
    rw [t]
    show ((((0#1 : BitVec 1).toNat : ℝ)) : EReal) = 0
    norm_num

theorem vOnes512 (c : Dev nD) (k j : Fin 512) :
    (V m c main_v10 : S512x512.Idx → EReal) (ix2 k j) = (if k.val / 64 = j.val / 64 then 1 else 0 : EReal) := by
  simp only [V, hostOps0, hostOps0_1, hostOps0_2, hostOps0_3, hostOps0_4, List.flatten_cons, List.flatten_nil, List.append_nil,
    List.cons_append, List.nil_append]
  entry_read
  pointwise!
  change mulf (F := Ideal) (φ := .f32)
    (broadcastInDim S8x64x8x64 ![0, 1, 2, 3] bcast_S8x1x8x1_S8x64x8x64_0_1_2_3
      (broadcastInDim S8x1x8x1 ![0, 2] bcast_S8x8_S8x1x8x1_0_2
        (uitofp .f32 (cmpi .eq (addi (iotaInDim S8x8 32 0) (broadcastInDim S8x8 ![] bcast_S_S8x8 (constantI S_ 32 0#32)))
          (iotaInDim S8x8 32 1)))))
    (broadcastInDim S8x64x8x64 ![0, 1, 2, 3] bcast_S1x64x1x64_S8x64x8x64_0_1_2_3
      (broadcastInDim S1x64x1x64 ![1, 3] bcast_S64x64_S1x64x1x64_1_3
        (broadcastInDim S64x64 ![] bcast_S_S64x64 (constant S_ .f32 0x3F800000#32)))) _ = _
  pointwise!
  exact same_bit _ _ (by omega) (by omega)

theorem vOnes128 (c : Dev nD) (k j : Fin 128) :
    (V m c main_v19 : S128x128.Idx → EReal) (ix2 k j) = (if k.val / 64 = j.val / 64 then 1 else 0 : EReal) := by
  simp only [V, hostOps0, hostOps0_1, hostOps0_2, hostOps0_3, hostOps0_4, List.flatten_cons, List.flatten_nil, List.append_nil,
    List.cons_append, List.nil_append]
  entry_read
  pointwise!
  change mulf (F := Ideal) (φ := .f32)
    (broadcastInDim S2x64x2x64 ![0, 1, 2, 3] bcast_S2x1x2x1_S2x64x2x64_0_1_2_3
      (broadcastInDim S2x1x2x1 ![0, 2] bcast_S2x2_S2x1x2x1_0_2
        (uitofp .f32 (cmpi .eq (addi (iotaInDim S2x2 32 0) (broadcastInDim S2x2 ![] bcast_S_S2x2 (constantI S_ 32 0#32)))
          (iotaInDim S2x2 32 1)))))
    (broadcastInDim S2x64x2x64 ![0, 1, 2, 3] bcast_S1x64x1x64_S2x64x2x64_0_1_2_3
      (broadcastInDim S1x64x1x64 ![1, 3] bcast_S64x64_S1x64x1x64_1_3
        (broadcastInDim S64x64 ![] bcast_S_S64x64 (constant S_ .f32 0x3F800000#32)))) _ = _
  pointwise!
  exact same_bit _ _ (by omega) (by omega)

/-! ## The blocks the kernel reads -/

theorem blk0 (c : Dev nD) (t : Fin cfg0.N) (r : Fin 256) (l : Fin 1024) :
    (iblk m c 0 t : S256x1024.Idx → EReal) (ix2 r l)
      = (V m c main_v28 : S4096x1024.Idx → EReal) (ix2 ⟨t.val * 256 + r.val, by have : t.val < 16 := t.isLt; omega⟩ l) := by
  obtain ⟨e,_,_,_,_,_,_,_⟩ := idx t
  blk_ext [iblk, e]

theorem blk1 (c : Dev nD) (t : Fin cfg0.N) (s : Fin 9) (l : Fin 1024) :
    (iblk m c 1 t : S1x9x1024.Idx → EReal) (ix3 0 s l) = (V m c main_arg1 : S1x9x1024.Idx → EReal) (ix3 0 s l) := by
  obtain ⟨_,e,_,_,_,_,_,_⟩ := idx t
  blk_ext [iblk, e]

theorem blk2 (c : Dev nD) (t : Fin cfg0.N) (s : Fin 6) (l : Fin 1024) :
    (iblk m c 2 t : S6x1024.Idx → EReal) (ix2 s l) = (V m c main_arg2 : S6x1024.Idx → EReal) (ix2 s l) := by
  obtain ⟨_,_,e,_,_,_,_,_⟩ := idx t
  blk_ext [iblk, e]

theorem blk3 (c : Dev nD) (t : Fin cfg0.N) (k : Fin 1024) (j : Fin 3840) :
    (iblk m c 3 t : S1024x3840.Idx → EReal) (ix2 k j) = (V m c main_v1 : S1024x3840.Idx → EReal) (ix2 k j) := by
  obtain ⟨_,_,_,e,_,_,_,_⟩ := idx t
  blk_ext [iblk, e]

theorem blk4 (c : Dev nD) (t : Fin cfg0.N) (j : Fin 512) :
    (iblk m c 4 t : S1x512.Idx → EReal) (ix2 0 j) = (V m c main_v23 : S1x512.Idx → EReal) (ix2 0 j) := by
  obtain ⟨_,_,_,_,e,_,_,_⟩ := idx t
  blk_ext [iblk, e]

theorem blk5 (c : Dev nD) (t : Fin cfg0.N) (j : Fin 128) :
    (iblk m c 5 t : S1x128.Idx → EReal) (ix2 0 j) = (V m c main_v27 : S1x128.Idx → EReal) (ix2 0 j) := by
  obtain ⟨_,_,_,_,_,e,_,_⟩ := idx t
  blk_ext [iblk, e]

theorem blk6 (c : Dev nD) (t : Fin cfg0.N) (k j : Fin 512) :
    (iblk m c 6 t : S512x512.Idx → EReal) (ix2 k j) = (V m c main_v10 : S512x512.Idx → EReal) (ix2 k j) := by
  obtain ⟨_,_,_,_,_,_,e,_⟩ := idx t
  blk_ext [iblk, e]

theorem blk7 (c : Dev nD) (t : Fin cfg0.N) (k j : Fin 128) :
    (iblk m c 7 t : S128x128.Idx → EReal) (ix2 k j) = (V m c main_v19 : S128x128.Idx → EReal) (ix2 k j) := by
  obtain ⟨_,_,_,_,_,_,_,e⟩ := idx t
  blk_ext [iblk, e]

/-- A projected column of row `r` of block `t` is the reference's. -/
theorem col_eq (c : Dev nD) (t : Fin cfg0.N) (r : Fin 256) (R : Fin 4096) (hR : R.val = t.val * 256 + r.val) (j : Fin 3840) (J : Fin 7936) (hJ : J.val = j.val) :
    col (iblk m c 0 t) (iblk m c 1 t) (iblk m c 2 t) (iblk m c 3 t) r j = ps m c (ix3 ⟨R.val / 256, by omega⟩ ⟨R.val % 256, by omega⟩ J) := by
  have ht : t.val < 16 := t.isLt
  have eR : (⟨t.val * 256 + r.val, by omega⟩ : Fin 4096) = R := Fin.ext hR.symm
  have eJ : (⟨j.val, by omega⟩ : Fin 7936) = J := Fin.ext hJ.symm
  have h0 : ∀ k, (iblk m c 0 t : S256x1024.Idx → EReal) (ix2 r k) = a0 m c (ix3 ⟨R.val / 256, by omega⟩ ⟨R.val % 256, by omega⟩ k) := by
    intro k
    rw [blk0, v28, eR]
  have h1 : ∀ s k, (iblk m c 1 t : S1x9x1024.Idx → EReal) (ix3 0 s k) = a1 m c (ix3 0 s k) := fun s k => by rw [blk1, V_main_arg1]
  have h2 : ∀ s k, (iblk m c 2 t : S6x1024.Idx → EReal) (ix2 s k) = a2 m c (ix2 s k) := fun s k => by rw [blk2, V_main_arg2]
  have h3 : ∀ k, (iblk m c 3 t : S1024x3840.Idx → EReal) (ix2 k j) = a3 m c (ix2 k J) := fun k => by rw [blk3, v1, eJ]
  rw [ps, projS_apply, col, colS]
  simp only [h0, h1, h2, h3]

/-! ## The condition -/

variable [Cert.Pre_finite_rows.Facts]

/-- Under the condition, the projected rows are real numbers. -/
theorem ps_real (H : Pre_ProjIdeal_finite_rows m) (c : Dev nD) (R : Fin 4096) (J : Fin 7936) :
    ∃ x : ℝ, ps m c (ix3 ⟨R.val / 256, by omega⟩ ⟨R.val % 256, by omega⟩ J) = x := by
  have h1 : Reals (a1 m c) := fun i => real_of_test _ _ pat32 (congrFun (H c).1 i)
  have h2 : Reals (a2 m c) := fun i => real_of_test _ _ pat32 (congrFun (H c).2.1 i)
  have h3 : Reals (a3 m c) := fun i => real_of_test _ _ pat32 (congrFun (H c).2.2 i)
  rw [ps, projS_apply, colS]
  exact dot_real (modulated_real _ (fun _ => h2 _) (fun _ => h1 _) (fun _ => h1 _)) (fun _ => h3 _)

/-! ## The results -/

/-- The neighbourhood queries' array. -/
theorem final8 (c : Dev nD) : (dats m 0 c).arrAt 8 cfg0.N = naqS (ps m c) := by
  refine (dats m 0 c).arrAt_eq_of_covers 8 _ (by decide +kernel) fun t _ y => ?_
  blk_simp
  rw [after0_8]
  obtain ⟨e,_,_,_,_,_,_,_⟩ := idxOut t
  have y0 : (y 0).val < 256 := (y 0).isLt
  have y1 : (y 1).val < 512 := (y 1).isLt
  have ht : t.val < 16 := t.isLt
  have hy : (win0_8.blk t).view.emb y = ix2 (⟨t.val * 256 + (y 0).val, by omega⟩ : Fin 4096) (⟨(y 1).val, y1⟩ : Fin 512) := by
    blk_ext [e]
  rw [hy]
  refine (out8_at _ _ _ _ _ _ _ _ ⟨(y 0).val, y0⟩ y ⟨(y 1).val, y1⟩ (eq_ix2 y)).trans ?_
  rw [naqS_apply]
  exact congrArg (· * scale) (col_eq m c t _ _ rfl _ _ rfl)

/-- The neighbourhood keys' array. -/
theorem final9 (c : Dev nD) : (dats m 0 c).arrAt 9 cfg0.N = nakS (ps m c) := by
  refine (dats m 0 c).arrAt_eq_of_covers 9 _ (by decide +kernel) fun t _ y => ?_
  blk_simp
  rw [after0_9]
  obtain ⟨_,e,_,_,_,_,_,_⟩ := idxOut t
  have y0 : (y 0).val < 256 := (y 0).isLt
  have y1 : (y 1).val < 512 := (y 1).isLt
  have ht : t.val < 16 := t.isLt
  have hy : (win0_9.blk t).view.emb y = ix2 (⟨t.val * 256 + (y 0).val, by omega⟩ : Fin 4096) (⟨(y 1).val, y1⟩ : Fin 512) := by
    blk_ext [e]
  rw [hy]
  refine (out9_at _ _ _ _ _ _ _ _ ⟨(y 0).val, y0⟩ y ⟨(y 1).val, y1⟩ (eq_ix2 y)).trans ?_
  rw [nakS_apply]
  exact col_eq m c t _ _ rfl _ _ rfl

/-- The neighbourhood values' array. -/
theorem final10 (c : Dev nD) : (dats m 0 c).arrAt 10 cfg0.N = navS (ps m c) := by
  refine (dats m 0 c).arrAt_eq_of_covers 10 _ (by decide +kernel) fun t _ y => ?_
  blk_simp
  rw [after0_10]
  obtain ⟨_,_,e,_,_,_,_,_⟩ := idxOut t
  have y0 : (y 0).val < 256 := (y 0).isLt
  have y1 : (y 1).val < 512 := (y 1).isLt
  have ht : t.val < 16 := t.isLt
  have hy : (win0_10.blk t).view.emb y = ix2 (⟨t.val * 256 + (y 0).val, by omega⟩ : Fin 4096) (⟨(y 1).val, y1⟩ : Fin 512) := by
    blk_ext [e]
  rw [hy]
  refine (out10_at _ _ _ _ _ _ _ _ ⟨(y 0).val, y0⟩ y ⟨(y 1).val, y1⟩ (eq_ix2 y)).trans ?_
  rw [navS_apply]
  exact col_eq m c t _ _ rfl _ _ rfl

/-- The gated unit's array. -/
theorem final11 (c : Dev nD) : (dats m 0 c).arrAt 11 cfg0.N = flatS (uS (gluS (ps m c))) := by
  refine (dats m 0 c).arrAt_eq_of_covers 11 _ (by decide +kernel) fun t _ y => ?_
  blk_simp
  rw [after0_11]
  obtain ⟨_,_,_,e,_,_,_,_⟩ := idxOut t
  have y0 : (y 0).val < 256 := (y 0).isLt
  have y1 : (y 1).val < 512 := (y 1).isLt
  have ht : t.val < 16 := t.isLt
  have hy : (win0_11.blk t).view.emb y = ix2 (⟨t.val * 256 + (y 0).val, by omega⟩ : Fin 4096) (⟨(y 1).val, y1⟩ : Fin 512) := by
    blk_ext [e]
  rw [hy]
  refine (out11_at _ _ _ _ _ _ _ _ ⟨(y 0).val, y0⟩ y ⟨(y 1).val, y1⟩ (eq_ix2 y)).trans ?_
  rw [flatS_apply, uS_apply, gluS_apply, gluS_apply]
  refine congrArg₂ (· * Cert.Layer.sig ·) (col_eq m c t _ _ rfl _ _ rfl) (col_eq m c t _ _ rfl _ _ ?_)
  show 1536 + (512 + (y 1).val) = 2048 + (y 1).val
  omega

/-- The grouped queries' array. -/
theorem final12 (H : Pre_ProjIdeal_finite_rows m) (c : Dev nD) : (dats m 0 c).arrAt 12 cfg0.N = gqS (normQS (headQS (ps m c)) (a4 m c)) := by
  refine (dats m 0 c).arrAt_eq_of_covers 12 _ (by decide +kernel) fun t _ y => ?_
  blk_simp
  rw [after0_12]
  obtain ⟨_,_,_,_,e,_,_,_⟩ := idxOut t
  have y0 : (y 0).val < 256 := (y 0).isLt
  have y1 : (y 1).val < 512 := (y 1).isLt
  have ht : t.val < 16 := t.isLt
  have hy : (win0_12.blk t).view.emb y = ix2 (⟨t.val * 256 + (y 0).val, by omega⟩ : Fin 4096) (⟨(y 1).val, y1⟩ : Fin 512) := by
    blk_ext [e]
  rw [hy]
  refine (out12_at _ _ _ _ _ _ _ _ ⟨(y 0).val, y0⟩ y ⟨(y 1).val, y1⟩ (eq_ix2 y)).trans ?_
  rw [gqS_apply, normQS_apply]
  simp only [headQS_apply]
  have hc : ∀ (j : Fin 3840) (J : Fin 7936), J.val = j.val → col (iblk m c 0 t) (iblk m c 1 t) (iblk m c 2 t) (iblk m c 3 t) ⟨(y 0).val, y0⟩ j
      = ps m c (ix3 ⟨(t.val * 256 + (y 0).val) / 256, by omega⟩ ⟨(t.val * 256 + (y 0).val) % 256, by omega⟩ J) :=
    fun j J hJ => col_eq m c t _ ⟨t.val * 256 + (y 0).val, by omega⟩ rfl j J hJ
  rw [headInvSplit_eq 8 rfl _ _ ⟨(y 1).val / 64, by omega⟩ (fun k => by rw [blk6, vOnes512])
    (fun k => by rw [hc _ ⟨2560 + k.val, by omega⟩ rfl]; exact ps_real m H c ⟨t.val * 256 + (y 0).val, by omega⟩ _), blk4, v23]
  rw [hc ⟨2560 + (y 1).val, by omega⟩ ⟨2560 + ((y 1).val / 64 * 64 + (y 1).val % 64), by omega⟩ (by dsimp only; omega)]
  exact congrArg (fun z => _ * z * _ * scale) (congrArg headInv (funext fun d => hc _ _ rfl))

/-- The grouped keys' array. -/
theorem final13 (H : Pre_ProjIdeal_finite_rows m) (c : Dev nD) : (dats m 0 c).arrAt 13 cfg0.N = gkS (normKS (headKS (ps m c)) (a5 m c)) := by
  refine (dats m 0 c).arrAt_eq_of_covers 13 _ (by decide +kernel) fun t _ y => ?_
  blk_simp
  rw [after0_13]
  obtain ⟨_,_,_,_,_,e,_,_⟩ := idxOut t
  have y0 : (y 0).val < 256 := (y 0).isLt
  have y1 : (y 1).val < 128 := (y 1).isLt
  have ht : t.val < 16 := t.isLt
  have hy : (win0_13.blk t).view.emb y = ix2 (⟨t.val * 256 + (y 0).val, by omega⟩ : Fin 4096) (⟨(y 1).val, y1⟩ : Fin 128) := by
    blk_ext [e]
  rw [hy]
  refine (out13_at _ _ _ _ _ _ _ _ ⟨(y 0).val, y0⟩ y ⟨(y 1).val, y1⟩ (eq_ix2 y)).trans ?_
  rw [gkS_apply, normKS_apply]
  simp only [headKS_apply]
  have hc : ∀ (j : Fin 3840) (J : Fin 7936), J.val = j.val → col (iblk m c 0 t) (iblk m c 1 t) (iblk m c 2 t) (iblk m c 3 t) ⟨(y 0).val, y0⟩ j
      = ps m c (ix3 ⟨(t.val * 256 + (y 0).val) / 256, by omega⟩ ⟨(t.val * 256 + (y 0).val) % 256, by omega⟩ J) :=
    fun j J hJ => col_eq m c t _ ⟨t.val * 256 + (y 0).val, by omega⟩ rfl j J hJ
  rw [headInvSplit_eq 2 rfl _ _ ⟨(y 1).val / 64, by omega⟩ (fun k => by rw [blk7, vOnes128])
    (fun k => by rw [hc _ ⟨3072 + k.val, by omega⟩ rfl]; exact ps_real m H c ⟨t.val * 256 + (y 0).val, by omega⟩ _), blk5, v27]
  rw [hc ⟨3072 + (y 1).val, by omega⟩ ⟨3072 + ((y 1).val / 64 * 64 + (y 1).val % 64), by omega⟩ (by dsimp only; omega)]
  exact congrArg (fun z => _ * z * _) (congrArg headInv (funext fun d => hc _ _ rfl))

/-- The grouped values' array. -/
theorem final14 (c : Dev nD) : (dats m 0 c).arrAt 14 cfg0.N = gvS (ps m c) := by
  refine (dats m 0 c).arrAt_eq_of_covers 14 _ (by decide +kernel) fun t _ y => ?_
  blk_simp
  rw [after0_14]
  obtain ⟨_,_,_,_,_,_,e,_⟩ := idxOut t
  have y0 : (y 0).val < 256 := (y 0).isLt
  have y1 : (y 1).val < 128 := (y 1).isLt
  have ht : t.val < 16 := t.isLt
  have hy : (win0_14.blk t).view.emb y = ix2 (⟨t.val * 256 + (y 0).val, by omega⟩ : Fin 4096) (⟨(y 1).val, y1⟩ : Fin 128) := by
    blk_ext [e]
  rw [hy]
  refine (out14_at _ _ _ _ _ _ _ _ ⟨(y 0).val, y0⟩ y ⟨(y 1).val, y1⟩ (eq_ix2 y)).trans ?_
  rw [gvS_apply]
  exact col_eq m c t _ _ rfl _ _ rfl

/-- The linear recurrence's input array. -/
theorem final15 (c : Dev nD) : (dats m 0 c).arrAt 15 cfg0.N = lruS (ps m c) := by
  refine (dats m 0 c).arrAt_eq_of_covers 15 _ (by decide +kernel) fun t _ y => ?_
  blk_simp
  rw [after0_15]
  obtain ⟨_,_,_,_,_,_,_,e⟩ := idxOut t
  have y0 : (y 0).val < 256 := (y 0).isLt
  have y1 : (y 1).val < 512 := (y 1).isLt
  have ht : t.val < 16 := t.isLt
  have hy : (win0_15.blk t).view.emb y = ix2 (⟨t.val * 256 + (y 0).val, by omega⟩ : Fin 4096) (⟨(y 1).val, y1⟩ : Fin 512) := by
    blk_ext [e]
  rw [hy]
  refine (out15_at _ _ _ _ _ _ _ _ ⟨(y 0).val, y0⟩ y ⟨(y 1).val, y1⟩ (eq_ix2 y)).trans ?_
  rw [lruS_apply]
  exact col_eq m c t _ _ rfl _ _ rfl

end Cert.ProjIdeal.Arrays

end
-- ==== Proof.GqaPay.lean ====
/- What the sample sequences' grouped-query attention kernel stores, element by element: each lane of a pair of heads is one
   row of softmax attention over the sequence's own keys and its cached ones, with the division after the sums. -/
module

public import proofs.«01_k».proof.Proof.AttnPay
public import proofs.«01_k».proof.Proof.Gen.GqaIdeal.Value

@[expose] public section

set_option maxRecDepth 16384

noncomputable section

namespace Cert.GqaIdeal.Lanes

open Cert.GqaIdeal Cert.GqaIdeal.Gen Idealize.ShloMosaic Idealize.ShloMosaic.TcCoe Idealize.SL.Sem
open Cert.GqaIdeal.Facts Cert.Layer
open Cert.AttnIdeal.Lanes (low_lane select_low select_high sum_low sum_high neg_inf)

/-- The score of query row `r` against row `x` of a block of keys, in the head that lane `l` of a pair belongs to. -/
def score {n : ℕ} (q : FVec Ideal S256x128 .f32) (k : FVec Ideal ⟨2, ![n, 128]⟩ .f32) (r : Fin 256) (l : Fin 128) (x : Fin n) : EReal :=
  ∑ d : Fin 64, q (ix2 r ⟨l.val / 64 * 64 + d.val, by omega⟩) * k (ix2 x ⟨l.val / 64 * 64 + d.val, by omega⟩)

/-- What a pair's chain of operations computes, in the shape the operations leave it in: a selection, by the lane, of
    the two heads' attentions, each with its scores summed over the 128 lanes of which the other head's are zero. -/
theorem pair_of_lanes (q : FVec Ideal S256x128 .f32) (k v : FVec Ideal S1024x128 .f32) (ck cv : FVec Ideal S512x128 .f32) (r : Fin 256) (l : Fin 128) :
    (if l.val < 64 then attendTwo (fun x => ∑ d : Fin 128, if d.val < 64 then q (ix2 r d) * k (ix2 x d) else 0) (fun x => v (ix2 x l))
        (fun x => ∑ d : Fin 128, if d.val < 64 then q (ix2 r d) * ck (ix2 x d) else 0) (fun x => cv (ix2 x l))
      else attendTwo (fun x => ∑ d : Fin 128, if d.val < 64 then 0 else q (ix2 r d) * k (ix2 x d)) (fun x => v (ix2 x l))
        (fun x => ∑ d : Fin 128, if d.val < 64 then 0 else q (ix2 r d) * ck (ix2 x d)) (fun x => cv (ix2 x l)))
      = attendTwo (score q k r l) (fun x => v (ix2 x l)) (score q ck r l) (fun x => cv (ix2 x l)) := by
  simp only [sum_low (fun d => q (ix2 r d) * k (ix2 _ d)), sum_high (fun d => q (ix2 r d) * k (ix2 _ d)),
    sum_low (fun d => q (ix2 r d) * ck (ix2 _ d)), sum_high (fun d => q (ix2 r d) * ck (ix2 _ d))]
  split
  · rename_i h
    have : l.val / 64 = 0 := by omega
    unfold score
    simp only [this, Nat.zero_mul, Nat.zero_add]
  · rename_i h
    have : l.val / 64 = 1 := by omega
    unfold score
    simp only [this, Nat.one_mul]

/-- A store of 256 rows of a pair, as a function of its queries and the two blocks of keys and values. -/
def pair (q : FVec Ideal S256x128 .bf16) (k v : FVec Ideal S1024x128 .bf16) (ck cv : FVec Ideal S512x128 .bf16) : FVec Ideal S256x128 .bf16 :=
  k0_pay33 ck cv k v (k0_pay31 ck cv k v q) (k0_pay32 q)

set_option maxHeartbeats 1600000 in
theorem pair_apply (q : FVec Ideal S256x128 .bf16) (k v : FVec Ideal S1024x128 .bf16) (ck cv : FVec Ideal S512x128 .bf16) (r : Fin 256) (l : Fin 128) :
    pair q k v ck cv (ix2 r l)
      = attendTwo (score q k r l) (fun x => v (ix2 x l)) (score q ck r l) (fun x => cv (ix2 x l)) := by
  have e := pair_of_lanes q k v ck cv r l
  generalize attendTwo (score q k r l) (fun x => v (ix2 x l)) (score q ck r l) (fun x => cv (ix2 x l)) = z at e ⊢
  pointwise [pair, k0_pay29, k0_pay30, k0_pay31, k0_pay32, k0_pay33]
  simp only [select_low, select_high, neg_inf]
  exact e

/-- The block of rows of keys (or values) that a head's group reads, on both halves of the lanes. -/
def twice (g : BitVec 32) (x : Vec Ideal S1x1x512x128 .f32) : FVec Ideal S512x128 .bf16 :=
  k0_pay6 g (k0_pay3 x) k0_pay4 1#32 k0_pay5

/-- The word comparison "the lane's half is `g`" is the comparison of numbers. -/
theorem half_lane (l : Fin 128) (g : Fin 2) :
    IntOp.cmpi CmpIPredicate.eq (Scalar.select (IntOp.cmpi CmpIPredicate.slt (BitVec.ofNat 32 l.val) 64#32) 0#32 1#32) (BitVec.ofNat 32 g.val)
      = if l.val / 64 = g.val then 1#1 else 0#1 := by
  revert l g; decide +kernel

theorem select_half (l : Fin 128) (g : Fin 2) (a b : EReal) :
    Scalar.select (IntOp.cmpi CmpIPredicate.eq (Scalar.select (IntOp.cmpi CmpIPredicate.slt (BitVec.ofNat 32 l.val) 64#32) 0#32 1#32) (BitVec.ofNat 32 g.val)) a b
      = if l.val / 64 = g.val then a else b := by
  rw [half_lane]; split <;> rfl

theorem twice_apply (g : Fin 2) (x : Vec Ideal S1x1x512x128 .f32) (y : Fin 512) (l : Fin 128) :
    twice (BitVec.ofNat 32 g.val) x (ix2 y l) = x (ix4 0 0 y ⟨g.val * 64 + l.val % 64, by omega⟩) := by
  pointwise [twice, k0_pay3, k0_pay4, k0_pay5, k0_pay6]
  rw [select_half]
  split <;> congr 2 <;> ext <;> simp <;> omega

end Cert.GqaIdeal.Lanes

end
-- ==== Proof.GqaRefPoint.lean ====
/- The reference of the sample sequences' grouped-query attention, element by element: softmax attention of one row over the
   sequence's own keys and then its cached ones. -/
module

public import proofs.«01_k».proof.Proof.Softmax
public import proofs.«01_k».proof.Proof.Gen.GqaRefIdeal.Run
public import Idealize.ShloMosaic.Lib.Pointwise

@[expose] public section

set_option maxRecDepth 16384

noncomputable section

namespace Cert.GqaRefIdeal.Rows

open Cert.GqaRefIdeal Cert.GqaRefIdeal.Gen Idealize.ShloMosaic Idealize.ShloMosaic.TcCoe Idealize.SL.Sem
open Cert.GqaRefIdeal.Facts Cert.Layer

/-- The pattern of the reductions' initial value is −∞. -/
theorem neg_inf : Ideal.ofBits .f32 0xFF800000#32 = ⊥ := by simp [Ideal.ofBits, Ideal.ieee]

/-- A sequence's own keys (or values), head by head, and after them the cached ones of the layer. -/
def bothKeys (k : FVec Ideal S8192x128 .bf16) (c : FVec Ideal S8x4x512x2x64 .f32) : FVec Ideal S8x1536x2x64 .f32 :=
  concatenate S8x1536x2x64 1 [⟨S8x1024x2x64, (shapeCast _ (extf .f32 k bitsLt_bf16_f32) shapeCasts_S8192x128_S8x1024x2x64)⟩,
    ⟨S8x512x2x64, (shapeCast _ (extractStridedSlice S8x1x512x2x64 ![0, 0, 0, 0, 0] c slices_S8x4x512x2x64_S8x1x512x2x64_0_0_0_0_0) shapeCasts_S8x1x512x2x64_S8x512x2x64)⟩]
    concatenates_S8x1024x2x64_S8x512x2x64_S8x1536x2x64_d1

theorem bothKeys_own (k : FVec Ideal S8192x128 .bf16) (c : FVec Ideal S8x4x512x2x64 .f32) (b : Fin 8) (x : Fin 1024) (h : Fin 2) (d : Fin 64) :
    bothKeys k c (ix4 b ⟨x.val, by omega⟩ h d) = k (ix2 ⟨b.val * 1024 + x.val, by omega⟩ ⟨h.val * 64 + d.val, by omega⟩) := by
  pointwise [bothKeys]

theorem bothKeys_cached (k : FVec Ideal S8192x128 .bf16) (c : FVec Ideal S8x4x512x2x64 .f32) (b : Fin 8) (x : Fin 512) (h : Fin 2) (d : Fin 64) :
    bothKeys k c (ix4 b ⟨1024 + x.val, by omega⟩ h d) = c (ix5 b 0 x h d) := by
  pointwise [bothKeys]

/-! ## The attention -/

/-- The scores: each query row against each key row of its sequence, per head. -/
def scoresL (q : FVec Ideal S8192x512 .bf16) (k : FVec Ideal S8x1536x2x64 .f32) : FVec Ideal S8x2x4x1024x1536 .f32 :=
  transpose S8x2x4x1024x1536 [0, 1, 4, 3, 2] (Host.dotGeneral dot_S8x1536x2x64_S8x1024x2x4x64_S8x2x1536x1024x4_3_4_1_13_02_02 none
    k
    (shapeCast _ (extf .f32 q bitsLt_bf16_f32) shapeCasts_S8192x512_S8x1024x2x4x64)) transposes_S8x2x1536x1024x4_S8x2x4x1024x1536_0_1_4_3_2

/-- The row maxima of the scores. -/
def maxL (s : FVec Ideal S8x2x4x1024x1536 .f32) : FVec Ideal S8x2x4x1024 .f32 :=
  Host.reduce FloatOps.maximumf s (constant S_ .f32 0xFF800000#32) reducesTo_S8x2x4x1024x1536_S8x2x4x1024_d4 h_S_

/-- A number per row, repeated along the row. -/
def rowL (x : FVec Ideal S8x2x4x1024 .f32) : FVec Ideal S8x2x4x1024x1536 .f32 :=
  broadcastInDim S8x2x4x1024x1536 ![0, 1, 2, 3, 4] bcast_S8x2x4x1024x1_S8x2x4x1024x1536_0_1_2_3_4
    (broadcastInDim S8x2x4x1024x1 ![0, 1, 2, 3] bcast_S8x2x4x1024_S8x2x4x1024x1_0_1_2_3 x)

/-- The larger of a number per row and −∞. -/
def topL (x : FVec Ideal S8x2x4x1024 .f32) : FVec Ideal S8x2x4x1024 .f32 :=
  maximumf (broadcastInDim S8x2x4x1024 ![] bcast_S_S8x2x4x1024 (constant S_ .f32 0xFF800000#32)) x

/-- The unnormalised weights. -/
def expL (s : FVec Ideal S8x2x4x1024x1536 .f32) : FVec Ideal S8x2x4x1024x1536 .f32 :=
  Host.exp (subf s (rowL (topL (maxL s))))

/-- The row sums of the weights. -/
def denL (e : FVec Ideal S8x2x4x1024x1536 .f32) : FVec Ideal S8x2x4x1024 .f32 :=
  Host.reduceAdd e (constant S_ .f32 0x00000000#32) reducesTo_S8x2x4x1024x1536_S8x2x4x1024_d4 h_S_

/-- The values, weighted and summed, the heads side by side again. -/
def mixL (p : FVec Ideal S8x2x4x1024x1536 .f32) (v : FVec Ideal S8x1536x2x64 .f32) : FVec Ideal S8192x512 .bf16 :=
  truncf .bf16 (shapeCast _ (transpose S8x1024x2x4x64 [0, 4, 1, 3, 2] (Host.dotGeneral dot_S8x1536x2x64_S8x2x4x1024x1536_S8x2x64x4x1024_1_4_3_23_02_01 none
    v p) transposes_S8x2x64x4x1024_S8x1024x2x4x64_0_4_1_3_2) shapeCasts_S8x1024x2x4x64_S8192x512) bitsLt_bf16_f32

/-- The reference's result for these heads. -/
def latent (q : FVec Ideal S8192x512 .bf16) (k v : FVec Ideal S8x1536x2x64 .f32) : FVec Ideal S8192x512 .bf16 :=
  mixL (Host.divf (expL (scoresL q k)) (rowL (denL (expL (scoresL q k))))) v

theorem scoresL_apply (q : FVec Ideal S8192x512 .bf16) (k : FVec Ideal S8x1536x2x64 .f32) (b : Fin 8) (h : Fin 2) (g : Fin 4) (i : Fin 1024) (j : Fin 1536) :
    scoresL q k (ix5 b h g i j) = ∑ d : Fin 64,
      q (ix2 ⟨b.val * 1024 + i.val, by omega⟩ ⟨h.val * 256 + g.val * 64 + d.val, by omega⟩) * k (ix4 b j h d) := by
  pointwise! [scoresL]

theorem maxL_apply (s : FVec Ideal S8x2x4x1024x1536 .f32) (b : Fin 8) (h : Fin 2) (g : Fin 4) (i : Fin 1024) :
    maxL s (ix4 b h g i) = rowMax (fun x => s (ix5 b h g i x)) := by
  pointwise [maxL]
  rw [neg_inf]; rfl

theorem rowL_apply (x : FVec Ideal S8x2x4x1024 .f32) (b : Fin 8) (h : Fin 2) (g : Fin 4) (i : Fin 1024) (j : Fin 1536) :
    rowL x (ix5 b h g i j) = x (ix4 b h g i) := by
  pointwise [rowL]

theorem topL_apply (x : FVec Ideal S8x2x4x1024 .f32) (i : S8x2x4x1024.Idx) : topL x i = x i := by
  have h : topL x i = max (Ideal.ofBits .f32 0xFF800000#32) (x i) := rfl
  rw [h, neg_inf, max_eq_right bot_le]

theorem subL_apply (s t : FVec Ideal S8x2x4x1024x1536 .f32) (i : S8x2x4x1024x1536.Idx) : Host.exp (subf s t) i = Ideal.exp (s i - t i) := rfl

theorem expL_apply (s : FVec Ideal S8x2x4x1024x1536 .f32) (b : Fin 8) (h : Fin 2) (g : Fin 4) (i : Fin 1024) (j : Fin 1536) :
    expL s (ix5 b h g i j) = wt (fun x => s (ix5 b h g i x)) j := by
  rw [expL, subL_apply, rowL_apply, topL_apply, maxL_apply, wt]

theorem divL_apply (s t : FVec Ideal S8x2x4x1024x1536 .f32) (i : S8x2x4x1024x1536.Idx) : Host.divf s t i = Ideal.div (s i) (t i) := rfl

theorem denL_apply (e : FVec Ideal S8x2x4x1024x1536 .f32) (b : Fin 8) (h : Fin 2) (g : Fin 4) (i : Fin 1024) :
    denL e (ix4 b h g i) = ∑ x, e (ix5 b h g i x) := by
  pointwise [denL]

theorem mixL_apply (p : FVec Ideal S8x2x4x1024x1536 .f32) (v : FVec Ideal S8x1536x2x64 .f32) (r : Fin 8192) (l : Fin 512) :
    mixL p v (ix2 r l) = ∑ x : Fin 1536, v (ix4 ⟨r.val / 1024, by omega⟩ x ⟨l.val / 256, by omega⟩ ⟨l.val % 64, by omega⟩)
      * p (ix5 ⟨r.val / 1024, by omega⟩ ⟨l.val / 256, by omega⟩ ⟨l.val / 64 % 4, by omega⟩ ⟨r.val % 1024, by omega⟩ x) := by
  pointwise [mixL]

/-- Element `(r, l)` of the reference's result: softmax attention of query row `r` in lane `l`'s head. -/
theorem latent_apply (q : FVec Ideal S8192x512 .bf16) (k v : FVec Ideal S8x1536x2x64 .f32) (r : Fin 8192) (l : Fin 512) :
    latent q k v (ix2 r l) = attend
      (fun x : Fin 1536 => ∑ d : Fin 64, q (ix2 r ⟨l.val / 64 * 64 + d.val, by omega⟩)
        * k (ix4 ⟨r.val / 1024, by omega⟩ x ⟨l.val / 256, by omega⟩ d))
      (fun x : Fin 1536 => v (ix4 ⟨r.val / 1024, by omega⟩ x ⟨l.val / 256, by omega⟩ ⟨l.val % 64, by omega⟩)) := by
  rw [latent, mixL_apply]
  refine Finset.sum_congr rfl fun x _ => congrArg _ ?_
  rw [divL_apply, rowL_apply, denL_apply]
  simp only [expL_apply, scoresL_apply]
  have hr : r.val / 1024 * 1024 + r.val % 1024 = r.val := by omega
  have hl : l.val / 256 * 256 + l.val / 64 % 4 * 64 = l.val / 64 * 64 := by omega
  simp only [hr, hl]

/-- The run's result is this array of the arguments. -/
theorem run_eq (m : (ℓ : Loc nD τ sig) → Buf (Elt Ideal) ℓ) (c : Dev nD) :
    Cert.GqaRefIdeal.Value.res_main_v28 m c = latent (m ((c.tc : Thread nD τ).loc main_arg0))
      (bothKeys (m ((c.tc : Thread nD τ).loc main_arg1)) (m ((c.tc : Thread nD τ).loc main_arg3)))
      (bothKeys (m ((c.tc : Thread nD τ).loc main_arg2)) (m ((c.tc : Thread nD τ).loc main_arg4))) := rfl

end Cert.GqaRefIdeal.Rows

end
-- ==== Proof.GqaFinal.lean ====
/- The sample sequences' grouped-query attention kernel's result array is the reference's, where queries and keys are finite. -/
module

public import proofs.«01_k».proof.Defs
public import proofs.«01_k».proof.Proof.AttnFinal
public import proofs.«01_k».proof.Proof.GqaPay
public import proofs.«01_k».proof.Proof.GqaRefPoint

@[expose] public section

set_option maxRecDepth 16384

noncomputable section

namespace Cert.GqaIdeal.Arrays

open Cert.GqaIdeal Cert.GqaIdeal.Gen Idealize.ShloMosaic Idealize.ShloMosaic.TcCoe Idealize.SL.Sem
open Idealize.ShloMosaic.Pipeline (Dat)
open Cert.Layer Cert.GqaIdeal.Lanes Cert.GqaRefIdeal.Rows
open Cert.AttnIdeal.Arrays (Reals real_of_test pat32 pat16)

/-! ## One grid point's block -/

/-- The loads of whole blocks, and the four of 256 rows of queries. -/
theorem ld_0 {e : EltTy} (b : Vec Ideal S1x1x512x128 e) : View.ld b r0_0 = b :=
  View.ld_unit_lit _ b (by intro a; fin_cases a <;> rfl)

theorem ld_1 {e : EltTy} (b : Vec Ideal S1024x128 e) : View.ld b r0_1 = b :=
  View.ld_unit_lit _ b (by intro a; fin_cases a <;> rfl)

theorem ld_2 {e : EltTy} (b : Vec Ideal S1024x128 e) (r : Fin 256) (l : Fin 128) :
    View.ld b r0_2 (ix2 r l) = b (ix2 ⟨0 * 256 + r.val, by omega⟩ l) := by
  refine View.ld_unit_apply_of _ _ _ _ _ _ fun a => ?_
  fin_cases a
  · rfl
  · exact (Nat.zero_add _).symm

theorem ld_3 {e : EltTy} (b : Vec Ideal S1024x128 e) (r : Fin 256) (l : Fin 128) :
    View.ld b r0_3 (ix2 r l) = b (ix2 ⟨1 * 256 + r.val, by omega⟩ l) := by
  refine View.ld_unit_apply_of _ _ _ _ _ _ fun a => ?_
  fin_cases a
  · rfl
  · exact (Nat.zero_add _).symm

theorem ld_4 {e : EltTy} (b : Vec Ideal S1024x128 e) (r : Fin 256) (l : Fin 128) :
    View.ld b r0_4 (ix2 r l) = b (ix2 ⟨2 * 256 + r.val, by omega⟩ l) := by
  refine View.ld_unit_apply_of _ _ _ _ _ _ fun a => ?_
  fin_cases a
  · rfl
  · exact (Nat.zero_add _).symm

theorem ld_5 {e : EltTy} (b : Vec Ideal S1024x128 e) (r : Fin 256) (l : Fin 128) :
    View.ld b r0_5 (ix2 r l) = b (ix2 ⟨3 * 256 + r.val, by omega⟩ l) := by
  refine View.ld_unit_apply_of _ _ _ _ _ _ fun a => ?_
  fin_cases a
  · rfl
  · exact (Nat.zero_add _).symm

/-- The pattern of a head's group: half the pair's number. -/
def group (i : Fin 4) : BitVec 32 :=
  Scalar.select (Scalar.andi (Scalar.cmpi .ne (Scalar.subi (Scalar.extui (Scalar.cmpi .sgt (BitVec.ofNat 32 i.val) 0#32)) (Scalar.extui (Scalar.cmpi .slt (BitVec.ofNat 32 i.val) 0#32))) (Scalar.subi (Scalar.extui (Scalar.cmpi .sgt 2#32 0#32)) (Scalar.extui (Scalar.cmpi .slt 2#32 0#32)))) (Scalar.cmpi .ne (Scalar.remsi (BitVec.ofNat 32 i.val) 2#32) 0#32)) (Scalar.subi (Scalar.divsi (BitVec.ofNat 32 i.val) 2#32) 1#32) (Scalar.divsi (BitVec.ofNat 32 i.val) 2#32)

theorem group_eq (i : Fin 4) : group i = BitVec.ofNat 32 (i.val / 2) := by
  revert i; decide +kernel

/-- The keys' (and values') block passes through a cast to its own shape. -/
theorem pass_k (b : Vec Ideal S1024x128 .bf16) (x : Fin 1024) (l : Fin 128) : k0_pay7 (F := Ideal) b (ix2 x l) = b (ix2 x l) := by
  pointwise [k0_pay7]

theorem pass_v (b : Vec Ideal S1024x128 .bf16) (x : Fin 1024) (l : Fin 128) : k0_pay8 (F := Ideal) b (ix2 x l) = b (ix2 x l) := by
  pointwise [k0_pay8]

/-- The value of row `r`, lane `l` of a block of the result, from the blocks of queries, keys and values. -/
def at' (i : Fin 4) (x0 x1 x2 : S1024x128.Idx → EReal) (x3 x4 : S1x1x512x128.Idx → EReal) (r : Fin 1024) (l : Fin 128) : EReal :=
  attendTwo (fun x : Fin 1024 => ∑ d : Fin 64, x0 (ix2 r ⟨l.val / 64 * 64 + d.val, by omega⟩) * x1 (ix2 x ⟨l.val / 64 * 64 + d.val, by omega⟩))
    (fun x : Fin 1024 => x2 (ix2 x l))
    (fun x : Fin 512 => ∑ d : Fin 64, x0 (ix2 r ⟨l.val / 64 * 64 + d.val, by omega⟩) * x3 (ix4 0 0 x ⟨i.val / 2 * 64 + d.val, by omega⟩))
    (fun x : Fin 512 => x4 (ix4 0 0 x ⟨i.val / 2 * 64 + l.val % 64, by omega⟩))

/-- A store of 256 rows. -/
theorem pair_block (o i : Fin 4) (q : FVec Ideal S256x128 .bf16) (x0 x1 x2 : Vec Ideal S1024x128 .bf16) (x3 x4 : Vec Ideal S1x1x512x128 .f32)
    (hq : ∀ r l, q (ix2 r l) = x0 (ix2 ⟨o.val * 256 + r.val, by omega⟩ l)) (x : S256x128.Idx) (r : Fin 1024) (l : Fin 128)
    (hr : r.val = o.val * 256 + (x 0).val) (hl : l.val = (x 1).val) :
    pair q (k0_pay7 (View.ld x1 r0_1)) (k0_pay8 (View.ld x2 r0_1)) (twice (group i) (View.ld x3 r0_0)) (twice (group i) (View.ld x4 r0_0)) x
      = at' i x0 x1 x2 x3 x4 r l := by
  rw [ld_1, ld_1, ld_0, ld_0]
  obtain rfl : l = x 1 := Fin.ext hl
  have hx : (x 0).val < 256 := (x 0).isLt
  have hb : o.val * 256 + (x 0).val < 1024 := by have := o.isLt; clear hr; omega
  obtain rfl : r = ⟨o.val * 256 + (x 0).val, hb⟩ := Fin.ext hr
  have e : ∀ d : Fin 64, ((x 1).val / 64 * 64 + d.val) % 64 = d.val := fun d => by omega
  rw [group_eq]
  refine (congrArg (pair q _ _ _ _) (eq_ix2 x)).trans ((pair_apply q _ _ _ _ (x 0) (x 1)).trans ?_)
  unfold at' score
  congr 1
  · funext y
    exact Finset.sum_congr rfl fun d _ => congrArg₂ (· * ·) (hq _ _) (pass_k x1 _ _)
  · funext y
    exact pass_v x2 _ _
  · funext y
    refine Finset.sum_congr rfl fun d _ => congrArg₂ (· * ·) (hq _ _) ?_
    refine (twice_apply ⟨i.val / 2, by omega⟩ x3 _ _).trans (congrArg (fun j => x3 (ix4 0 0 y j)) (Fin.ext ?_))
    exact congrArg (i.val / 2 * 64 + ·) (e d)
  · funext y
    exact twice_apply ⟨i.val / 2, by omega⟩ x4 _ _

/-- One element of a block of the result. -/
theorem block (i : grid0.Coords) (x0 x1 x2 : Vec Ideal S1024x128 .bf16) (x3 x4 : Vec Ideal S1x1x512x128 .f32) (y : S1024x128.Idx)
    (r : Fin 1024) (l : Fin 128) (hr : (y 0).val = r.val) (hl : (y 1).val = l.val) :
    out0_5 (F := Ideal) i x0 x1 x2 x3 x4 y = at' (i 1) x0 x1 x2 x3 x4 r l := by
  canon_tiles x h
  case piece0 =>
    exact pair_block 3 (i 1) (View.ld x0 r0_5) x0 x1 x2 x3 x4 (ld_5 x0) x r l (by show r.val = 3 * 256 + (x 0).val; omega) (by omega)
  case piece1 =>
    exact pair_block 2 (i 1) (View.ld x0 r0_4) x0 x1 x2 x3 x4 (ld_4 x0) x r l (by show r.val = 2 * 256 + (x 0).val; omega) (by omega)
  case piece2 =>
    exact pair_block 1 (i 1) (View.ld x0 r0_3) x0 x1 x2 x3 x4 (ld_3 x0) x r l (by show r.val = 1 * 256 + (x 0).val; omega) (by omega)
  case piece3 =>
    exact pair_block 0 (i 1) (View.ld x0 r0_2) x0 x1 x2 x3 x4 (ld_2 x0) x r l (by show r.val = 0 * 256 + (x 0).val; omega) (by omega)

/-! ## The arrays -/

variable (m : (ℓ : Loc nD τ sig) → Buf (Elt Ideal) ℓ)

/-- The arguments as the region's run finds them. -/
abbrev a0 (c : Dev nD) : S8192x512.Idx → EReal := m ((c : Thread nD τ).loc main_arg0)
abbrev a1 (c : Dev nD) : S8192x128.Idx → EReal := m ((c : Thread nD τ).loc main_arg1)
abbrev a2 (c : Dev nD) : S8192x128.Idx → EReal := m ((c : Thread nD τ).loc main_arg2)
abbrev a3 (c : Dev nD) : S8x4x512x2x64.Idx → EReal := m ((c : Thread nD τ).loc main_arg3)
abbrev a4 (c : Dev nD) : S8x4x512x2x64.Idx → EReal := m ((c : Thread nD τ).loc main_arg4)

/-- Which block of each array grid point `t` works on. -/
theorem idx : ∀ t : Fin cfg0.N, win0_0.index t = ![t.val / 4, t.val % 4] ∧ win0_1.index t = ![t.val / 4, t.val % 4 / 2]
    ∧ win0_2.index t = ![t.val / 4, t.val % 4 / 2] ∧ win0_3.index t = ![t.val / 4, 0, 0, 0] ∧ win0_4.index t = ![t.val / 4, 0, 0, 0]
    ∧ win0_5.index t = ![t.val / 4, t.val % 4] :=
  (by decide +kernel : ∀ t : Fin grid0.N, _)

theorem coord : ∀ t : Fin cfg0.N, (grid0.coords t 1).val = t.val % 4 := (by decide +kernel : ∀ t : Fin grid0.N, _)

/-- The arrays the host lays out before the call. -/
theorem v4 (c : Dev nD) (r : Fin 8192) (l : Fin 256) :
    (V m c main_v4 : S8192x256.Idx → EReal) (ix2 r l) = a1 m c (ix2 r ⟨l.val / 128 * 64 + l.val % 64, by omega⟩) := by
  entry_read
  pointwise!

theorem v7 (c : Dev nD) (r : Fin 8192) (l : Fin 256) :
    (V m c main_v7 : S8192x256.Idx → EReal) (ix2 r l) = a2 m c (ix2 r ⟨l.val / 128 * 64 + l.val % 64, by omega⟩) := by
  entry_read
  pointwise!

theorem v0 (c : Dev nD) (b : Fin 8) (s : Fin 4) (x : Fin 512) (l : Fin 128) :
    (V m c main_v0 : S8x4x512x128.Idx → EReal) (ix4 b s x l) = a3 m c (ix5 b s x ⟨l.val / 64, by omega⟩ ⟨l.val % 64, by omega⟩) := by
  entry_read
  pointwise!

theorem v1 (c : Dev nD) (b : Fin 8) (s : Fin 4) (x : Fin 512) (l : Fin 128) :
    (V m c main_v1 : S8x4x512x128.Idx → EReal) (ix4 b s x l) = a4 m c (ix5 b s x ⟨l.val / 64, by omega⟩ ⟨l.val % 64, by omega⟩) := by
  entry_read
  pointwise!

/-- The blocks the kernel reads, as rows of the argument arrays. -/
theorem blk0 (c : Dev nD) (t : Fin cfg0.N) (r : Fin 1024) (l : Fin 128) :
    (iblk m c 0 t : S1024x128.Idx → EReal) (ix2 r l)
      = (V m c main_arg0 : S8192x512.Idx → EReal) (ix2 ⟨t.val / 4 * 1024 + r.val, by have : t.val < 32 := t.isLt; omega⟩ ⟨t.val % 4 * 128 + l.val, by omega⟩) := by
  obtain ⟨e,_,_,_,_,_⟩ := idx t
  blk_ext [iblk, e]

theorem blk1 (c : Dev nD) (t : Fin cfg0.N) (r : Fin 1024) (l : Fin 128) :
    (iblk m c 1 t : S1024x128.Idx → EReal) (ix2 r l)
      = (V m c main_v4 : S8192x256.Idx → EReal) (ix2 ⟨t.val / 4 * 1024 + r.val, by have : t.val < 32 := t.isLt; omega⟩ ⟨t.val % 4 / 2 * 128 + l.val, by omega⟩) := by
  obtain ⟨_,e,_,_,_,_⟩ := idx t
  blk_ext [iblk, e]

theorem blk2 (c : Dev nD) (t : Fin cfg0.N) (r : Fin 1024) (l : Fin 128) :
    (iblk m c 2 t : S1024x128.Idx → EReal) (ix2 r l)
      = (V m c main_v7 : S8192x256.Idx → EReal) (ix2 ⟨t.val / 4 * 1024 + r.val, by have : t.val < 32 := t.isLt; omega⟩ ⟨t.val % 4 / 2 * 128 + l.val, by omega⟩) := by
  obtain ⟨_,_,e,_,_,_⟩ := idx t
  blk_ext [iblk, e]

theorem blk3 (c : Dev nD) (t : Fin cfg0.N) (x : Fin 512) (l : Fin 128) :
    (iblk m c 3 t : S1x1x512x128.Idx → EReal) (ix4 0 0 x l)
      = (V m c main_v0 : S8x4x512x128.Idx → EReal) (ix4 ⟨t.val / 4, by have : t.val < 32 := t.isLt; omega⟩ 0 x l) := by
  obtain ⟨_,_,_,e,_,_⟩ := idx t
  blk_ext [iblk, e]

theorem blk4 (c : Dev nD) (t : Fin cfg0.N) (x : Fin 512) (l : Fin 128) :
    (iblk m c 4 t : S1x1x512x128.Idx → EReal) (ix4 0 0 x l)
      = (V m c main_v1 : S8x4x512x128.Idx → EReal) (ix4 ⟨t.val / 4, by have : t.val < 32 := t.isLt; omega⟩ 0 x l) := by
  obtain ⟨_,_,_,_,e,_⟩ := idx t
  blk_ext [iblk, e]

/-- A sequence's own keys, and its cached ones, as entries of the keys of both. -/
theorem own (k : S8192x128.Idx → EReal) (c : S8x4x512x2x64.Idx → EReal) (b : Fin 8) (x : Fin 1024) (h : Fin 2) (d : Fin 64) (r : Fin 8192)
    (l : Fin 128) (hr : r.val = b.val * 1024 + x.val) (hl : l.val = h.val * 64 + d.val) :
    k (ix2 r l) = bothKeys k c (ix4 b (Fin.castAdd 512 x) h d) :=
  (congrArg₂ (fun r l => k (ix2 r l)) (Fin.ext hr) (Fin.ext hl)).trans (bothKeys_own k c b x h d).symm

theorem cached (k : S8192x128.Idx → EReal) (c : S8x4x512x2x64.Idx → EReal) (b b' : Fin 8) (x : Fin 512) (h h' : Fin 2) (d d' : Fin 64)
    (hb : b.val = b'.val) (hh : h.val = h'.val) (hd : d.val = d'.val) :
    c (ix5 b 0 x h d) = bothKeys k c (ix4 b' (Fin.natAdd 1024 x) h' d') := by
  obtain rfl := Fin.ext hb
  obtain rfl := Fin.ext hh
  obtain rfl := Fin.ext hd
  exact (bothKeys_cached k c b x h d).symm

section finite

variable [Cert.Pre_finite_latent.Facts]

/-- Under the condition, the entries of the queries are real numbers. -/
theorem real_arg0 (H : Pre_GqaIdeal_finite_latent m) (c : Dev nD) : Reals (a0 m c) := fun i =>
  real_of_test _ _ pat16 (congrFun (H c).1 i)

/-- Under the condition, the entries of the keys are real numbers. -/
theorem real_arg1 (H : Pre_GqaIdeal_finite_latent m) (c : Dev nD) : Reals (a1 m c) := fun i =>
  real_of_test _ _ pat16 (congrFun (H c).2.1 i)

/-- Under the condition, the layer's entries of the cached keys are real numbers. -/
theorem real_arg3 (H : Pre_GqaIdeal_finite_latent m) (c : Dev nD) (b : Fin 8) (x : Fin 512) (h : Fin 2) (d : Fin 64) :
    ∃ r : ℝ, a3 m c (ix5 b 0 x h d) = r := by
  have e : shapeCast Cert.Pre_finite_latent.S8x512x2x64 (extractStridedSlice Cert.Pre_finite_latent.S8x1x512x2x64 ![0, 0, 0, 0, 0] (a3 m c)
      Cert.Pre_finite_latent.Facts.slices_S8x4x512x2x64_S8x1x512x2x64_0_0_0_0_0)
      Cert.Pre_finite_latent.Facts.shapeCasts_S8x1x512x2x64_S8x512x2x64 (ix4 b x h d) = a3 m c (ix5 b 0 x h d) := by
    pointwise
  rw [← e]
  exact real_of_test _ _ pat32 (congrFun (H c).2.2 (ix4 b x h d))

/-- Under the condition, the keys of both are real numbers. -/
theorem real_keys (H : Pre_GqaIdeal_finite_latent m) (c : Dev nD) (b : Fin 8) (z : Fin (1024 + 512)) (h : Fin 2) (d : Fin 64) :
    ∃ r : ℝ, bothKeys (a1 m c) (a3 m c) (ix4 b z h d) = r := by
  refine Fin.addCases (fun x => ?_) (fun x => ?_) z
  · obtain ⟨r, hr⟩ := real_arg1 m H c (ix2 ⟨b.val * 1024 + x.val, by omega⟩ ⟨h.val * 64 + d.val, by omega⟩)
    exact ⟨r, (bothKeys_own (a1 m c) (a3 m c) b x h d).trans hr⟩
  · obtain ⟨r, hr⟩ := real_arg3 m H c b x h d
    exact ⟨r, (bothKeys_cached (a1 m c) (a3 m c) b x h d).trans hr⟩

/-- The result array. -/
theorem final5 (H : Pre_GqaIdeal_finite_latent m) (c : Dev nD) :
    (dats m 0 c).arrAt 5 cfg0.N = latent (a0 m c) (bothKeys (a1 m c) (a3 m c)) (bothKeys (a2 m c) (a4 m c)) := by
  refine (dats m 0 c).arrAt_eq_of_covers 5 _ (by decide +kernel) fun t _ y => ?_
  blk_simp
  rw [after0_5]
  obtain ⟨_,_,_,_,_,e⟩ := idx t
  have y0 : (y 0).val < 1024 := (y 0).isLt
  have y1 : (y 1).val < 128 := (y 1).isLt
  have ht : t.val < 32 := t.isLt
  have hc := coord t
  have hy : (win0_5.blk t).view.emb y = ix2 (⟨t.val / 4 * 1024 + (y 0).val, by omega⟩ : Fin 8192) (⟨t.val % 4 * 128 + (y 1).val, by omega⟩ : Fin 512) := by
    blk_ext [e]
  rw [hy, latent_apply]
  refine (block _ _ _ _ _ _ y ⟨(y 0).val, y0⟩ ⟨(y 1).val, y1⟩ rfl rfl).trans ?_
  refine Eq.trans ?_ (attendLate_eq (n := 1024 + 512) (fun z => dot_real (fun d => real_arg0 m H c _) (fun d => real_keys m H c _ z _ _)) _)
  refine Eq.trans ?_ (attendTwo_eq (n := 1024) (k := 512) _ _)
  have q : ∀ d : Fin 64, (iblk m c 0 t : S1024x128.Idx → EReal) (ix2 ⟨(y 0).val, y0⟩ ⟨(y 1).val / 64 * 64 + d.val, by omega⟩)
      = a0 m c (ix2 ⟨t.val / 4 * 1024 + (y 0).val, by omega⟩ ⟨(t.val % 4 * 128 + (y 1).val) / 64 * 64 + d.val, by omega⟩) := fun d => by
    refine (blk0 m c t _ _).trans ((congrFun (V_main_arg0 m c) _).trans (congrArg (fun l => a0 m c (ix2 _ l)) (Fin.ext ?_)))
    show t.val % 4 * 128 + ((y 1).val / 64 * 64 + d.val) = (t.val % 4 * 128 + (y 1).val) / 64 * 64 + d.val
    omega
  unfold at'
  congr 1
  · funext x
    refine Finset.sum_congr rfl fun d _ => congrArg₂ (· * ·) (q d) ?_
    refine (blk1 m c t _ _).trans ((v4 m c _ _).trans (own _ _ _ _ _ _ _ _ ?_ ?_))
    · show t.val / 4 * 1024 + x.val = (t.val / 4 * 1024 + (y 0).val) / 1024 * 1024 + x.val
      omega
    · show (t.val % 4 / 2 * 128 + ((y 1).val / 64 * 64 + d.val)) / 128 * 64 + (t.val % 4 / 2 * 128 + ((y 1).val / 64 * 64 + d.val)) % 64
        = (t.val % 4 * 128 + (y 1).val) / 256 * 64 + d.val
      omega
  · funext x
    refine (blk2 m c t _ _).trans ((v7 m c _ _).trans (own _ _ _ _ _ _ _ _ ?_ ?_))
    · show t.val / 4 * 1024 + x.val = (t.val / 4 * 1024 + (y 0).val) / 1024 * 1024 + x.val
      omega
    · show (t.val % 4 / 2 * 128 + (y 1).val) / 128 * 64 + (t.val % 4 / 2 * 128 + (y 1).val) % 64
        = (t.val % 4 * 128 + (y 1).val) / 256 * 64 + (t.val % 4 * 128 + (y 1).val) % 64
      omega
  · funext x
    refine Finset.sum_congr rfl fun d _ => congrArg₂ (· * ·) (q d) ?_
    refine (blk3 m c t _ _).trans ((v0 m c _ _ _ _).trans (cached _ _ _ _ _ _ _ _ _ ?_ ?_ ?_))
    · show t.val / 4 = (t.val / 4 * 1024 + (y 0).val) / 1024
      omega
    · show ((grid0.coords t 1).val / 2 * 64 + d.val) / 64 = (t.val % 4 * 128 + (y 1).val) / 256
      omega
    · show ((grid0.coords t 1).val / 2 * 64 + d.val) % 64 = d.val
      omega
  · funext x
    refine (blk4 m c t _ _).trans ((v1 m c _ _ _ _).trans (cached _ _ _ _ _ _ _ _ _ ?_ ?_ ?_))
    · show t.val / 4 = (t.val / 4 * 1024 + (y 0).val) / 1024
      omega
    · show ((grid0.coords t 1).val / 2 * 64 + (y 1).val % 64) / 64 = (t.val % 4 * 128 + (y 1).val) / 256
      omega
    · show ((grid0.coords t 1).val / 2 * 64 + (y 1).val % 64) % 64 = (t.val % 4 * 128 + (y 1).val) % 64
      omega

end finite

end Cert.GqaIdeal.Arrays

end
-- ==== Proof.AdaRefPoint.lean ====
/- The modulation reference's result, element by element: one product of the activated conditioning vectors with the layer's weights. -/
module

public import proofs.«01_k».proof.Proof.Rows
public import proofs.«01_k».proof.Proof.Gen.AdaRefIdeal.Run

@[expose] public section

set_option maxRecDepth 16384

noncomputable section

namespace Cert.AdaRefIdeal.Rows

open Cert.AdaRefIdeal Cert.AdaRefIdeal.Gen Idealize.ShloMosaic Idealize.ShloMosaic.TcCoe Idealize.SL.Sem
open Cert.AdaRefIdeal.Facts Cert.Layer

/-- The conditioning vectors, activated. -/
def siluS (v : FVec Ideal S16x1024 .f32) : FVec Ideal S16x1024 .f32 :=
  mulf v (Host.divf (broadcastInDim S16x1024 ![] bcast_S_S16x1024 (constant S_ .f32 0x3F800000#32))
    (addf (broadcastInDim S16x1024 ![] bcast_S_S16x1024 (constant S_ .f32 0x3F800000#32)) (Host.exp (Host.negf v))))

/-- Every layer's modulation of every conditioning vector. -/
def adaS (v : FVec Ideal S16x1024 .f32) (w : FVec Ideal S4x1024x9216 .f32) (b : FVec Ideal S4x9216 .f32) : FVec Ideal S4x16x9216 .f32 :=
  addf (transpose S4x16x9216 [0, 2, 1] (Host.dotGeneral dot_S4x1024x9216_S16x1024_S4x9216x16_1_1_02_0_n_n none w (siluS v)) transposes_S4x9216x16_S4x16x9216_0_2_1)
    (broadcastInDim S4x16x9216 ![0, 1, 2] bcast_S4x1x9216_S4x16x9216_0_1_2 (broadcastInDim S4x1x9216 ![0, 2] bcast_S4x9216_S4x1x9216_0_2 b))

theorem siluS_apply (v : FVec Ideal S16x1024 .f32) (r : Fin 16) (k : Fin 1024) :
    siluS v (ix2 r k) = v (ix2 r k) * Cert.Layer.sig (v (ix2 r k)) := by
  rw [Cert.Layer.sig, one_eq]
  pointwise [siluS]

theorem adaS_apply (v : FVec Ideal S16x1024 .f32) (w : FVec Ideal S4x1024x9216 .f32) (b : FVec Ideal S4x9216 .f32) (l : Fin 4) (r : Fin 16) (n : Fin 9216) :
    adaS v w b (ix3 l r n) = (∑ k : Fin 1024, v (ix2 r k) * Cert.Layer.sig (v (ix2 r k)) * w (ix3 l k n)) + b (ix2 l n) := by
  simp only [← siluS_apply]
  generalize hs : siluS v = s
  pointwise [adaS, hs]
  congr 1
  exact Finset.sum_congr rfl fun k _ => mul_comm _ _

end Cert.AdaRefIdeal.Rows

end
-- ==== Proof.AdaFinal.lean ====
/- The modulation kernel's result array is the reference's. -/
module

public import proofs.«01_k».proof.Defs
public import proofs.«01_k».proof.Proof.AdaRefPoint
public import proofs.«01_k».proof.Proof.Gen.AdaIdeal.Value
public import Idealize.ShloMosaic.Lib.Pointwise
public import Idealize.ShloMosaic.Lib.Pipeline.ValueKit

@[expose] public section

set_option maxRecDepth 16384

noncomputable section

namespace Cert.AdaIdeal.Arrays

open Cert.AdaIdeal Cert.AdaIdeal.Gen Idealize.ShloMosaic Idealize.ShloMosaic.TcCoe Idealize.SL.Sem
open Idealize.ShloMosaic.Pipeline (Dat)
open Cert.Layer Cert.AdaRefIdeal.Rows

/-- What the kernel stores, element by element. -/
theorem pay_apply (v : Vec Ideal S16x1024 .f32) (w : Vec Ideal S1x1024x1152 .f32) (b : Vec Ideal S1x1x1152 .f32) (r : Fin 16) (n : Fin 1152) :
    k0_pay1 (F := Ideal) v w b (ix3 0 r n) = (∑ k : Fin 1024, v (ix2 r k) * Cert.Layer.sig (v (ix2 r k)) * w (ix3 0 k n)) + b (ix3 0 0 n) := by
  simp only [← logistic_eq]
  pointwise [k0_pay1]

/-- One element of a block of the result. -/
theorem block (x0 : Vec Ideal S16x1024 .f32) (x1 : Vec Ideal S1x1024x1152 .f32) (x2 : Vec Ideal S1x1x1152 .f32) (y : S1x16x1152.Idx)
    (r : Fin 16) (n : Fin 1152) (hy : y = ix3 0 r n) :
    out0_3 (F := Ideal) x0 x1 x2 y = (∑ k : Fin 1024, x0 (ix2 r k) * Cert.Layer.sig (x0 (ix2 r k)) * x1 (ix3 0 k n)) + x2 (ix3 0 0 n) := by
  subst hy
  frame_out
  exact pay_apply x0 x1 x2 r n

variable (m : (ℓ : Loc nD τ sig) → Buf (Elt Ideal) ℓ)

/-- The arguments as the region's run finds them. -/
abbrev a0 (c : Dev nD) : S16x1024.Idx → EReal := m ((c : Thread nD τ).loc main_arg0)
abbrev a1 (c : Dev nD) : S4x1024x9216.Idx → EReal := m ((c : Thread nD τ).loc main_arg1)
abbrev a2 (c : Dev nD) : S4x9216.Idx → EReal := m ((c : Thread nD τ).loc main_arg2)

/-- Which block of each array grid point `t` works on. -/
theorem idx : ∀ t : Fin cfg0.N, win0_0.index t = ![0, 0] ∧ win0_1.index t = ![t.val / 8, 0, t.val % 8]
    ∧ win0_2.index t = ![t.val / 8, 0, t.val % 8] ∧ win0_3.index t = ![t.val / 8, 0, t.val % 8] :=
  (by decide +kernel : ∀ t : Fin grid0.N, _)

/-- The biases, with the axis the host adds. -/
theorem v0 (c : Dev nD) (l : Fin 4) (n : Fin 9216) :
    (V m c main_v0 : S4x1x9216.Idx → EReal) (ix3 l 0 n) = a2 m c (ix2 l n) := by
  entry_read
  pointwise!

/-- The blocks the kernel reads, as entries of the argument arrays. -/
theorem blk0 (c : Dev nD) (t : Fin cfg0.N) (r : Fin 16) (k : Fin 1024) :
    (iblk m c 0 t : S16x1024.Idx → EReal) (ix2 r k) = (V m c main_arg0 : S16x1024.Idx → EReal) (ix2 r k) := by
  obtain ⟨e,_,_,_⟩ := idx t
  blk_ext [iblk, e]

theorem blk1 (c : Dev nD) (t : Fin cfg0.N) (k : Fin 1024) (n : Fin 1152) :
    (iblk m c 1 t : S1x1024x1152.Idx → EReal) (ix3 0 k n)
      = (V m c main_arg1 : S4x1024x9216.Idx → EReal) (ix3 ⟨t.val / 8, by have : t.val < 32 := t.isLt; omega⟩ k ⟨t.val % 8 * 1152 + n.val, by omega⟩) := by
  obtain ⟨_,e,_,_⟩ := idx t
  blk_ext [iblk, e]

theorem blk2 (c : Dev nD) (t : Fin cfg0.N) (n : Fin 1152) :
    (iblk m c 2 t : S1x1x1152.Idx → EReal) (ix3 0 0 n)
      = (V m c main_v0 : S4x1x9216.Idx → EReal) (ix3 ⟨t.val / 8, by have : t.val < 32 := t.isLt; omega⟩ 0 ⟨t.val % 8 * 1152 + n.val, by omega⟩) := by
  obtain ⟨_,_,e,_⟩ := idx t
  blk_ext [iblk, e]

/-- The modulation's array. -/
theorem final3 (c : Dev nD) : (dats m 0 c).arrAt 3 cfg0.N = adaS (a0 m c) (a1 m c) (a2 m c) := by
  refine (dats m 0 c).arrAt_eq_of_covers 3 _ (by decide +kernel) fun t _ y => ?_
  blk_simp
  rw [after0_3]
  obtain ⟨_,_,_,e⟩ := idx t
  have y0 : (y 0).val < 1 := (y 0).isLt
  have y1 : (y 1).val < 16 := (y 1).isLt
  have y2 : (y 2).val < 1152 := (y 2).isLt
  have ht : t.val < 32 := t.isLt
  have hy : (win0_3.blk t).view.emb y = ix3 (⟨t.val / 8, by omega⟩ : Fin 4) (⟨(y 1).val, y1⟩ : Fin 16) (⟨t.val % 8 * 1152 + (y 2).val, by omega⟩ : Fin 9216) := by
    blk_ext [e]
    all_goals omega
  have hz : y = ix3 (0 : Fin 1) (⟨(y 1).val, y1⟩ : Fin 16) (⟨(y 2).val, y2⟩ : Fin 1152) := by
    funext a
    fin_cases a
    · exact Fin.ext (by show (y 0).val = 0; omega)
    · rfl
    · rfl
  rw [hy, adaS_apply]
  refine (block _ _ _ y _ _ hz).trans ?_
  refine congrArg₂ (· + ·) (Finset.sum_congr rfl fun k _ => ?_) ?_
  · have e0 := (blk0 m c t ⟨(y 1).val, y1⟩ k).trans (congrFun (V_main_arg0 m c) _)
    have e1 := (blk1 m c t k ⟨(y 2).val, y2⟩).trans (congrFun (V_main_arg1 m c) _)
    exact congrArg₂ (fun a b => a * Cert.Layer.sig a * b) e0 e1
  · exact (blk2 m c t ⟨(y 2).val, y2⟩).trans (v0 m c _ _)

end Cert.AdaIdeal.Arrays

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.AttnIdeal.Value
public import proofs.«01_k».proof.Proof.Gen.FfnIdeal.Value
public import proofs.«01_k».proof.Proof.Gen.MergeIdeal.Value
public import proofs.«01_k».proof.Proof.Gen.AttnRefIdeal.Run
public import proofs.«01_k».proof.Proof.Gen.FfnRefIdeal.Run
public import proofs.«01_k».proof.Proof.Gen.MergeRefIdeal.Run
public import proofs.«01_k».proof.Proof.Gen.FfnPrompt
public import proofs.«01_k».proof.Proof.Gen.Proj
public import proofs.«01_k».proof.Proof.Gen.FfnPrompt.Skeleton
public import proofs.«01_k».proof.Proof.Gen.Proj.Skeleton
public import proofs.«01_k».proof.Proof.Gen.FfnPrompt.Launch
public import proofs.«01_k».proof.Proof.Gen.Proj.Launch
public import proofs.«01_k».proof.Proof.Gen.FfnPrompt.Points
public import proofs.«01_k».proof.Proof.Gen.Proj.Points
public import proofs.«01_k».proof.Proof.Gen.FfnPrompt.Frame
public import proofs.«01_k».proof.Proof.Gen.Proj.Frame
public import proofs.«01_k».proof.Proof.Gen.FfnPromptIdeal
public import proofs.«01_k».proof.Proof.Gen.ProjIdeal
public import proofs.«01_k».proof.Proof.Gen.FfnPromptIdeal.Skeleton
public import proofs.«01_k».proof.Proof.Gen.ProjIdeal.Skeleton
public import proofs.«01_k».proof.Proof.Gen.FfnPromptIdeal.Launch
public import proofs.«01_k».proof.Proof.Gen.ProjIdeal.Launch
public import proofs.«01_k».proof.Proof.Gen.FfnPromptIdeal.Points
public import proofs.«01_k».proof.Proof.Gen.ProjIdeal.Points
public import proofs.«01_k».proof.Proof.Gen.FfnPromptIdeal.Frame
public import proofs.«01_k».proof.Proof.Gen.ProjIdeal.Frame
public import proofs.«01_k».proof.Proof.Gen.FfnPromptRefIdeal
public import proofs.«01_k».proof.Proof.Gen.ProjRefIdeal
public import proofs.«01_k».proof.Proof.Gen.FfnPromptIdeal.Value
public import proofs.«01_k».proof.Proof.Gen.ProjIdeal.Value
public import proofs.«01_k».proof.Proof.Gen.FfnPromptRefIdeal.Run
public import proofs.«01_k».proof.Proof.Gen.ProjRefIdeal.Run
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.GqaIdeal.Value
public import proofs.«01_k».proof.Proof.Gen.GqaRefIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaIdeal.Value
public import proofs.«01_k».proof.Proof.Gen.AdaRefIdeal.Run
public import proofs.«01_k».proof.Proof.AttnFinal
public import proofs.«01_k».proof.Proof.FfnFinal
public import proofs.«01_k».proof.Proof.MergeFinal
public import proofs.«01_k».proof.Proof.FfnPromptFinal
public import proofs.«01_k».proof.Proof.ProjFinal
public import proofs.«01_k».proof.Proof.GqaFinal
public import proofs.«01_k».proof.Proof.AdaFinal
public import Idealize.ShloMosaic.Adequacy
public import Idealize.ShloMosaic.Init

@[expose] public section

noncomputable section

namespace Cert.Proof

open Idealize.ShloMosaic Idealize.SL.Sem Cert.Attn

/-- The shape facts of the condition on queries and keys. -/
theorem facts_finite : Cert.Pre_finite_scores.Facts where
  bcast_S_S4096x512 := by decide
  bcast_S_S4096x128 := by decide

/-- The attention kernel's two results are its reference's, at finite queries and keys. -/
theorem attn : Cert.algebraic_AttnIdeal_AttnRefIdeal_pre_finite_scores (hPre_finite_scores := facts_finite) := by
  haveI := facts_finite
  pair_intro
  · run_from Cert.AttnIdeal.Gen.run_main m g
  · run_from Cert.AttnRefIdeal.Value.run m' g'
    · exact (Cert.AttnIdeal.Arrays.final6 m c (Cert.AttnIdeal.Arrays.real_arg0 m hpre c) (Cert.AttnIdeal.Arrays.real_arg1 m hpre c)).symm
    · exact (Cert.AttnIdeal.Arrays.final7 m c (Cert.AttnIdeal.Arrays.real_arg3 m hpre c) (Cert.AttnIdeal.Arrays.real_arg4 m hpre c)).symm

/-- The feed-forward kernel's result is its reference's. -/
theorem ffn : Cert.algebraic_FfnIdeal_FfnRefIdeal := by
  pair_intro
  · run_from Cert.FfnIdeal.Gen.run_main m g
  · run_from Cert.FfnRefIdeal.Value.run m' g'
    refine (Cert.FfnRefIdeal.Rows.run_eq m' c).trans ?_
    refine Eq.trans ?_ (Cert.FfnIdeal.Arrays.final5 m c).symm
    obtain ⟨h0, h1, h2, h3, h4⟩ := hagree c
    rw [h0, h1, h2, h3, h4]

/-- The merge kernel's result is its reference's. -/
theorem merge : Cert.algebraic_MergeIdeal_MergeRefIdeal := by
  pair_intro
  · run_from Cert.MergeIdeal.Gen.run_main m g
  · run_from Cert.MergeRefIdeal.Value.run m' g'
    refine (Cert.MergeRefIdeal.Rows.run_eq m' c).trans ?_
    refine Eq.trans ?_ (Cert.MergeIdeal.Arrays.final10 m c).symm
    obtain ⟨h0, h1, h2, h3, h4, h5, h6, h7, h8, h9⟩ := hagree c
    rw [h0, h1, h2, h3, h4, h5, h6, h7, h8, h9]

/-- The prompt feed-forward kernel's result is its reference's. -/
theorem ffnPrompt : Cert.algebraic_FfnPromptIdeal_FfnPromptRefIdeal := by
  pair_intro
  · run_from Cert.FfnPromptIdeal.Gen.run_main m g
  · run_from Cert.FfnPromptRefIdeal.Value.run m' g'
    refine (Cert.FfnPromptRefIdeal.Rows.run_eq m' c).trans ?_
    refine Eq.trans ?_ (Cert.FfnPromptIdeal.Arrays.final5 m c).symm
    obtain ⟨h0, h1, h2, h3, h4⟩ := hagree c
    rw [h0, h1, h2, h3, h4]

/-- The shape facts of the condition on the projection's modulation and weights. -/
theorem facts_rows : Cert.Pre_finite_rows.Facts where
  bcast_S_S1x9x1024 := by decide
  bcast_S_S6x1024 := by decide
  bcast_S_S1024x7936 := by decide

set_option maxHeartbeats 1600000 in
open Cert.ProjIdeal.Arrays Cert.ProjRefIdeal.Rows in
/-- The input projection kernel's eight results are its reference's, at finite modulation, gains and weights. -/
theorem proj : Cert.algebraic_ProjIdeal_ProjRefIdeal_pre_finite_rows (hPre_finite_rows := facts_rows) := by
  haveI := facts_rows
  intro m g m' g' hpre hagree
  refine ⟨fun c => naqS (ps m c), fun c => nakS (ps m c), fun c => navS (ps m c), fun c => flatS (uS (gluS (ps m c))),
    fun c => gqS (normQS (headQS (ps m c)) (a4 m c)), fun c => gkS (normKS (headKS (ps m c)) (a5 m c)),
    fun c => gvS (ps m c), fun c => lruS (ps m c), ?_, ?_⟩
  · refine θ_run_mono (θ_run_and (Cert.ProjIdeal.Gen.run_main m g) (Cert.ProjIdeal.Gen.unchanged m g)) fun r h c => ?_
    exact ⟨((h.1 c).1 8).trans (final8 m c), ((h.1 c).1 9).trans (final9 m c), ((h.1 c).1 10).trans (final10 m c),
      ((h.1 c).1 11).trans (final11 m c), ((h.1 c).1 12).trans (final12 m hpre c), ((h.1 c).1 13).trans (final13 m hpre c),
      ((h.1 c).1 14).trans (final14 m c), ((h.1 c).1 15).trans (final15 m c), h.2 c⟩
  · refine θ_run_mono (Cert.ProjRefIdeal.Value.run m' g') fun r h c => ?_
    obtain ⟨h0, h1, h2, h3, h4, h5⟩ := hagree c
    have ha : argsS m' c = ps m c := by
      show projS _ _ _ _ = _
      rw [h0, h1, h2, h3]
    obtain ⟨e0, e1, e2, e3, e4, e5, e6, e7, e⟩ := h c
    refine ⟨e0.trans ?_, e1.trans ?_, e2.trans ?_, (e3.trans (run_u m' c)).trans ?_, (e4.trans (run_gq m' c)).trans ?_,
      (e5.trans (run_gk m' c)).trans ?_, e6.trans ?_, e7.trans ?_, e⟩
    · show naqS (argsS m' c) = _
      rw [ha]
    · show nakS (argsS m' c) = _
      rw [ha]
    · show navS (argsS m' c) = _
      rw [ha]
    · rw [ha]
    · rw [ha, h4]
    · rw [ha, h5]
    · show gvS (argsS m' c) = _
      rw [ha]
    · show lruS (argsS m' c) = _
      rw [ha]

/-- The shape facts of the condition on the sample sequences' queries and keys. -/
theorem facts_latent : Cert.Pre_finite_latent.Facts where
  slices_S8x4x512x2x64_S8x1x512x2x64_0_0_0_0_0 := by decide
  shapeCasts_S8x1x512x2x64_S8x512x2x64 := by decide
  bcast_S_S8192x512 := by decide
  bcast_S_S8192x128 := by decide
  bcast_S_S8x512x2x64 := by decide

/-- The sample sequences' grouped-query attention kernel's result is its reference's, at finite queries and keys. -/
theorem gqa : Cert.algebraic_GqaIdeal_GqaRefIdeal_pre_finite_latent (hPre_finite_latent := facts_latent) := by
  haveI := facts_latent
  pair_intro
  · run_from Cert.GqaIdeal.Gen.run_main m g
  · run_from Cert.GqaRefIdeal.Value.run m' g'
    refine (Cert.GqaRefIdeal.Rows.run_eq m' c).trans ?_
    refine Eq.trans ?_ (Cert.GqaIdeal.Arrays.final5 m hpre c).symm
    obtain ⟨h0, h1, h2, h3, h4⟩ := hagree c
    rw [h0, h1, h2, h3, h4]

/-- The modulation kernel's result is its reference's. -/
theorem ada : Cert.algebraic_AdaIdeal_AdaRefIdeal := by
  pair_intro
  · run_from Cert.AdaIdeal.Gen.run_main m g
  · run_from Cert.AdaRefIdeal.Value.run m' g'
    exact (Cert.AdaIdeal.Arrays.final3 m c).symm

/-- The references leave their arguments as they were, and declare no semaphore. -/
theorem frame_attnRef : Cert.quiescent_AttnRefIdeal :=
  fun m ρ _ => (θ_run Cert.AttnRefIdeal.defs _ _).mono (fun r h => ⟨fun c => (h c).2.2, sem_eq_zero_of_no_sems (by decide) r.2⟩)
    (Cert.AttnRefIdeal.Value.run (F := Ideal) m ρ)

theorem frame_attnRef_pre : Cert.quiescent_AttnRefIdeal_pre_finite_scores (hPre_finite_scores := facts_finite) :=
  fun m ρ _ => (θ_run Cert.AttnRefIdeal.defs _ _).mono (fun r h => ⟨fun c => (h c).2.2, sem_eq_zero_of_no_sems (by decide) r.2⟩)
    (Cert.AttnRefIdeal.Value.run (F := Ideal) m ρ)

theorem frame_ffnRef : Cert.quiescent_FfnRefIdeal :=
  fun m ρ _ => (θ_run Cert.FfnRefIdeal.defs _ _).mono (fun r h => ⟨fun c => (h c).2, sem_eq_zero_of_no_sems (by decide) r.2⟩)
    (Cert.FfnRefIdeal.Value.run (F := Ideal) m ρ)

theorem frame_mergeRef : Cert.quiescent_MergeRefIdeal :=
  fun m ρ _ => (θ_run Cert.MergeRefIdeal.defs _ _).mono (fun r h => ⟨fun c => (h c).2, sem_eq_zero_of_no_sems (by decide) r.2⟩)
    (Cert.MergeRefIdeal.Value.run (F := Ideal) m ρ)

theorem frame_ffnPromptRef : Cert.quiescent_FfnPromptRefIdeal :=
  fun m ρ _ => (θ_run Cert.FfnPromptRefIdeal.defs _ _).mono (fun r h => ⟨fun c => (h c).2, sem_eq_zero_of_no_sems (by decide) r.2⟩)
    (Cert.FfnPromptRefIdeal.Value.run (F := Ideal) m ρ)

theorem frame_projRef : Cert.quiescent_ProjRefIdeal :=
  fun m ρ _ => (θ_run Cert.ProjRefIdeal.defs _ _).mono (fun r h => ⟨fun c => (h c).2.2.2.2.2.2.2.2, sem_eq_zero_of_no_sems (by decide) r.2⟩)
    (Cert.ProjRefIdeal.Value.run (F := Ideal) m ρ)

theorem frame_projRef_pre : Cert.quiescent_ProjRefIdeal_pre_finite_rows (hPre_finite_rows := facts_rows) :=
  fun m ρ _ => frame_projRef m ρ trivial

theorem frame_gqaRef : Cert.quiescent_GqaRefIdeal :=
  fun m ρ _ => (θ_run Cert.GqaRefIdeal.defs _ _).mono (fun r h => ⟨fun c => (h c).2, sem_eq_zero_of_no_sems (by decide) r.2⟩)
    (Cert.GqaRefIdeal.Value.run (F := Ideal) m ρ)

theorem frame_gqaRef_pre : Cert.quiescent_GqaRefIdeal_pre_finite_latent (hPre_finite_latent := facts_latent) :=
  fun m ρ _ => frame_gqaRef m ρ trivial

theorem frame_adaRef : Cert.quiescent_AdaRefIdeal :=
  fun m ρ _ => (θ_run Cert.AdaRefIdeal.defs _ _).mono (fun r h => ⟨fun c => (h c).2, sem_eq_zero_of_no_sems (by decide) r.2⟩)
    (Cert.AdaRefIdeal.Value.run (F := Ideal) m ρ)

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.FfnPrompt.Gen.facts, Cert.FfnPromptIdeal.Gen.facts, Cert.FfnPromptRefIdeal.Gen.facts, Cert.Proj.Gen.facts, Cert.ProjIdeal.Gen.facts, Cert.ProjRefIdeal.Gen.facts, Cert.Gqa.Gen.facts, Cert.GqaIdeal.Gen.facts, Cert.GqaRefIdeal.Gen.facts, Cert.Ada.Gen.facts, Cert.AdaIdeal.Gen.facts, Cert.AdaRefIdeal.Gen.facts, facts_finite, facts_rows, facts_latent, by
  refine ⟨fun m ρ _ => Cert.Attn.Gen.frame m ρ, fun m ρ _ => Cert.AttnIdeal.Gen.frame m ρ, fun m ρ _ => Cert.AttnIdeal.Gen.frame m ρ,
    frame_attnRef, frame_attnRef_pre, fun m ρ _ => Cert.Ffn.Gen.frame m ρ, fun m ρ _ => Cert.FfnIdeal.Gen.frame m ρ,
    frame_ffnRef, fun m ρ _ => Cert.Merge.Gen.frame m ρ, fun m ρ _ => Cert.MergeIdeal.Gen.frame m ρ, frame_mergeRef,
    fun m ρ _ => Cert.FfnPrompt.Gen.frame m ρ, fun m ρ _ => Cert.FfnPromptIdeal.Gen.frame m ρ, frame_ffnPromptRef,
    fun m ρ _ => Cert.Proj.Gen.frame m ρ, fun m ρ _ => Cert.ProjIdeal.Gen.frame m ρ, fun m ρ _ => Cert.ProjIdeal.Gen.frame m ρ,
    frame_projRef, frame_projRef_pre,
    fun m ρ _ => Cert.Gqa.Gen.frame m ρ, fun m ρ _ => Cert.GqaIdeal.Gen.frame m ρ, fun m ρ _ => Cert.GqaIdeal.Gen.frame m ρ,
    frame_gqaRef, frame_gqaRef_pre,
    fun m ρ _ => Cert.Ada.Gen.frame m ρ, fun m ρ _ => Cert.AdaIdeal.Gen.frame m ρ, frame_adaRef,
    trivial, attn, trivial, ffn, trivial, merge, trivial, ffnPrompt, trivial, proj, trivial, gqa, trivial, ada⟩⟩

end Cert.Proof

end
